-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_decays [hPre_finite_decays : Cert.Pre_finite_decays.Facts] (m : (ℓ : Loc Cert.KernelIdeal.nD Cert.KernelIdeal.τ Cert.KernelIdeal.sig) → Buf (Elt Ideal) ℓ) : Prop :=
  ∀ c : Dev Cert.KernelIdeal.nD,
    (Cert.Pre_finite_decays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_decays [hPre_finite_decays : Cert.Pre_finite_decays.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_decays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_decays [hKernelIdeal : Cert.KernelIdeal.Facts] [hPre_finite_decays : Cert.Pre_finite_decays.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_decays m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_decays [hReferenceIdeal : Cert.ReferenceIdeal.Facts] [hPre_finite_decays : Cert.Pre_finite_decays.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_decays m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite_decays [hKernelIdeal : Cert.KernelIdeal.Facts] [hReferenceIdeal : Cert.ReferenceIdeal.Facts] [hPre_finite_decays : Cert.Pre_finite_decays.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_decays m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v20)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v84) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v33)) (v1 : (c : Dev Cert.Kernel3Ideal.nD) → Buf (Elt Ideal) ((c.tc : Thread Cert.Kernel3Ideal.nD Cert.Kernel3Ideal.τ).loc Cert.Kernel3Ideal.main_v35)) (v2 : (c : Dev Cert.Kernel3Ideal.nD) → Buf (Elt Ideal) ((c.tc : Thread Cert.Kernel3Ideal.nD Cert.Kernel3Ideal.τ).loc Cert.Kernel3Ideal.main_v37)) (v3 : (c : Dev Cert.Kernel3Ideal.nD) → Buf (Elt Ideal) ((c.tc : Thread Cert.Kernel3Ideal.nD Cert.Kernel3Ideal.τ).loc Cert.Kernel3Ideal.main_v39)) (v4 : (c : Dev Cert.Kernel3Ideal.nD) → Buf (Elt Ideal) ((c.tc : Thread Cert.Kernel3Ideal.nD Cert.Kernel3Ideal.τ).loc Cert.Kernel3Ideal.main_v41)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v33) = v0 c
          ∧ r.2.mem ((c.tc : Thread Cert.Kernel3Ideal.nD Cert.Kernel3Ideal.τ).loc Cert.Kernel3Ideal.main_v35) = v1 c
          ∧ r.2.mem ((c.tc : Thread Cert.Kernel3Ideal.nD Cert.Kernel3Ideal.τ).loc Cert.Kernel3Ideal.main_v37) = v2 c
          ∧ r.2.mem ((c.tc : Thread Cert.Kernel3Ideal.nD Cert.Kernel3Ideal.τ).loc Cert.Kernel3Ideal.main_v39) = v3 c
          ∧ r.2.mem ((c.tc : Thread Cert.Kernel3Ideal.nD Cert.Kernel3Ideal.τ).loc Cert.Kernel3Ideal.main_v41) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_v49) = v1 c
          ∧ r.2.mem ((c.tc : Thread Cert.Reference3Ideal.nD Cert.Reference3Ideal.τ).loc Cert.Reference3Ideal.main_v50) = v2 c
          ∧ r.2.mem ((c.tc : Thread Cert.Reference3Ideal.nD Cert.Reference3Ideal.τ).loc Cert.Reference3Ideal.main_v17) = v3 c
          ∧ r.2.mem ((c.tc : Thread Cert.Reference3Ideal.nD Cert.Reference3Ideal.τ).loc Cert.Reference3Ideal.main_v18) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_decays : Cert.Pre_finite_decays.Facts),
    quiescent_Kernel (hKernel := hKernel)
    ∧ quiescent_KernelIdeal (hKernelIdeal := hKernelIdeal)
    ∧ quiescent_KernelIdeal_pre_finite_decays (hKernelIdeal := hKernelIdeal) (hPre_finite_decays := hPre_finite_decays)
    ∧ quiescent_ReferenceIdeal (hReferenceIdeal := hReferenceIdeal)
    ∧ quiescent_ReferenceIdeal_pre_finite_decays (hReferenceIdeal := hReferenceIdeal) (hPre_finite_decays := hPre_finite_decays)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_decays (hKernelIdeal := hKernelIdeal) (hReferenceIdeal := hReferenceIdeal) (hPre_finite_decays := hPre_finite_decays)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_decays.lean ====
abbrev S8x8192x1408 : Shape := ⟨3, ![8, 8192, 1408]⟩
abbrev S4x1280 : Shape := ⟨2, ![4, 1280]⟩
abbrev S1280 : Shape := ⟨1, ![1280]⟩
abbrev S12 : Shape := ⟨1, ![12]⟩
abbrev S8x8192x12 : Shape := ⟨3, ![8, 8192, 12]⟩
abbrev S_ : Shape := ⟨0, ![]⟩

class Facts : Prop where
  slices_S8x8192x1408_S8x8192x12_0_0_1280 : S8x8192x1408.Slices ![0, 0, 1280] S8x8192x12
  bcast_S_S8x8192x12 : S_.BroadcastsInDim S8x8192x12 (![] : Fin 0 → Fin S8x8192x12.rank)
  reducesTo_S8x8192x12_S_d0_1_2 : S8x8192x12.ReducesTo [0, 1, 2] S_
  h_S_ : 0 < S_.numel
  bcast_S_S12 : S_.BroadcastsInDim S12 (![] : Fin 0 → Fin S12.rank)
  reducesTo_S12_S_d0 : S12.ReducesTo [0] S_

variable [Facts]

def fn {F : FTy → Type} [FloatOps F] (main_arg0 : FVec F S8x8192x1408 .f32) (main_arg1 : FVec F S4x1280 .f32) (main_arg2 : FVec F S1280 .f32) (main_arg3 : FVec F S12 .f32) (main_arg4 : FVec F S12 .f32) (main_arg5 : FVec F S12 .f32) : IVec S_ 1 :=
  let main_v0 : FVec F S8x8192x12 .f32 := (extractStridedSlice S8x8192x12 ![0, 0, 1280] · slices_S8x8192x1408_S8x8192x12_0_0_1280) main_arg0
  let main_v1 : FVec F S8x8192x12 .f32 := Host.absf main_v0
  let main_cst : FVec F S_ .f32 := constant S_ .f32 0x7F800000#32
  let main_v2 : FVec F S8x8192x12 .f32 := broadcastInDim S8x8192x12 ![] bcast_S_S8x8192x12 main_cst
  let main_v3 : IVec S8x8192x12 1 := cmpf .olt main_v1 main_v2
  let main_c : IVec S_ 1 := constantI S_ 1 1#1
  let main_v4 : IVec S_ 1 := (fun x v => Host.reduce IntOp.andi x v reducesTo_S8x8192x12_S_d0_1_2 h_S_) main_v3 main_c
  let main_v5 : FVec F S12 .f32 := Host.absf main_arg3
  let main_cst_0 : FVec F S_ .f32 := constant S_ .f32 0x7F800000#32
  let main_v6 : FVec F S12 .f32 := broadcastInDim S12 ![] bcast_S_S12 main_cst_0
  let main_v7 : IVec S12 1 := cmpf .olt main_v5 main_v6
  let main_c_1 : IVec S_ 1 := constantI S_ 1 1#1
  let main_v8 : IVec S_ 1 := (fun x v => Host.reduce IntOp.andi x v reducesTo_S12_S_d0 h_S_) main_v7 main_c_1
  let main_v9 : IVec S_ 1 := andi main_v4 main_v8
  let main_v10 : FVec F S12 .f32 := Host.absf main_arg4
  let main_cst_2 : FVec F S_ .f32 := constant S_ .f32 0x7F800000#32
  let main_v11 : FVec F S12 .f32 := broadcastInDim S12 ![] bcast_S_S12 main_cst_2
  let main_v12 : IVec S12 1 := cmpf .olt main_v10 main_v11
  let main_c_3 : IVec S_ 1 := constantI S_ 1 1#1
  let main_v13 : IVec S_ 1 := (fun x v => Host.reduce IntOp.andi x v reducesTo_S12_S_d0 h_S_) main_v12 main_c_3
  let main_v14 : IVec S_ 1 := andi main_v9 main_v13
  main_v14
-- ==== Kernel.lean ====
abbrev S8x8192x1408 : Shape := ⟨3, ![8, 8192, 1408]⟩
abbrev S4x1280 : Shape := ⟨2, ![4, 1280]⟩
abbrev S1280 : Shape := ⟨1, ![1280]⟩
abbrev S12 : Shape := ⟨1, ![12]⟩
abbrev S128x128 : Shape := ⟨2, ![128, 128]⟩
abbrev S12x64 : Shape := ⟨2, ![12, 64]⟩
abbrev S768 : Shape := ⟨1, ![768]⟩
abbrev S1x768 : Shape := ⟨2, ![1, 768]⟩
abbrev S1x1280 : Shape := ⟨2, ![1, 1280]⟩
abbrev S_ : Shape := ⟨0, ![]⟩
abbrev S128 : Shape := ⟨1, ![128]⟩
abbrev S1x128 : Shape := ⟨2, ![1, 128]⟩
abbrev S8x8192x768 : Shape := ⟨3, ![8, 8192, 768]⟩
abbrev S1x512x1408 : Shape := ⟨3, ![1, 512, 1408]⟩
abbrev S1x512x768 : Shape := ⟨3, ![1, 512, 768]⟩
abbrev S136x1280 : Shape := ⟨2, ![136, 1280]⟩
abbrev S6x128x128 : Shape := ⟨3, ![6, 128, 128]⟩
abbrev S8x1280 : Shape := ⟨2, ![8, 1280]⟩
abbrev S1x128x1280 : Shape := ⟨3, ![1, 128, 1280]⟩
abbrev S128x1280 : Shape := ⟨2, ![128, 1280]⟩
abbrev S1x128x128 : Shape := ⟨3, ![1, 128, 128]⟩
abbrev S16x1 : Shape := ⟨2, ![16, 1]⟩
abbrev S16x128 : Shape := ⟨2, ![16, 128]⟩
abbrev S128x1 : Shape := ⟨2, ![128, 1]⟩
abbrev S1x1 : Shape := ⟨2, ![1, 1]⟩

abbrev nBuf : Space → Nat
  | .hbm => 20
  | .vmem => 12
  | .smem => 0
  | _ => 0

abbrev bufTy : (tb : Table) → Fin (tcTables nBuf tb) → BufTy
  | .hbm, ⟨0, _⟩ => ⟨S8x8192x1408, .f32⟩
  | .hbm, ⟨1, _⟩ => ⟨S4x1280, .f32⟩
  | .hbm, ⟨2, _⟩ => ⟨S1280, .f32⟩
  | .hbm, ⟨3, _⟩ => ⟨S12, .f32⟩
  | .hbm, ⟨4, _⟩ => ⟨S12, .f32⟩
  | .hbm, ⟨5, _⟩ => ⟨S12, .f32⟩
  | .hbm, ⟨6, _⟩ => ⟨S128x128, .f32⟩
  | .hbm, ⟨7, _⟩ => ⟨S12x64, .f32⟩
  | .hbm, ⟨8, _⟩ => ⟨S768, .f32⟩
  | .hbm, ⟨9, _⟩ => ⟨S1x768, .f32⟩
  | .hbm, ⟨10, _⟩ => ⟨S1x1280, .f32⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S8x8192x768, .f32⟩
  | .local _ .vmem, ⟨0, _⟩ => ⟨S1x512x1408, .f32⟩
  | .local _ .vmem, ⟨1, _⟩ => ⟨S1x512x1408, .f32⟩
  | .local _ .vmem, ⟨2, _⟩ => ⟨S4x1280, .f32⟩
  | .local _ .vmem, ⟨3, _⟩ => ⟨S1x1280, .f32⟩
  | .local _ .vmem, ⟨4, _⟩ => ⟨S1x128, .f32⟩
  | .local _ .vmem, ⟨5, _⟩ => ⟨S1x128, .f32⟩
  | .local _ .vmem, ⟨6, _⟩ => ⟨S1x768, .f32⟩
  | .local _ .vmem, ⟨7, _⟩ => ⟨S128x128, .f32⟩
  | .local _ .vmem, ⟨8, _⟩ => ⟨S1x512x768, .f32⟩
  | .local _ .vmem, ⟨9, _⟩ => ⟨S1x512x768, .f32⟩
  | .local _ .vmem, ⟨10, _⟩ => ⟨S136x1280, .f32⟩
  | .local _ .vmem, ⟨11, _⟩ => ⟨S6x128x128, .f32⟩
  | _, _ => ⟨S8x8192x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg12 : BitVec 32 := Scf.iv c0_i32_1 c1_i32 k0_t1
  let c128_i32 : BitVec 32 := 128#32
  let v4 : BitVec 32 := Scalar.muli arg12 c128_i32
  v4
def k0_off1 (k0_t1 : Fin k0_t1_loop.trips) : Fin 3 → Nat :=
  let c0 : Index := 0#32
  let c0_i32_1 : BitVec 32 := 0#32
  let c1_i32 : BitVec 32 := 1#32
  let arg12 : BitVec 32 := Scf.iv c0_i32_1 c1_i32 k0_t1
  let c128_i32 : BitVec 32 := 128#32
  let v4 : BitVec 32 := Scalar.muli arg12 c128_i32
  let v5 : BitVec 32 := v4
  let v6 : Index := Scalar.indexCast v5
  let c0_3 : Index := 0#32
  ![0, v6.toNat, 0]
def k0_off2 (k0_t1 : Fin k0_t1_loop.trips) : Fin 3 → Nat :=
  let c0_19 : Index := 0#32
  let c0_i32_1 : BitVec 32 := 0#32
  let c1_i32 : BitVec 32 := 1#32
  let arg12 : BitVec 32 := Scf.iv c0_i32_1 c1_i32 k0_t1
  let c128_i32 : BitVec 32 := 128#32
  let v4 : BitVec 32 := Scalar.muli arg12 c128_i32
  let v5 : BitVec 32 := v4
  let v52 : Index := Scalar.indexCast v5
  let c1280 : Index := 1280#32
  ![0, v52.toNat, 1280]
def k0_off3 (k0_t1 : Fin k0_t1_loop.trips) : Fin 3 → Nat :=
  let c0_47 : Index := 0#32
  let c0_i32_1 : BitVec 32 := 0#32
  let c1_i32 : BitVec 32 := 1#32
  let arg12 : BitVec 32 := Scf.iv c0_i32_1 c1_i32 k0_t1
  let c128_i32 : BitVec 32 := 128#32
  let v4 : BitVec 32 := Scalar.muli arg12 c128_i32
  let v5 : BitVec 32 := v4
  let v172 : Index := Scalar.indexCast v5
  let c0_48 : Index := 0#32
  ![0, v172.toNat, 0]
def k0_off4 (k0_t1 : Fin k0_t1_loop.trips) : Fin 3 → Nat :=
  let c0_65 : Index := 0#32
  let c0_i32_1 : BitVec 32 := 0#32
  let c1_i32 : BitVec 32 := 1#32
  let arg12 : BitVec 32 := Scf.iv c0_i32_1 c1_i32 k0_t1
  let c128_i32 : BitVec 32 := 128#32
  let v4 : BitVec 32 := Scalar.muli arg12 c128_i32
  let v5 : BitVec 32 := v4
  let v254 : Index := Scalar.indexCast v5
  let c128_66 : Index := 128#32
  ![0, v254.toNat, 128]
def k0_off5 (k0_t1 : Fin k0_t1_loop.trips) : Fin 3 → Nat :=
  let c0_83 : Index := 0#32
  let c0_i32_1 : BitVec 32 := 0#32
  let c1_i32 : BitVec 32 := 1#32
  let arg12 : BitVec 32 := Scf.iv c0_i32_1 c1_i32 k0_t1
  let c128_i32 : BitVec 32 := 128#32
  let v4 : BitVec 32 := Scalar.muli arg12 c128_i32
  let v5 : BitVec 32 := v4
  let v336 : Index := Scalar.indexCast v5
  let c256_84 : Index := 256#32
  ![0, v336.toNat, 256]
def k0_off6 (k0_t1 : Fin k0_t1_loop.trips) : Fin 3 → Nat :=
  let c0_102 : Index := 0#32
  let c0_i32_1 : BitVec 32 := 0#32
  let c1_i32 : BitVec 32 := 1#32
  let arg12 : BitVec 32 := Scf.iv c0_i32_1 c1_i32 k0_t1
  let c128_i32 : BitVec 32 := 128#32
  let v4 : BitVec 32 := Scalar.muli arg12 c128_i32
  let v5 : BitVec 32 := v4
  let v424 : Index := Scalar.indexCast v5
  let c384_103 : Index := 384#32
  ![0, v424.toNat, 384]
def k0_off7 (k0_t1 : Fin k0_t1_loop.trips) : Fin 3 → Nat :=
  let c0_119 : Index := 0#32
  let c0_i32_1 : BitVec 32 := 0#32
  let c1_i32 : BitVec 32 := 1#32
  let arg12 : BitVec 32 := Scf.iv c0_i32_1 c1_i32 k0_t1
  let c128_i32 : BitVec 32 := 128#32
  let v4 : BitVec 32 := Scalar.muli arg12 c128_i32
  let v5 : BitVec 32 := v4
  let v506 : Index := Scalar.indexCast v5
  let c512_120 : Index := 512#32
  ![0, v506.toNat, 512]
def k0_off8 (k0_t1 : Fin k0_t1_loop.trips) : Fin 3 → Nat :=
  let c0_136 : Index := 0#32
  let c0_i32_1 : BitVec 32 := 0#32
  let c1_i32 : BitVec 32 := 1#32
  let arg12 : BitVec 32 := Scf.iv c0_i32_1 c1_i32 k0_t1
  let c128_i32 : BitVec 32 := 128#32
  let v4 : BitVec 32 := Scalar.muli arg12 c128_i32
  let v5 : BitVec 32 := v4
  let v588 : Index := Scalar.indexCast v5
  let c640_137 : Index := 640#32
  ![0, v588.toNat, 640]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8x8192x1408 : Shape := ⟨3, ![8, 8192, 1408]⟩
abbrev S4x1280 : Shape := ⟨2, ![4, 1280]⟩
abbrev S1280 : Shape := ⟨1, ![1280]⟩
abbrev S12 : Shape := ⟨1, ![12]⟩
abbrev S8x8192x1280 : Shape := ⟨3, ![8, 8192, 1280]⟩
abbrev S8x8192x12 : Shape := ⟨3, ![8, 8192, 12]⟩
abbrev S_ : Shape := ⟨0, ![]⟩
abbrev S8x8195x1280 : Shape := ⟨3, ![8, 8195, 1280]⟩
abbrev S1x1280 : Shape := ⟨2, ![1, 1280]⟩
abbrev S1x1x1280 : Shape := ⟨3, ![1, 1, 1280]⟩
abbrev S8x8192x768 : Shape := ⟨3, ![8, 8192, 768]⟩
abbrev S8x64x128x2x6x64 : Shape := ⟨6, ![8, 64, 128, 2, 6, 64]⟩
abbrev S8x8192x256 : Shape := ⟨3, ![8, 8192, 256]⟩
abbrev S8x64x128x2x128 : Shape := ⟨5, ![8, 64, 128, 2, 128]⟩
abbrev S1x1x12 : Shape := ⟨3, ![1, 1, 12]⟩
abbrev S8x64x128x2x6 : Shape := ⟨5, ![8, 64, 128, 2, 6]⟩
abbrev S2x6 : Shape := ⟨2, ![2, 6]⟩
abbrev S1x1x1x2x6 : Shape := ⟨5, ![1, 1, 1, 2, 6]⟩
abbrev S8x2x6x64x128 : Shape := ⟨5, ![8, 2, 6, 64, 128]⟩
abbrev S8x64x128x2x6x1 : Shape := ⟨6, ![8, 64, 128, 2, 6, 1]⟩
abbrev S8x2x6x64x128x1 : Shape := ⟨6, ![8, 2, 6, 64, 128, 1]⟩
abbrev S8x2x6x64x1x128 : Shape := ⟨6, ![8, 2, 6, 64, 1, 128]⟩
abbrev S8x2x6x64x128x128 : Shape := ⟨6, ![8, 2, 6, 64, 128, 128]⟩
abbrev S128x128 : Shape := ⟨2, ![128, 128]⟩
abbrev S8x2x64x128x128 : Shape := ⟨5, ![8, 2, 64, 128, 128]⟩
abbrev S8x2x1x64x128x128 : Shape := ⟨6, ![8, 2, 1, 64, 128, 128]⟩
abbrev S8x64x2x6x64x128 : Shape := ⟨6, ![8, 64, 2, 6, 64, 128]⟩
abbrev S8x2x6x64x1 : Shape := ⟨5, ![8, 2, 6, 64, 1]⟩
abbrev S8x1x2x6x64x128 : Shape := ⟨6, ![8, 1, 2, 6, 64, 128]⟩
abbrev S8x65x2x6x64x128 : Shape := ⟨6, ![8, 65, 2, 6, 64, 128]⟩
abbrev S8x2x6x64 : Shape := ⟨4, ![8, 2, 6, 64]⟩
abbrev S8x2x6x65 : Shape := ⟨4, ![8, 2, 6, 65]⟩
abbrev S8x2x6x65x1 : Shape := ⟨5, ![8, 2, 6, 65, 1]⟩
abbrev S8x2x6x1x65 : Shape := ⟨5, ![8, 2, 6, 1, 65]⟩
abbrev S8x2x6x65x65 : Shape := ⟨5, ![8, 2, 6, 65, 65]⟩
abbrev S65x65 : Shape := ⟨2, ![65, 65]⟩
abbrev S8x2x6x64x128x65 : Shape := ⟨6, ![8, 2, 6, 64, 128, 65]⟩
abbrev S2x6x1 : Shape := ⟨3, ![2, 6, 1]⟩
abbrev S1x1x1x2x6x1 : Shape := ⟨6, ![1, 1, 1, 2, 6, 1]⟩

abbrev nBuf : Space → Nat
  | .hbm => 179
  | .vmem => 0
  | .smem => 0
  | _ => 0

abbrev hbmTy0_0 (i : Nat) : BufTy := match i % 128 with
  | 0 => ⟨S8x8192x1408, .f32⟩
  | 1 => ⟨S4x1280, .f32⟩
  | 2 => ⟨S1280, .f32⟩
  | 3 => ⟨S12, .f32⟩
  | 4 => ⟨S12, .f32⟩
  | 5 => ⟨S12, .f32⟩
  | 6 => ⟨S8x8192x1280, .f32⟩
  | 7 => ⟨S8x8192x12, .f32⟩
  | 8 => ⟨S_, .i32⟩
  | 9 => ⟨S_, .f32⟩
  | 10 => ⟨S8x8195x1280, .f32⟩
  | 11 => ⟨S8x8192x1280, .f32⟩
  | 12 => ⟨S1x1280, .f32⟩
  | 13 => ⟨S1280, .f32⟩
  | 14 => ⟨S1x1x1280, .f32⟩
  | 15 => ⟨S8x8192x1280, .f32⟩
  | 16 => ⟨S8x8192x1280, .f32⟩
  | 17 => ⟨S8x8192x1280, .f32⟩
  | 18 => ⟨S1x1280, .f32⟩
  | 19 => ⟨S1280, .f32⟩
  | 20 => ⟨S1x1x1280, .f32⟩
  | 21 => ⟨S8x8192x1280, .f32⟩
  | 22 => ⟨S8x8192x1280, .f32⟩
  | 23 => ⟨S8x8192x1280, .f32⟩
  | 24 => ⟨S8x8192x1280, .f32⟩
  | 25 => ⟨S1x1280, .f32⟩
  | 26 => ⟨S1280, .f32⟩
  | 27 => ⟨S1x1x1280, .f32⟩
  | 28 => ⟨S8x8192x1280, .f32⟩
  | 29 => ⟨S8x8192x1280, .f32⟩
  | 30 => ⟨S8x8192x1280, .f32⟩
  | 31 => ⟨S8x8192x1280, .f32⟩
  | 32 => ⟨S1x1280, .f32⟩
  | 33 => ⟨S1280, .f32⟩
  | 34 => ⟨S1x1x1280, .f32⟩
  | 35 => ⟨S8x8192x1280, .f32⟩
  | 36 => ⟨S8x8192x1280, .f32⟩
  | 37 => ⟨S8x8192x1280, .f32⟩
  | 38 => ⟨S1x1x1280, .f32⟩
  | 39 => ⟨S8x8192x1280, .f32⟩
  | 40 => ⟨S8x8192x1280, .f32⟩
  | 41 => ⟨S8x8192x1280, .f32⟩
  | 42 => ⟨S8x8192x1280, .f32⟩
  | 43 => ⟨S_, .f32⟩
  | 44 => ⟨S8x8192x1280, .f32⟩
  | 45 => ⟨S8x8192x1280, .f32⟩
  | 46 => ⟨S_, .f32⟩
  | 47 => ⟨S8x8192x1280, .f32⟩
  | 48 => ⟨S8x8192x1280, .f32⟩
  | 49 => ⟨S8x8192x1280, .f32⟩
  | 50 => ⟨S8x8192x768, .f32⟩
  | 51 => ⟨S8x64x128x2x6x64, .f32⟩
  | 52 => ⟨S8x8192x256, .f32⟩
  | 53 => ⟨S8x64x128x2x128, .f32⟩
  | 54 => ⟨S8x8192x256, .f32⟩
  | 55 => ⟨S8x64x128x2x128, .f32⟩
  | 56 => ⟨S1x1x12, .f32⟩
  | 57 => ⟨S8x8192x12, .f32⟩
  | 58 => ⟨S8x8192x12, .f32⟩
  | 59 => ⟨S_, .f32⟩
  | 60 => ⟨S8x8192x12, .f32⟩
  | 61 => ⟨S8x8192x12, .f32⟩
  | 62 => ⟨S8x8192x12, .f32⟩
  | 63 => ⟨S8x8192x12, .f32⟩
  | 64 => ⟨S8x8192x12, .i1⟩
  | 65 => ⟨S8x8192x12, .f32⟩
  | 66 => ⟨S8x8192x12, .f32⟩
  | 67 => ⟨S8x8192x12, .f32⟩
  | 68 => ⟨S8x8192x12, .f32⟩
  | 69 => ⟨S8x8192x12, .f32⟩
  | 70 => ⟨S8x8192x12, .f32⟩
  | 71 => ⟨S8x8192x12, .f32⟩
  | 72 => ⟨S8x8192x12, .f32⟩
  | 73 => ⟨S12, .f32⟩
  | 74 => ⟨S12, .f32⟩
  | 75 => ⟨S8x64x128x2x6, .f32⟩
  | 76 => ⟨S2x6, .f32⟩
  | 77 => ⟨S1x1x1x2x6, .f32⟩
  | 78 => ⟨S8x64x128x2x6, .f32⟩
  | 79 => ⟨S8x64x128x2x6, .f32⟩
  | 80 => ⟨S8x2x6x64x128, .f32⟩
  | 81 => ⟨S8x64x128x2x6x1, .f32⟩
  | 82 => ⟨S8x64x128x2x6x64, .f32⟩
  | 83 => ⟨S8x64x128x2x6x64, .f32⟩
  | 84 => ⟨S_, .f32⟩
  | 85 => ⟨S_, .f32⟩
  | 86 => ⟨S8x2x6x64x128, .f32⟩
  | 87 => ⟨S_, .f32⟩
  | 88 => ⟨S_, .f32⟩
  | 89 => ⟨S8x2x6x64x128, .f32⟩
  | 90 => ⟨S8x2x6x64x128x1, .f32⟩
  | 91 => ⟨S8x2x6x64x1x128, .f32⟩
  | 92 => ⟨S8x2x6x64x128x128, .f32⟩
  | 93 => ⟨S8x2x6x64x128x128, .f32⟩
  | 94 => ⟨S8x2x6x64x128x128, .f32⟩
  | 95 => ⟨S_, .i1⟩
  | 96 => ⟨S128x128, .i1⟩
  | 97 => ⟨S128x128, .i32⟩
  | 98 => ⟨S_, .i32⟩
  | 99 => ⟨S128x128, .i32⟩
  | 100 => ⟨S128x128, .i32⟩
  | 101 => ⟨S128x128, .i32⟩
  | 102 => ⟨S128x128, .i1⟩
  | 103 => ⟨S_, .i1⟩
  | 104 => ⟨S128x128, .i1⟩
  | 105 => ⟨S128x128, .i1⟩
  | 106 => ⟨S_, .f32⟩
  | 107 => ⟨S_, .f32⟩
  | 108 => ⟨S8x2x6x64x128x128, .i1⟩
  | 109 => ⟨S8x2x6x64x128x128, .f32⟩
  | 110 => ⟨S8x2x6x64x128x128, .f32⟩
  | 111 => ⟨S8x2x6x64x128x128, .f32⟩
  | 112 => ⟨S8x2x64x128x128, .f32⟩
  | 113 => ⟨S8x2x1x64x128x128, .f32⟩
  | 114 => ⟨S8x2x6x64x128x128, .f32⟩
  | 115 => ⟨S8x2x6x64x128x128, .f32⟩
  | 116 => ⟨S8x64x2x6x64x128, .f32⟩
  | 117 => ⟨S8x64x128x2x6x64, .f32⟩
  | 118 => ⟨S8x2x6x64x1, .f32⟩
  | 119 => ⟨S8x2x6x64x128, .f32⟩
  | 120 => ⟨S8x2x6x64x128, .f32⟩
  | 121 => ⟨S8x2x6x64x128, .f32⟩
  | 122 => ⟨S8x64x128x2x6, .f32⟩
  | 123 => ⟨S8x64x128x2x6x1, .f32⟩
  | 124 => ⟨S8x64x128x2x6x64, .f32⟩
  | 125 => ⟨S8x64x128x2x6x64, .f32⟩
  | 126 => ⟨S8x64x2x6x64x128, .f32⟩
  | 127 => ⟨S8x1x2x6x64x128, .f32⟩
  | _ => ⟨S8x8192x1408, .f32⟩

abbrev hbmTy0_1 (i : Nat) : BufTy := match i % 128 with
  | 0 => ⟨S_, .f32⟩
  | 1 => ⟨S8x1x2x6x64x128, .f32⟩
  | 2 => ⟨S8x65x2x6x64x128, .f32⟩
  | 3 => ⟨S8x2x6x64x1, .f32⟩
  | 4 => ⟨S8x2x6x64, .f32⟩
  | 5 => ⟨S_, .i32⟩
  | 6 => ⟨S_, .f32⟩
  | 7 => ⟨S8x2x6x65, .f32⟩
  | 8 => ⟨S_, .f32⟩
  | 9 => ⟨S_, .f32⟩
  | 10 => ⟨S8x2x6x65, .f32⟩
  | 11 => ⟨S8x2x6x65x1, .f32⟩
  | 12 => ⟨S8x2x6x1x65, .f32⟩
  | 13 => ⟨S8x2x6x65x65, .f32⟩
  | 14 => ⟨S8x2x6x65x65, .f32⟩
  | 15 => ⟨S8x2x6x65x65, .f32⟩
  | 16 => ⟨S_, .i1⟩
  | 17 => ⟨S65x65, .i1⟩
  | 18 => ⟨S65x65, .i32⟩
  | 19 => ⟨S_, .i32⟩
  | 20 => ⟨S65x65, .i32⟩
  | 21 => ⟨S65x65, .i32⟩
  | 22 => ⟨S65x65, .i32⟩
  | 23 => ⟨S65x65, .i1⟩
  | 24 => ⟨S_, .i1⟩
  | 25 => ⟨S65x65, .i1⟩
  | 26 => ⟨S65x65, .i1⟩
  | 27 => ⟨S_, .f32⟩
  | 28 => ⟨S_, .f32⟩
  | 29 => ⟨S8x2x6x65x65, .i1⟩
  | 30 => ⟨S8x2x6x65x65, .f32⟩
  | 31 => ⟨S8x2x6x65x65, .f32⟩
  | 32 => ⟨S8x2x6x65x65, .f32⟩
  | 33 => ⟨S8x2x6x64x128x65, .f32⟩
  | 34 => ⟨S8x65x2x6x64x128, .f32⟩
  | 35 => ⟨S8x64x2x6x64x128, .f32⟩
  | 36 => ⟨S8x64x2x6x64x128, .f32⟩
  | 37 => ⟨S8x64x128x2x6x64, .f32⟩
  | 38 => ⟨S8x2x6x64x128, .f32⟩
  | 39 => ⟨S8x64x128x2x6, .f32⟩
  | 40 => ⟨S8x64x128x2x6x1, .f32⟩
  | 41 => ⟨S8x64x128x2x6x64, .f32⟩
  | 42 => ⟨S8x64x128x2x6x64, .f32⟩
  | 43 => ⟨S8x64x128x2x6x64, .f32⟩
  | 44 => ⟨S2x6, .f32⟩
  | 45 => ⟨S2x6x1, .f32⟩
  | 46 => ⟨S1x1x1x2x6x1, .f32⟩
  | 47 => ⟨S8x64x128x2x6x64, .f32⟩
  | 48 => ⟨S8x64x128x2x6x64, .f32⟩
  | 49 => ⟨S8x64x128x2x6x64, .f32⟩
  | 50 => ⟨S8x8192x768, .f32⟩
  | _ => ⟨S8x8192x1408, .f32⟩

abbrev hbmTy (i : Nat) : BufTy := match i / 128 with
  | 0 => hbmTy0_0 i
  | 1 => hbmTy0_1 i
  | _ => ⟨S8x8192x1408, .f32⟩

abbrev bufTy : (tb : Table) → Fin (tcTables nBuf tb) → BufTy
  | .hbm, ⟨i, _⟩ => hbmTy i
  | _, _ => ⟨S8x8192x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_call2_cst : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_call3_call0_cst : Ref sig .tc := ⟨.hbm, 84, rfl⟩
abbrev main_call3_call0_v0 : Ref sig .tc := ⟨.hbm, 85, rfl⟩
abbrev main_v55 : Ref sig .tc := ⟨.hbm, 86, rfl⟩
abbrev main_call4_call0_cst : Ref sig .tc := ⟨.hbm, 87, rfl⟩
abbrev main_call4_call0_v0 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_c_0 : Ref sig .tc := ⟨.hbm, 95, rfl⟩
abbrev main_v62 : Ref sig .tc := ⟨.hbm, 96, rfl⟩
abbrev main_call5_v0 : Ref sig .tc := ⟨.hbm, 97, rfl⟩
abbrev main_call5_c : Ref sig .tc := ⟨.hbm, 98, rfl⟩
abbrev main_call5_v1 : Ref sig .tc := ⟨.hbm, 99, rfl⟩
abbrev main_call5_v2 : Ref sig .tc := ⟨.hbm, 100, rfl⟩
abbrev main_call5_v3 : Ref sig .tc := ⟨.hbm, 101, rfl⟩
abbrev main_call5_v4 : Ref sig .tc := ⟨.hbm, 102, rfl⟩
abbrev main_call5_c_0 : Ref sig .tc := ⟨.hbm, 103, rfl⟩
abbrev main_call5_v5 : Ref sig .tc := ⟨.hbm, 104, rfl⟩
abbrev main_v63 : Ref sig .tc := ⟨.hbm, 105, rfl⟩
abbrev main_cst : Ref sig .tc := ⟨.hbm, 106, rfl⟩
abbrev main_call6_v0 : Ref sig .tc := ⟨.hbm, 107, rfl⟩
abbrev main_call6_v1 : Ref sig .tc := ⟨.hbm, 108, rfl⟩
abbrev main_call6_v2 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_1 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_c_2 : Ref sig .tc := ⟨.hbm, 133, rfl⟩
abbrev main_call7_v0 : Ref sig .tc := ⟨.hbm, 134, rfl⟩
abbrev main_v86 : Ref sig .tc := ⟨.hbm, 135, rfl⟩
abbrev main_call8_call0_cst : Ref sig .tc := ⟨.hbm, 136, rfl⟩
abbrev main_call8_call0_v0 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_c_3 : Ref sig .tc := ⟨.hbm, 144, rfl⟩
abbrev main_v93 : Ref sig .tc := ⟨.hbm, 145, rfl⟩
abbrev main_call9_v0 : Ref sig .tc := ⟨.hbm, 146, rfl⟩
abbrev main_call9_c : Ref sig .tc := ⟨.hbm, 147, rfl⟩
abbrev main_call9_v1 : Ref sig .tc := ⟨.hbm, 148, rfl⟩
abbrev main_call9_v2 : Ref sig .tc := ⟨.hbm, 149, rfl⟩
abbrev main_call9_v3 : Ref sig .tc := ⟨.hbm, 150, rfl⟩
abbrev main_call9_v4 : Ref sig .tc := ⟨.hbm, 151, rfl⟩
abbrev main_call9_c_0 : Ref sig .tc := ⟨.hbm, 152, rfl⟩
abbrev main_call9_v5 : Ref sig .tc := ⟨.hbm, 153, rfl⟩
abbrev main_v94 : Ref sig .tc := ⟨.hbm, 154, rfl⟩
abbrev main_cst_4 : Ref sig .tc := ⟨.hbm, 155, rfl⟩
abbrev main_call10_v0 : Ref sig .tc := ⟨.hbm, 156, rfl⟩
abbrev main_call10_v1 : Ref sig .tc := ⟨.hbm, 157, rfl⟩
abbrev main_call10_v2 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩

abbrev nD : Nat := 1
abbrev τ : Topo := Topo.v7x

variable {F : FTy → Type} [FloatOps F]
-- ==== Kernel2.lean ====
abbrev S8x8192x1024 : Shape := ⟨3, ![8, 8192, 1024]⟩
abbrev S1024 : Shape := ⟨1, ![1024]⟩
abbrev S1024x8716 : Shape := ⟨2, ![1024, 8716]⟩
abbrev S8x8192x512 : Shape := ⟨3, ![8, 8192, 512]⟩
abbrev S8x8192x256 : Shape := ⟨3, ![8, 8192, 256]⟩
abbrev S8x8192x768 : Shape := ⟨3, ![8, 8192, 768]⟩
abbrev S512x512 : Shape := ⟨2, ![512, 512]⟩
abbrev S512 : Shape := ⟨1, ![512]⟩
abbrev S768 : Shape := ⟨1, ![768]⟩
abbrev S512x1024 : Shape := ⟨2, ![512, 1024]⟩
abbrev S256x1024 : Shape := ⟨2, ![256, 1024]⟩
abbrev S768x1024 : Shape := ⟨2, ![768, 1024]⟩
abbrev S1024x1024 : Shape := ⟨2, ![1024, 1024]⟩
abbrev S1024x512 : Shape := ⟨2, ![1024, 512]⟩
abbrev S1024x256 : Shape := ⟨2, ![1024, 256]⟩
abbrev S1024x3840 : Shape := ⟨2, ![1024, 3840]⟩
abbrev S1024x4608 : Shape := ⟨2, ![1024, 4608]⟩
abbrev S8x8x1024x4x128 : Shape := ⟨5, ![8, 8, 1024, 4, 128]⟩
abbrev S4x8x8x1024x128 : Shape := ⟨5, ![4, 8, 8, 1024, 128]⟩
abbrev S4x65536x128 : Shape := ⟨3, ![4, 65536, 128]⟩
abbrev S65536x2x128 : Shape := ⟨3, ![65536, 2, 128]⟩
abbrev S2x65536x128 : Shape := ⟨3, ![2, 65536, 128]⟩
abbrev S65536x1024 : Shape := ⟨2, ![65536, 1024]⟩
abbrev S1x1024 : Shape := ⟨2, ![1, 1024]⟩
abbrev S65536x768 : Shape := ⟨2, ![65536, 768]⟩
abbrev S1x512 : Shape := ⟨2, ![1, 512]⟩
abbrev S1x768 : Shape := ⟨2, ![1, 768]⟩
abbrev S4x512x128 : Shape := ⟨3, ![4, 512, 128]⟩
abbrev S2x512x128 : Shape := ⟨3, ![2, 512, 128]⟩
abbrev S512x768 : Shape := ⟨2, ![512, 768]⟩
abbrev S512x1 : Shape := ⟨2, ![512, 1]⟩
abbrev S1x512x128 : Shape := ⟨3, ![1, 512, 128]⟩
abbrev S512x128 : Shape := ⟨2, ![512, 128]⟩
abbrev S512x256 : Shape := ⟨2, ![512, 256]⟩
abbrev S1024x768 : Shape := ⟨2, ![1024, 768]⟩

abbrev nBuf : Space → Nat
  | .hbm => 34
  | .vmem => 19
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x8716, .f32⟩
  | .hbm, ⟨3, _⟩ => ⟨S8x8192x512, .f32⟩
  | .hbm, ⟨4, _⟩ => ⟨S8x8192x256, .f32⟩
  | .hbm, ⟨5, _⟩ => ⟨S8x8192x768, .f32⟩
  | .hbm, ⟨6, _⟩ => ⟨S512x512, .f32⟩
  | .hbm, ⟨7, _⟩ => ⟨S512, .f32⟩
  | .hbm, ⟨8, _⟩ => ⟨S768, .f32⟩
  | .hbm, ⟨9, _⟩ => ⟨S512x1024, .f32⟩
  | .hbm, ⟨10, _⟩ => ⟨S256x1024, .f32⟩
  | .hbm, ⟨11, _⟩ => ⟨S768x1024, .f32⟩
  | .hbm, ⟨12, _⟩ => ⟨S1024x1024, .f32⟩
  | .hbm, ⟨13, _⟩ => ⟨S1024x8716, .bf16⟩
  | .hbm, ⟨14, _⟩ => ⟨S1024x512, .bf16⟩
  | .hbm, ⟨15, _⟩ => ⟨S1024x256, .bf16⟩
  | .hbm, ⟨16, _⟩ => ⟨S1024x3840, .bf16⟩
  | .hbm, ⟨17, _⟩ => ⟨S1024x4608, .bf16⟩
  | .hbm, ⟨18, _⟩ => ⟨S8x8x1024x4x128, .f32⟩
  | .hbm, ⟨19, _⟩ => ⟨S4x8x8x1024x128, .f32⟩
  | .hbm, ⟨20, _⟩ => ⟨S4x65536x128, .f32⟩
  | .hbm, ⟨21, _⟩ => ⟨S65536x2x128, .f32⟩
  | .hbm, ⟨22, _⟩ => ⟨S2x65536x128, .f32⟩
  | .hbm, ⟨23, _⟩ => ⟨S65536x1024, .f32⟩
  | .hbm, ⟨24, _⟩ => ⟨S1x1024, .f32⟩
  | .hbm, ⟨25, _⟩ => ⟨S65536x768, .f32⟩
  | .hbm, ⟨26, _⟩ => ⟨S512x512, .bf16⟩
  | .hbm, ⟨27, _⟩ => ⟨S1x512, .f32⟩
  | .hbm, ⟨28, _⟩ => ⟨S1x768, .f32⟩
  | .hbm, ⟨29, _⟩ => ⟨S512x1024, .bf16⟩
  | .hbm, ⟨30, _⟩ => ⟨S256x1024, .bf16⟩
  | .hbm, ⟨31, _⟩ => ⟨S768x1024, .bf16⟩
  | .hbm, ⟨32, _⟩ => ⟨S1024x1024, .bf16⟩
  | .hbm, ⟨33, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4608, .bf16⟩
  | .local _ .vmem, ⟨4, _⟩ => ⟨S4x512x128, .f32⟩
  | .local _ .vmem, ⟨5, _⟩ => ⟨S4x512x128, .f32⟩
  | .local _ .vmem, ⟨6, _⟩ => ⟨S2x512x128, .f32⟩
  | .local _ .vmem, ⟨7, _⟩ => ⟨S2x512x128, .f32⟩
  | .local _ .vmem, ⟨8, _⟩ => ⟨S512x768, .f32⟩
  | .local _ .vmem, ⟨9, _⟩ => ⟨S512x768, .f32⟩
  | .local _ .vmem, ⟨10, _⟩ => ⟨S512x512, .bf16⟩
  | .local _ .vmem, ⟨11, _⟩ => ⟨S1x512, .f32⟩
  | .local _ .vmem, ⟨12, _⟩ => ⟨S1x768, .f32⟩
  | .local _ .vmem, ⟨13, _⟩ => ⟨S512x1024, .bf16⟩
  | .local _ .vmem, ⟨14, _⟩ => ⟨S256x1024, .bf16⟩
  | .local _ .vmem, ⟨15, _⟩ => ⟨S768x1024, .bf16⟩
  | .local _ .vmem, ⟨16, _⟩ => ⟨S1024x1024, .bf16⟩
  | .local _ .vmem, ⟨17, _⟩ => ⟨S512x1024, .f32⟩
  | .local _ .vmem, ⟨18, _⟩ => ⟨S512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let v27 : BitVec 32 := Scalar.divsi v26 c2_i32
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c0_i32_12 : BitVec 32 := 0#32
  let v33 : BitVec 1 := Scalar.cmpi .sgt c2_i32 c0_i32_12
  let v34 : BitVec 32 := Scalar.extui v33
  let c0_i32_13 : BitVec 32 := 0#32
  let v35 : BitVec 1 := Scalar.cmpi .slt c2_i32 c0_i32_13
  let v36 : BitVec 32 := Scalar.extui v35
  let v37 : BitVec 32 := Scalar.subi v34 v36
  let v38 : BitVec 1 := Scalar.cmpi .ne v32 v37
  let v39 : BitVec 32 := Scalar.remsi v26 c2_i32
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c8_i32 : BitVec 32 := 8#32
  let v44 : BitVec 32 := Scalar.muli v43 c8_i32
  let v45 : BitVec 32 := Scalar.addi v44 v16
  let c2_i32_16 : BitVec 32 := 2#32
  let v46 : BitVec 32 := Scalar.muli v45 c2_i32_16
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v26 v48
  let c0_i32_20 : BitVec 32 := 0#32
  let v50 : BitVec 1 := Scalar.cmpi .ne v49 c0_i32_20
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let v54 : BitVec 1 := Scalar.andi v53 v50
  let v55 : BitVec 32 := Scalar.addi v49 v48
  let v56 : BitVec 32 := Scalar.select v54 v55 v49
  let v57 : BitVec 32 := Scalar.addi v46 v56
  let c0_i32_23 : BitVec 32 := 0#32
  let c0_i32_24 : BitVec 32 := 0#32
  let c0_i32_25 : BitVec 32 := 0#32
  ![c0_i32_23.toNat, v57.toNat, c0_i32_24.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S768x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S8x8192x1024 : Shape := ⟨3, ![8, 8192, 1024]⟩
abbrev S1024 : Shape := ⟨1, ![1024]⟩
abbrev S1024x8716 : Shape := ⟨2, ![1024, 8716]⟩
abbrev S8x8192x512 : Shape := ⟨3, ![8, 8192, 512]⟩
abbrev S8x8192x256 : Shape := ⟨3, ![8, 8192, 256]⟩
abbrev S8x8192x768 : Shape := ⟨3, ![8, 8192, 768]⟩
abbrev S512x512 : Shape := ⟨2, ![512, 512]⟩
abbrev S512 : Shape := ⟨1, ![512]⟩
abbrev S768 : Shape := ⟨1, ![768]⟩
abbrev S512x1024 : Shape := ⟨2, ![512, 1024]⟩
abbrev S256x1024 : Shape := ⟨2, ![256, 1024]⟩
abbrev S768x1024 : Shape := ⟨2, ![768, 1024]⟩
abbrev S1024x1024 : Shape := ⟨2, ![1024, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x8716 : Shape := ⟨3, ![8, 8192, 8716]⟩
abbrev S8x8192x3072 : Shape := ⟨3, ![8, 8192, 3072]⟩
abbrev S1x1x512 : Shape := ⟨3, ![1, 1, 512]⟩
abbrev S1x1x768 : Shape := ⟨3, ![1, 1, 768]⟩
abbrev S8x8192x3x1024 : Shape := ⟨4, ![8, 8192, 3, 1024]⟩
abbrev S8x8192x1x1024 : Shape := ⟨4, ![8, 8192, 1, 1024]⟩
abbrev S65536x1024 : Shape := ⟨2, ![65536, 1024]⟩

abbrev nBuf : Space → Nat
  | .hbm => 136
  | .vmem => 0
  | .smem => 0
  | _ => 0

abbrev hbmTy0_0 (i : Nat) : BufTy := match i % 128 with
  | 0 => ⟨S8x8192x1024, .f32⟩
  | 1 => ⟨S1024, .f32⟩
  | 2 => ⟨S1024x8716, .f32⟩
  | 3 => ⟨S8x8192x512, .f32⟩
  | 4 => ⟨S8x8192x256, .f32⟩
  | 5 => ⟨S8x8192x768, .f32⟩
  | 6 => ⟨S512x512, .f32⟩
  | 7 => ⟨S512, .f32⟩
  | 8 => ⟨S768, .f32⟩
  | 9 => ⟨S512x1024, .f32⟩
  | 10 => ⟨S256x1024, .f32⟩
  | 11 => ⟨S768x1024, .f32⟩
  | 12 => ⟨S1024x1024, .f32⟩
  | 13 => ⟨S8x8192x1024, .f32⟩
  | 14 => ⟨S_, .f32⟩
  | 15 => ⟨S8x8192, .f32⟩
  | 16 => ⟨S8x8192x1, .f32⟩
  | 17 => ⟨S_, .f32⟩
  | 18 => ⟨S8x8192x1, .f32⟩
  | 19 => ⟨S8x8192x1, .f32⟩
  | 20 => ⟨S_, .f32⟩
  | 21 => ⟨S8x8192x1, .f32⟩
  | 22 => ⟨S8x8192x1, .f32⟩
  | 23 => ⟨S8x8192x1, .f32⟩
  | 24 => ⟨S8x8192x1024, .f32⟩
  | 25 => ⟨S8x8192x1024, .f32⟩
  | 26 => ⟨S1x1x1024, .f32⟩
  | 27 => ⟨S8x8192x1024, .f32⟩
  | 28 => ⟨S8x8192x1024, .f32⟩
  | 29 => ⟨S8x8192x8716, .f32⟩
  | 30 => ⟨S8x8192x512, .f32⟩
  | 31 => ⟨S8x8192x256, .f32⟩
  | 32 => ⟨S8x8192x768, .f32⟩
  | 33 => ⟨S8x8192x3072, .f32⟩
  | 34 => ⟨S8x8192x512, .f32⟩
  | 35 => ⟨S8x8192x512, .f32⟩
  | 36 => ⟨S_, .f32⟩
  | 37 => ⟨S8x8192x512, .f32⟩
  | 38 => ⟨S8x8192x512, .f32⟩
  | 39 => ⟨S8x8192x512, .f32⟩
  | 40 => ⟨S_, .f32⟩
  | 41 => ⟨S8x8192x512, .f32⟩
  | 42 => ⟨S8x8192x512, .f32⟩
  | 43 => ⟨S8x8192x512, .f32⟩
  | 44 => ⟨S_, .f32⟩
  | 45 => ⟨S8x8192x512, .f32⟩
  | 46 => ⟨S8x8192x512, .f32⟩
  | 47 => ⟨S_, .f32⟩
  | 48 => ⟨S8x8192x512, .f32⟩
  | 49 => ⟨S8x8192x512, .f32⟩
  | 50 => ⟨S8x8192x512, .f32⟩
  | 51 => ⟨S8x8192x512, .f32⟩
  | 52 => ⟨S1x1x512, .f32⟩
  | 53 => ⟨S8x8192x512, .f32⟩
  | 54 => ⟨S8x8192x512, .f32⟩
  | 55 => ⟨S8x8192x512, .f32⟩
  | 56 => ⟨S8x8192x512, .f32⟩
  | 57 => ⟨S_, .f32⟩
  | 58 => ⟨S8x8192x512, .f32⟩
  | 59 => ⟨S8x8192x512, .f32⟩
  | 60 => ⟨S_, .f32⟩
  | 61 => ⟨S8x8192x512, .f32⟩
  | 62 => ⟨S8x8192x512, .f32⟩
  | 63 => ⟨S8x8192x512, .f32⟩
  | 64 => ⟨S8x8192x512, .f32⟩
  | 65 => ⟨S8x8192x512, .f32⟩
  | 66 => ⟨S_, .f32⟩
  | 67 => ⟨S8x8192x512, .f32⟩
  | 68 => ⟨S8x8192x512, .f32⟩
  | 69 => ⟨S_, .f32⟩
  | 70 => ⟨S8x8192x512, .f32⟩
  | 71 => ⟨S8x8192x512, .f32⟩
  | 72 => ⟨S8x8192x512, .f32⟩
  | 73 => ⟨S8x8192x512, .f32⟩
  | 74 => ⟨S8x8192x256, .f32⟩
  | 75 => ⟨S8x8192x256, .f32⟩
  | 76 => ⟨S_, .f32⟩
  | 77 => ⟨S8x8192x256, .f32⟩
  | 78 => ⟨S8x8192x256, .f32⟩
  | 79 => ⟨S_, .f32⟩
  | 80 => ⟨S8x8192x256, .f32⟩
  | 81 => ⟨S8x8192x256, .f32⟩
  | 82 => ⟨S8x8192x256, .f32⟩
  | 83 => ⟨S8x8192x256, .f32⟩
  | 84 => ⟨S8x8192x768, .f32⟩
  | 85 => ⟨S8x8192x768, .f32⟩
  | 86 => ⟨S_, .f32⟩
  | 87 => ⟨S8x8192x768, .f32⟩
  | 88 => ⟨S8x8192x768, .f32⟩
  | 89 => ⟨S_, .f32⟩
  | 90 => ⟨S8x8192x768, .f32⟩
  | 91 => ⟨S8x8192x768, .f32⟩
  | 92 => ⟨S8x8192x768, .f32⟩
  | 93 => ⟨S8x8192x768, .f32⟩
  | 94 => ⟨S8x8192x768, .f32⟩
  | 95 => ⟨S_, .f32⟩
  | 96 => ⟨S8x8192, .f32⟩
  | 97 => ⟨S8x8192x1, .f32⟩
  | 98 => ⟨S_, .f32⟩
  | 99 => ⟨S8x8192x1, .f32⟩
  | 100 => ⟨S8x8192x1, .f32⟩
  | 101 => ⟨S_, .f32⟩
  | 102 => ⟨S8x8192x1, .f32⟩
  | 103 => ⟨S8x8192x1, .f32⟩
  | 104 => ⟨S8x8192x1, .f32⟩
  | 105 => ⟨S8x8192x768, .f32⟩
  | 106 => ⟨S8x8192x768, .f32⟩
  | 107 => ⟨S1x1x768, .f32⟩
  | 108 => ⟨S8x8192x768, .f32⟩
  | 109 => ⟨S8x8192x768, .f32⟩
  | 110 => ⟨S8x8192x3072, .f32⟩
  | 111 => ⟨S8x8192x3072, .f32⟩
  | 112 => ⟨S_, .f32⟩
  | 113 => ⟨S8x8192x3072, .f32⟩
  | 114 => ⟨S8x8192x3072, .f32⟩
  | 115 => ⟨S_, .f32⟩
  | 116 => ⟨S8x8192x3072, .f32⟩
  | 117 => ⟨S8x8192x3072, .f32⟩
  | 118 => ⟨S8x8192x3x1024, .f32⟩
  | 119 => ⟨S8x8192x1x1024, .f32⟩
  | 120 => ⟨S8x8192x1024, .f32⟩
  | 121 => ⟨S8x8192x1024, .f32⟩
  | 122 => ⟨S8x8192x1024, .f32⟩
  | 123 => ⟨S8x8192x1x1024, .f32⟩
  | 124 => ⟨S8x8192x1024, .f32⟩
  | 125 => ⟨S8x8192x1024, .f32⟩
  | 126 => ⟨S8x8192x1024, .f32⟩
  | 127 => ⟨S8x8192x1024, .f32⟩
  | _ => ⟨S8x8192x1024, .f32⟩

abbrev hbmTy0_1 (i : Nat) : BufTy := match i % 128 with
  | 0 => ⟨S8x8192x1x1024, .f32⟩
  | 1 => ⟨S8x8192x1024, .f32⟩
  | 2 => ⟨S8x8192x1024, .f32⟩
  | 3 => ⟨S8x8192x1024, .f32⟩
  | 4 => ⟨S8x8192x1024, .f32⟩
  | 5 => ⟨S8x8192x1024, .f32⟩
  | 6 => ⟨S8x8192x1024, .f32⟩
  | 7 => ⟨S65536x1024, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_call0_v5 : Ref sig .tc := ⟨.hbm, 71, rfl⟩
abbrev main_v42 : Ref sig .tc := ⟨.hbm, 72, rfl⟩
abbrev main_v43 : Ref sig .tc := ⟨.hbm, 73, rfl⟩
abbrev main_call1_v0 : Ref sig .tc := ⟨.hbm, 74, rfl⟩
abbrev main_call1_v1 : Ref sig .tc := ⟨.hbm, 75, rfl⟩
abbrev main_call1_cst : Ref sig .tc := ⟨.hbm, 76, rfl⟩
abbrev main_call1_v2 : Ref sig .tc := ⟨.hbm, 77, rfl⟩
abbrev main_call1_v3 : Ref sig .tc := ⟨.hbm, 78, rfl⟩
abbrev main_call1_cst_0 : Ref sig .tc := ⟨.hbm, 79, rfl⟩
abbrev main_call1_v4 : Ref sig .tc := ⟨.hbm, 80, rfl⟩
abbrev main_call1_v5 : Ref sig .tc := ⟨.hbm, 81, rfl⟩
abbrev main_v44 : Ref sig .tc := ⟨.hbm, 82, rfl⟩
abbrev main_v45 : Ref sig .tc := ⟨.hbm, 83, rfl⟩
abbrev main_call2_v0 : Ref sig .tc := ⟨.hbm, 84, rfl⟩
abbrev main_call2_v1 : Ref sig .tc := ⟨.hbm, 85, rfl⟩
abbrev main_call2_cst : Ref sig .tc := ⟨.hbm, 86, rfl⟩
abbrev main_call2_v2 : Ref sig .tc := ⟨.hbm, 87, rfl⟩
abbrev main_call2_v3 : Ref sig .tc := ⟨.hbm, 88, rfl⟩
abbrev main_call2_cst_0 : Ref sig .tc := ⟨.hbm, 89, rfl⟩
abbrev main_call2_v4 : Ref sig .tc := ⟨.hbm, 90, rfl⟩
abbrev main_call2_v5 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_cst_8 : Ref sig .tc := ⟨.hbm, 95, rfl⟩
abbrev main_v49 : Ref sig .tc := ⟨.hbm, 96, rfl⟩
abbrev main_v50 : Ref sig .tc := ⟨.hbm, 97, rfl⟩
abbrev main_cst_9 : Ref sig .tc := ⟨.hbm, 98, rfl⟩
abbrev main_v51 : Ref sig .tc := ⟨.hbm, 99, rfl⟩
abbrev main_v52 : Ref sig .tc := ⟨.hbm, 100, rfl⟩
abbrev main_cst_10 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_cst_11 : Ref sig .tc := ⟨.hbm, 112, rfl⟩
abbrev main_v63 : Ref sig .tc := ⟨.hbm, 113, rfl⟩
abbrev main_v64 : Ref sig .tc := ⟨.hbm, 114, rfl⟩
abbrev main_cst_12 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩

abbrev nD : Nat := 1
abbrev τ : Topo := Topo.v7x

variable {F : FTy → Type} [FloatOps F]
-- ==== Kernel3.lean ====
abbrev S8x8192x1024 : Shape := ⟨3, ![8, 8192, 1024]⟩
abbrev S1024 : Shape := ⟨1, ![1024]⟩
abbrev S1024x8716 : Shape := ⟨2, ![1024, 8716]⟩
abbrev S64 : Shape := ⟨1, ![64]⟩
abbrev S1024x512 : Shape := ⟨2, ![1024, 512]⟩
abbrev S1024x2304 : Shape := ⟨2, ![1024, 2304]⟩
abbrev S1024x1292 : Shape := ⟨2, ![1024, 1292]⟩
abbrev S_ : Shape := ⟨0, ![]⟩
abbrev S1024x116 : Shape := ⟨2, ![1024, 116]⟩
abbrev S1024x4224 : Shape := ⟨2, ![1024, 4224]⟩
abbrev S1x64 : Shape := ⟨2, ![1, 64]⟩
abbrev S12x64 : Shape := ⟨2, ![12, 64]⟩
abbrev S768 : Shape := ⟨1, ![768]⟩
abbrev S4 : Shape := ⟨1, ![4]⟩
abbrev S4x64 : Shape := ⟨2, ![4, 64]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S65536x1024 : Shape := ⟨2, ![65536, 1024]⟩
abbrev S1x1024 : Shape := ⟨2, ![1, 1024]⟩
abbrev S1x768 : Shape := ⟨2, ![1, 768]⟩
abbrev S4x65536x128 : Shape := ⟨3, ![4, 65536, 128]⟩
abbrev S6x65536x128 : Shape := ⟨3, ![6, 65536, 128]⟩
abbrev S65536x1408 : Shape := ⟨2, ![65536, 1408]⟩
abbrev S512x1024 : Shape := ⟨2, ![512, 1024]⟩
abbrev S4x512x128 : Shape := ⟨3, ![4, 512, 128]⟩
abbrev S6x512x128 : Shape := ⟨3, ![6, 512, 128]⟩
abbrev S512x1408 : Shape := ⟨2, ![512, 1408]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x128 : Shape := ⟨2, ![512, 128]⟩
abbrev S1x512x128 : Shape := ⟨3, ![1, 512, 128]⟩
abbrev S1024x128 : Shape := ⟨2, ![1024, 128]⟩
abbrev S4x8x8x1024x128 : Shape := ⟨5, ![4, 8, 8, 1024, 128]⟩
abbrev S8x8x1024x4x128 : Shape := ⟨5, ![8, 8, 1024, 4, 128]⟩
abbrev S8x8192x512 : Shape := ⟨3, ![8, 8192, 512]⟩
abbrev S65536x6x128 : Shape := ⟨3, ![65536, 6, 128]⟩
abbrev S8x8192x768 : Shape := ⟨3, ![8, 8192, 768]⟩
abbrev S8x8192x1408 : Shape := ⟨3, ![8, 8192, 1408]⟩
abbrev S8x8192x1292 : Shape := ⟨3, ![8, 8192, 1292]⟩

abbrev nBuf : Space → Nat
  | .hbm => 54
  | .vmem => 17
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x8716, .f32⟩
  | .hbm, ⟨3, _⟩ => ⟨S64, .f32⟩
  | .hbm, ⟨4, _⟩ => ⟨S64, .f32⟩
  | .hbm, ⟨5, _⟩ => ⟨S1024x8716, .bf16⟩
  | .hbm, ⟨6, _⟩ => ⟨S1024x512, .bf16⟩
  | .hbm, ⟨7, _⟩ => ⟨S1024x2304, .bf16⟩
  | .hbm, ⟨8, _⟩ => ⟨S1024x1292, .bf16⟩
  | .hbm, ⟨9, _⟩ => ⟨S_, .bf16⟩
  | .hbm, ⟨10, _⟩ => ⟨S1024x116, .bf16⟩
  | .hbm, ⟨11, _⟩ => ⟨S1024x4224, .bf16⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S1x64, .f32⟩
  | .hbm, ⟨16, _⟩ => ⟨S12x64, .f32⟩
  | .hbm, ⟨17, _⟩ => ⟨S768, .f32⟩
  | .hbm, ⟨18, _⟩ => ⟨S1x64, .f32⟩
  | .hbm, ⟨19, _⟩ => ⟨S12x64, .f32⟩
  | .hbm, ⟨20, _⟩ => ⟨S768, .f32⟩
  | .hbm, ⟨21, _⟩ => ⟨S4, .i32⟩
  | .hbm, ⟨22, _⟩ => ⟨S4x64, .i32⟩
  | .hbm, ⟨23, _⟩ => ⟨S256, .i32⟩
  | .hbm, ⟨24, _⟩ => ⟨S256x1, .i32⟩
  | .hbm, ⟨25, _⟩ => ⟨S1x256, .i32⟩
  | .hbm, ⟨26, _⟩ => ⟨S256x256, .i32⟩
  | .hbm, ⟨27, _⟩ => ⟨S256x256, .i32⟩
  | .hbm, ⟨28, _⟩ => ⟨S256x256, .i1⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .bf16⟩
  | .hbm, ⟨34, _⟩ => ⟨S65536x1024, .f32⟩
  | .hbm, ⟨35, _⟩ => ⟨S1x1024, .f32⟩
  | .hbm, ⟨36, _⟩ => ⟨S1x768, .f32⟩
  | .hbm, ⟨37, _⟩ => ⟨S1x768, .f32⟩
  | .hbm, ⟨38, _⟩ => ⟨S4x65536x128, .f32⟩
  | .hbm, ⟨39, _⟩ => ⟨S6x65536x128, .f32⟩
  | .hbm, ⟨40, _⟩ => ⟨S6x65536x128, .f32⟩
  | .hbm, ⟨41, _⟩ => ⟨S6x65536x128, .f32⟩
  | .hbm, ⟨42, _⟩ => ⟨S65536x1408, .f32⟩
  | .hbm, ⟨43, _⟩ => ⟨S4x8x8x1024x128, .f32⟩
  | .hbm, ⟨44, _⟩ => ⟨S8x8x1024x4x128, .f32⟩
  | .hbm, ⟨45, _⟩ => ⟨S8x8192x512, .f32⟩
  | .hbm, ⟨46, _⟩ => ⟨S65536x6x128, .f32⟩
  | .hbm, ⟨47, _⟩ => ⟨S8x8192x768, .f32⟩
  | .hbm, ⟨48, _⟩ => ⟨S65536x6x128, .f32⟩
  | .hbm, ⟨49, _⟩ => ⟨S8x8192x768, .f32⟩
  | .hbm, ⟨50, _⟩ => ⟨S65536x6x128, .f32⟩
  | .hbm, ⟨51, _⟩ => ⟨S8x8192x768, .f32⟩
  | .hbm, ⟨52, _⟩ => ⟨S8x8192x1408, .f32⟩
  | .hbm, ⟨53, _⟩ => ⟨S8x8192x1292, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4224, .bf16⟩
  | .local _ .vmem, ⟨4, _⟩ => ⟨S1x768, .f32⟩
  | .local _ .vmem, ⟨5, _⟩ => ⟨S1x768, .f32⟩
  | .local _ .vmem, ⟨6, _⟩ => ⟨S256x256, .bf16⟩
  | .local _ .vmem, ⟨7, _⟩ => ⟨S4x512x128, .f32⟩
  | .local _ .vmem, ⟨8, _⟩ => ⟨S4x512x128, .f32⟩
  | .local _ .vmem, ⟨9, _⟩ => ⟨S6x512x128, .f32⟩
  | .local _ .vmem, ⟨10, _⟩ => ⟨S6x512x128, .f32⟩
  | .local _ .vmem, ⟨11, _⟩ => ⟨S6x512x128, .f32⟩
  | .local _ .vmem, ⟨12, _⟩ => ⟨S6x512x128, .f32⟩
  | .local _ .vmem, ⟨13, _⟩ => ⟨S6x512x128, .f32⟩
  | .local _ .vmem, ⟨14, _⟩ => ⟨S6x512x128, .f32⟩
  | .local _ .vmem, ⟨15, _⟩ => ⟨S512x1408, .f32⟩
  | .local _ .vmem, ⟨16, _⟩ => ⟨S512x1408, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30_0 : Ref sig .tc := ⟨.hbm, 38, rfl⟩
abbrev main_v30_1 : Ref sig .tc := ⟨.hbm, 39, rfl⟩
abbrev main_v30_2 : Ref sig .tc := ⟨.hbm, 40, rfl⟩
abbrev main_v30_3 : Ref sig .tc := ⟨.hbm, 41, rfl⟩
abbrev main_v30_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let v27 : BitVec 32 := Scalar.divsi v26 c2_i32
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c0_i32_12 : BitVec 32 := 0#32
  let v33 : BitVec 1 := Scalar.cmpi .sgt c2_i32 c0_i32_12
  let v34 : BitVec 32 := Scalar.extui v33
  let c0_i32_13 : BitVec 32 := 0#32
  let v35 : BitVec 1 := Scalar.cmpi .slt c2_i32 c0_i32_13
  let v36 : BitVec 32 := Scalar.extui v35
  let v37 : BitVec 32 := Scalar.subi v34 v36
  let v38 : BitVec 1 := Scalar.cmpi .ne v32 v37
  let v39 : BitVec 32 := Scalar.remsi v26 c2_i32
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c8_i32 : BitVec 32 := 8#32
  let v44 : BitVec 32 := Scalar.muli v43 c8_i32
  let v45 : BitVec 32 := Scalar.addi v44 v16
  let c2_i32_16 : BitVec 32 := 2#32
  let v46 : BitVec 32 := Scalar.muli v45 c2_i32_16
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v26 v48
  let c0_i32_20 : BitVec 32 := 0#32
  let v50 : BitVec 1 := Scalar.cmpi .ne v49 c0_i32_20
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let v54 : BitVec 1 := Scalar.andi v53 v50
  let v55 : BitVec 32 := Scalar.addi v49 v48
  let v56 : BitVec 32 := Scalar.select v54 v55 v49
  let v57 : BitVec 32 := Scalar.addi v46 v56
  let c0_i32_23 : BitVec 32 := 0#32
  let c0_i32_24 : BitVec 32 := 0#32
  let c0_i32_25 : BitVec 32 := 0#32
  ![c0_i32_23.toNat, v57.toNat, c0_i32_24.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S6x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S6x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S6x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S8x8192x1024 : Shape := ⟨3, ![8, 8192, 1024]⟩
abbrev S1024 : Shape := ⟨1, ![1024]⟩
abbrev S1024x8716 : Shape := ⟨2, ![1024, 8716]⟩
abbrev S64 : Shape := ⟨1, ![64]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x8716 : Shape := ⟨3, ![8, 8192, 8716]⟩
abbrev S8x8192x512 : Shape := ⟨3, ![8, 8192, 512]⟩
abbrev S8x8192x768 : Shape := ⟨3, ![8, 8192, 768]⟩
abbrev S8x8192x1292 : Shape := ⟨3, ![8, 8192, 1292]⟩
abbrev S8x8192x12x64 : Shape := ⟨4, ![8, 8192, 12, 64]⟩
abbrev S8x8192x12 : Shape := ⟨3, ![8, 8192, 12]⟩
abbrev S8x8192x12x1 : Shape := ⟨4, ![8, 8192, 12, 1]⟩
abbrev S1x1x1x64 : Shape := ⟨4, ![1, 1, 1, 64]⟩

abbrev nBuf : Space → Nat
  | .hbm => 66
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x8716, .f32⟩
  | .hbm, ⟨3, _⟩ => ⟨S64, .f32⟩
  | .hbm, ⟨4, _⟩ => ⟨S64, .f32⟩
  | .hbm, ⟨5, _⟩ => ⟨S8x8192x1024, .f32⟩
  | .hbm, ⟨6, _⟩ => ⟨S_, .f32⟩
  | .hbm, ⟨7, _⟩ => ⟨S8x8192, .f32⟩
  | .hbm, ⟨8, _⟩ => ⟨S8x8192x1, .f32⟩
  | .hbm, ⟨9, _⟩ => ⟨S_, .f32⟩
  | .hbm, ⟨10, _⟩ => ⟨S8x8192x1, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S8x8192x1, .f32⟩
  | .hbm, ⟨16, _⟩ => ⟨S8x8192x1024, .f32⟩
  | .hbm, ⟨17, _⟩ => ⟨S8x8192x1024, .f32⟩
  | .hbm, ⟨18, _⟩ => ⟨S1x1x1024, .f32⟩
  | .hbm, ⟨19, _⟩ => ⟨S8x8192x1024, .f32⟩
  | .hbm, ⟨20, _⟩ => ⟨S8x8192x1024, .f32⟩
  | .hbm, ⟨21, _⟩ => ⟨S8x8192x8716, .f32⟩
  | .hbm, ⟨22, _⟩ => ⟨S8x8192x512, .f32⟩
  | .hbm, ⟨23, _⟩ => ⟨S8x8192x768, .f32⟩
  | .hbm, ⟨24, _⟩ => ⟨S8x8192x768, .f32⟩
  | .hbm, ⟨25, _⟩ => ⟨S8x8192x768, .f32⟩
  | .hbm, ⟨26, _⟩ => ⟨S8x8192x1292, .f32⟩
  | .hbm, ⟨27, _⟩ => ⟨S8x8192x12x64, .f32⟩
  | .hbm, ⟨28, _⟩ => ⟨S8x8192x12x64, .f32⟩
  | .hbm, ⟨29, _⟩ => ⟨S_, .f32⟩
  | .hbm, ⟨30, _⟩ => ⟨S8x8192x12, .f32⟩
  | .hbm, ⟨31, _⟩ => ⟨S8x8192x12x1, .f32⟩
  | .hbm, ⟨32, _⟩ => ⟨S_, .f32⟩
  | .hbm, ⟨33, _⟩ => ⟨S8x8192x12x1, .f32⟩
  | .hbm, ⟨34, _⟩ => ⟨S8x8192x12x1, .f32⟩
  | .hbm, ⟨35, _⟩ => ⟨S_, .f32⟩
  | .hbm, ⟨36, _⟩ => ⟨S8x8192x12x1, .f32⟩
  | .hbm, ⟨37, _⟩ => ⟨S8x8192x12x1, .f32⟩
  | .hbm, ⟨38, _⟩ => ⟨S8x8192x12x1, .f32⟩
  | .hbm, ⟨39, _⟩ => ⟨S8x8192x12x64, .f32⟩
  | .hbm, ⟨40, _⟩ => ⟨S8x8192x12x64, .f32⟩
  | .hbm, ⟨41, _⟩ => ⟨S1x1x1x64, .f32⟩
  | .hbm, ⟨42, _⟩ => ⟨S8x8192x12x64, .f32⟩
  | .hbm, ⟨43, _⟩ => ⟨S8x8192x12x64, .f32⟩
  | .hbm, ⟨44, _⟩ => ⟨S_, .f32⟩
  | .hbm, ⟨45, _⟩ => ⟨S8x8192x12x64, .f32⟩
  | .hbm, ⟨46, _⟩ => ⟨S8x8192x12x64, .f32⟩
  | .hbm, ⟨47, _⟩ => ⟨S8x8192x12x64, .f32⟩
  | .hbm, ⟨48, _⟩ => ⟨S8x8192x12x64, .f32⟩
  | .hbm, ⟨49, _⟩ => ⟨S_, .f32⟩
  | .hbm, ⟨50, _⟩ => ⟨S8x8192x12, .f32⟩
  | .hbm, ⟨51, _⟩ => ⟨S8x8192x12x1, .f32⟩
  | .hbm, ⟨52, _⟩ => ⟨S_, .f32⟩
  | .hbm, ⟨53, _⟩ => ⟨S8x8192x12x1, .f32⟩
  | .hbm, ⟨54, _⟩ => ⟨S8x8192x12x1, .f32⟩
  | .hbm, ⟨55, _⟩ => ⟨S_, .f32⟩
  | .hbm, ⟨56, _⟩ => ⟨S8x8192x12x1, .f32⟩
  | .hbm, ⟨57, _⟩ => ⟨S8x8192x12x1, .f32⟩
  | .hbm, ⟨58, _⟩ => ⟨S8x8192x12x1, .f32⟩
  | .hbm, ⟨59, _⟩ => ⟨S8x8192x12x64, .f32⟩
  | .hbm, ⟨60, _⟩ => ⟨S8x8192x12x64, .f32⟩
  | .hbm, ⟨61, _⟩ => ⟨S1x1x1x64, .f32⟩
  | .hbm, ⟨62, _⟩ => ⟨S8x8192x12x64, .f32⟩
  | .hbm, ⟨63, _⟩ => ⟨S8x8192x12x64, .f32⟩
  | .hbm, ⟨64, _⟩ => ⟨S8x8192x768, .f32⟩
  | .hbm, ⟨65, _⟩ => ⟨S8x8192x768, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== Proof.FrameBits.lean ====
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Pipeline.FrameBody
public import Idealize.ShloMosaic.Lib.Tactic

/-! The scan's frame over words: the body runs to its return from any contents of its buffers, so the launch ends with
its argument arrays as they were and every counter at zero. Nothing is said here of what it computes. -/

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

abbrev sc0 : Memref sig .tc .vmem S136x1280 .f32 := Memref.whole cc0_scratch0
abbrev sc1 : Memref sig .tc .vmem S6x128x128 .f32 := Memref.whole cc0_scratch1

/-- A memref's buffer owned at some contents. -/
abbrev some' (c : Dev nD) {sp : Space} {S : Shape} {e : EltTy} (M : Memref sig .tc sp S e) : sProp 𝕄 :=
  iprop(∃ d, owns (c : Thread nD τ) M fullShare d)

/-- The body runs from any contents of its buffers, the branch at the first chunk of a row taken or not. -/
theorem kernelRun (c : Dev nD) (i : grid0.Coords)
    (arg2 : Memref sig .tc .vmem S1x512x1408 .f32) (harg2 : arg2.IsWhole)
    (arg3 : Memref sig .tc .vmem S4x1280 .f32) (harg3 : arg3.IsWhole)
    (arg4 : Memref sig .tc .vmem S1x1280 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x768 .f32) (harg7 : arg7.IsWhole)
    (arg8 : Memref sig .tc .vmem S128x128 .f32) (harg8 : arg8.IsWhole)
    (arg9 : Memref sig .tc .vmem S1x512x768 .f32) (harg9 : arg9.IsWhole) (K : PUnit → sProp 𝕄) :
    iprop(some' (F := F) c arg2 ∗ some' (F := F) c arg3 ∗ some' (F := F) c arg4 ∗ some' (F := F) c arg5
        ∗ some' (F := F) c arg6 ∗ some' (F := F) c arg7 ∗ some' (F := F) c arg8 ∗ some' (F := F) c arg9
        ∗ some' (F := F) c sc0 ∗ some' (F := F) c sc1
        ∗ (iprop(some' (F := F) c arg2 ∗ some' (F := F) c arg3 ∗ some' (F := F) c arg4 ∗ some' (F := F) c arg5
        ∗ some' (F := F) c arg6 ∗ some' (F := F) c arg7 ∗ some' (F := F) c arg8 ∗ some' (F := F) c arg9
        ∗ some' (F := F) c sc0 ∗ some' (F := F) c sc1) -∗ K ⟨⟩))
      ⊢ wp frame (wpE (defs₀ (F := F)) Variants.none c none) Set.univ
          (cc0_ssd_scan i arg2 harg2 arg3 harg3 arg4 harg4 arg5 harg5 arg6 harg6 arg7 harg7 arg8 harg8 arg9 harg9
            sc0 (Memref.isWhole_whole _) sc1 (Memref.isWhole_whole _)) K := by
  simp only [cc0_ssd_scan_eq_skeleton]; unfold cc0_ssd_scan_skel
  unfold some' owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%da, %fa, -, Ha⟩, ⟨%db, %fb, -, Hb⟩, Hk⟩
  by_cases hc : Scalar.cmpi .ne (Scalar.extui (Scalar.cmpi .eq (BitVec.ofNat 32 (i 1).val) 0#32) : BitVec 32) 0#32 = 1#1
  all_goals
    sl_exec (disch := sl_exact hc)
    sl_step
    iapply Hk
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [Ha]
    · iexists _, _; isplitr; swap; · iexact Ha
      ipureintro; rfl
    iexists _, _; isplitr; swap; · iexact Hb
    ipureintro; rfl

/-! ## The launch -/

/-- Nothing is said of any window: the body's frame needs none of their contents. -/
def fgt0 : Fin 8 → Bool := fun _ => true

def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

theorem PhiA_eq (c : Dev nD) :
    (Pipeline.ΦA spec0 c : sProp 𝕄) = iprop((some' (F := F) c sc0 ∗ some' (F := F) c sc1) ∗ (∃ r, prngReg c r)) := by
  unfold Pipeline.ΦA; rw [scopedRest0_eq]; simp only [some', sc0, sc1, owns_whole]; try rfl

def windows (c : Dev nD) (t : Fin cfg0.N) : sProp 𝕄 :=
  iprop(some' (F := F) c (win0_0.stage (cfg0.slots t 0)) ∗ some' (F := F) c (win0_1.stage (cfg0.slots t 1))
    ∗ some' (F := F) c (win0_2.stage (cfg0.slots t 2)) ∗ some' (F := F) c (win0_3.stage (cfg0.slots t 3))
    ∗ some' (F := F) c (win0_4.stage (cfg0.slots t 4)) ∗ some' (F := F) c (win0_5.stage (cfg0.slots t 5))
    ∗ some' (F := F) c (win0_6.stage (cfg0.slots t 6)) ∗ some' (F := F) c (win0_7.stage (cfg0.slots t 7)))

def bodyPre (c : Dev nD) (t : Fin cfg0.N) : sProp 𝕄 :=
  iprop((dats m 0 c).Φ t.castSucc ∗ (dats m 0 c).owesAt () t.castSucc ∗ windows (F := F) c t)
def bodyPost (c : Dev nD) (t : Fin cfg0.N) : sProp 𝕄 :=
  iprop((dats m 0 c).Φ t.succ ∗ (dats m 0 c).owesAt () t.succ ∗ windows (F := F) c t)

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  unfold windows
  iintro ⟨⟨⟨Ha, Hb⟩, Hg⟩, HO, H2, H3, H4, H5, H6, H7, H8, H9⟩
  iapply (kernelRun c (grid0.coords t) _ _ _ _ _ _ _ _ _ _ _ _ _ _ _ _ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Ha]; · iexact Ha
  isplitl [Hb]; · iexact Hb
  iintro ⟨H2, H3, H4, H5, H6, H7, H8, H9, Ha, Hb⟩
  isplitl [Ha Hb Hg]
  · isplitl [Ha Hb]
    · isplitl [Ha]; · iexact Ha
      iexact Hb
    iexact Hg
  isplitl [HO]; · iexact HO
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ fgt0 := fun t => by
  rw [bigSep_W0, bigSep_W0, defs₀_row]
  exact triple_restated (sound_body m c t) rfl .rfl fun _ => .rfl

set_option backward.isDefEq.respectTransparency.types false in
theorem run_main :
    θ_run defs (onTc (τ := τ) (main (F := F))) (s₀ m ρ)
      (fun r => Pipeline.RDat.FramePost (cfgs 0) (fun c => (dats m 0 c).toRForget fgt0) (V m) r ∧ r.2.sem = fun _ => 0) :=
  Pipeline.θ_run_frame_forget (Q' := _) cfgs (dats m) (0 : Fin 1) launch0 defs₀ Variants.none fgt0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- The frame claim's post, and the counters at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨(h.1.arr_in c 0 rfl).trans (V_main_arg0 m c),
      (h.1.arr_in c 1 rfl).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩)
    (run_main m ρ)

end Cert.Kernel.Hand
-- ==== Proof.Cells.lean ====
module

public import proofs.«01_k».proof.Proof.Gen.KernelIdeal.Skeleton

/-! The scan's work on one chunk of 128 rows, written once for every pair of heads: the lanes of a pair are 128 columns
of the convolved inputs, the first 64 of head `hA`, the others of head `hB`. -/

@[expose] public section

noncomputable section

namespace Cert.KernelIdeal.Chunk

open Idealize.ShloMosaic Cert.KernelIdeal.Gen

variable {F : FTy → Type} [FloatOps F] [Named F]

/-- What a chunk reads: the rows (with the 8 before them), the convolution's taps and bias, the raw step sizes, their
bias, the logarithms of the rates, and the lower triangle. -/
structure In (F : FTy → Type) where
  xe : FVec F S136x1280 .f32
  w0 : FVec F S1x1280 .f32
  w1 : FVec F S1x1280 .f32
  w2 : FVec F S1x1280 .f32
  w3 : FVec F S1x1280 .f32
  cb : FVec F S1x1280 .f32
  D : FVec F S1x128x128 .f32
  dtb : FVec F S1x128 .f32
  alog : FVec F S1x128 .f32
  tril : FVec F S128x128 .f32

/-- The convolved and gated rows. -/
def act (I : In F) : FVec F S128x1280 .f32 := k0_pay8 (k0_pay5 I.xe I.cb I.w3 I.w2 I.w1 I.w0)

/-- The step sizes, row by head. -/
def dt (I : In F) : FVec F S128x128 .f32 := k0_pay9 I.D I.dtb

/-- The logarithm (base 2) of a row's decay, row by head. -/
def lda (I : In F) : FVec F S128x128 .f32 := k0_pay10 I.D I.dtb I.alog

/-- Its running sum down the chunk. -/
def cum (I : In F) : FVec F S128x128 .f32 := k0_pay11 (lda I) I.tril

/-- The running sum less the step's logarithm, head by row. -/
def rt (I : In F) : FVec F S16x128 .f32 := k0_pay14 (dt I) (lda I) I.tril

/-- The chunk's sum, head by one. -/
def last (I : In F) : FVec F S16x1 .f32 := k0_pay13 (lda I) I.tril

/-- The lanes of a pair's first head. -/
def low : IVec S1x128 1 := k0_pay18 (iota .tc S1x128 32 [1] iota_S1x128_d1_w32)

/-- A column block of the convolved rows. -/
def cols (I : In F) (o : Nat) (h : S128x1280.Slices ![0, o] S128x128) : FVec F S128x128 .f32 :=
  extractStridedSlice S128x128 ![0, o] (act I) h

/-- The products of a group's output and input columns, row by row. -/
def cbm (I : In F) (ob oc : Nat) (hb : S128x1280.Slices ![0, ob] S128x128) (hc : S128x1280.Slices ![0, oc] S128x128) :
    FVec F S128x128 .f32 :=
  matmul dot_S128x128_S128x128_S128x128_1_1_0_0_n_n none (truncf .bf16 (cols I oc hc) bitsLt_bf16_f32)
    (truncf .bf16 (cols I ob hb) bitsLt_bf16_f32) (constant S128x128 .f32 0x00000000#32)

/-- A pair's inputs with the second head's lanes cleared. -/
def xlo (I : In F) (o : Nat) (h : S128x1280.Slices ![0, o] S128x128) : FVec F S128x128 .bf16 :=
  truncf .bf16 (select (broadcastTo S128x128 (shapeCast S1x128 low shapeCasts_S1x128_S1x128) broadcasts_S1x128_S128x128)
    (cols I o h) (broadcast S128x128 (Scalar.ofBits .f32 0x00000000#32))) bitsLt_bf16_f32

/-- A pair's inputs with the first head's lanes cleared. -/
def xhi (I : In F) (o : Nat) (h : S128x1280.Slices ![0, o] S128x128) : FVec F S128x128 .bf16 :=
  truncf .bf16 (select (broadcastTo S128x128 (shapeCast S1x128 low shapeCasts_S1x128_S1x128) broadcasts_S1x128_S128x128)
    (broadcast S128x128 (Scalar.ofBits .f32 0x00000000#32)) (cols I o h)) bitsLt_bf16_f32

/-- The weight of row `s` in row `l` for one head, none above the diagonal. -/
def mix (I : In F) (ob oc : Nat) (hb : S128x1280.Slices ![0, ob] S128x128) (hc : S128x1280.Slices ![0, oc] S128x128)
    (a : Nat) (h1 : S128x128.Slices ![0, a] S128x1) (h2 : S16x128.Slices ![a, 0] S1x128) : FVec F S128x128 .bf16 :=
  truncf .bf16 (mulf (cbm I ob oc hb hc) (exp2 (select k0_pay17
    (subf (broadcastTo S128x128 (extractStridedSlice S128x1 ![0, a] (cum I) h1) broadcasts_S128x1_S128x128)
      (broadcastTo S128x128 (extractStridedSlice S1x128 ![a, 0] (rt I) h2) broadcasts_S1x128_S128x128))
    (broadcast S128x128 (Scalar.ofBits .f32 0xFF800000#32))))) bitsLt_bf16_f32

/-- The weight of row `l` in the chunk's contribution to the state, times the group's input columns (transposed). -/
def into (I : In F) (ob : Nat) (hb : S128x1280.Slices ![0, ob] S128x128) (a : Nat)
    (h2 : S16x128.Slices ![a, 0] S1x128) : FVec F S128x128 .bf16 :=
  truncf .bf16 (mulf (transpose S128x128 [1, 0] (cols I ob hb) transposes_S128x128_p1_0_S128x128)
    (broadcastTo S128x128 (extractStridedSlice S1x128 ![a, 0]
      (exp2 (subf (broadcastTo S16x128 (last I) broadcasts_S16x1_S16x128) (rt I))) h2) broadcasts_S1x128_S128x128))
    bitsLt_bf16_f32

/-- The output of a pair's columns. -/
def outT (I : In F) (o ob oc a b : Nat) (h : S128x1280.Slices ![0, o] S128x128)
    (hb : S128x1280.Slices ![0, ob] S128x128) (hc : S128x1280.Slices ![0, oc] S128x128)
    (ha1 : S128x128.Slices ![0, a] S128x1) (ha2 : S16x128.Slices ![a, 0] S1x128)
    (hb1 : S128x128.Slices ![0, b] S128x1) (hb2 : S16x128.Slices ![b, 0] S1x128)
    (st : FVec F S1x128x128 .f32) (dsk : FVec F S1x128 .f32) : FVec F S1x128x128 .f32 :=
  shapeCast S1x128x128 (addf (addf
    (addf (matmul dot_S128x128_S128x128_S128x128_1_0_0_1_n_n none (mix I ob oc hb hc a ha1 ha2) (xlo I o h)
        (constant S128x128 .f32 0x00000000#32))
      (matmul dot_S128x128_S128x128_S128x128_1_0_0_1_n_n none (mix I ob oc hb hc b hb1 hb2) (xhi I o h)
        (constant S128x128 .f32 0x00000000#32)))
    (mulf (matmul dot_S128x128_S128x128_S128x128_1_0_0_1_n_n none (truncf .bf16 (cols I oc hc) bitsLt_bf16_f32)
        (truncf .bf16 (shapeCast S128x128 st shapeCasts_S1x128x128_S128x128) bitsLt_bf16_f32)
        (constant S128x128 .f32 0x00000000#32))
      (select (broadcastTo S128x128 (shapeCast S1x128 low shapeCasts_S1x128_S1x128) broadcasts_S1x128_S128x128)
        (broadcastTo S128x128 (shapeCast S128x1 (extractStridedSlice S128x1 ![0, a] (exp2 (cum I)) ha1)
          shapeCasts_S128x1_S128x1) broadcasts_S128x1_S128x128)
        (broadcastTo S128x128 (shapeCast S128x1 (extractStridedSlice S128x1 ![0, b] (exp2 (cum I)) hb1)
          shapeCasts_S128x1_S128x1) broadcasts_S128x1_S128x128))))
    (mulf (cols I o h) (broadcastTo S128x128 (shapeCast S1x128 dsk shapeCasts_S1x128_S1x128)
      broadcasts_S1x128_S128x128))) shapeCasts_S128x128_S1x128x128

/-- The state after the chunk, of a pair's columns. -/
def stT (I : In F) (o ob a b : Nat) (h : S128x1280.Slices ![0, o] S128x128)
    (hb : S128x1280.Slices ![0, ob] S128x128)
    (ha2 : S16x128.Slices ![a, 0] S1x128) (ha3 : S16x1.Slices ![a, 0] S1x1)
    (hb2 : S16x128.Slices ![b, 0] S1x128) (hb3 : S16x1.Slices ![b, 0] S1x1)
    (st : FVec F S1x128x128 .f32) : FVec F S1x128x128 .f32 :=
  shapeCast S1x128x128 (addf
    (mulf (shapeCast S128x128 st shapeCasts_S1x128x128_S128x128)
      (broadcastTo S128x128 (select low
        (broadcastTo S1x128 (shapeCast S1x1 (extractStridedSlice S1x1 ![a, 0] (exp2 (last I)) ha3)
          shapeCasts_S1x1_S1x1) broadcasts_S1x1_S1x128)
        (broadcastTo S1x128 (shapeCast S1x1 (extractStridedSlice S1x1 ![b, 0] (exp2 (last I)) hb3)
          shapeCasts_S1x1_S1x1) broadcasts_S1x1_S1x128)) broadcasts_S1x128_S128x128))
    (addf (matmul dot_S128x128_S128x128_S128x128_1_0_0_1_n_n none (into I ob hb a ha2) (xlo I o h)
        (constant S128x128 .f32 0x00000000#32))
      (matmul dot_S128x128_S128x128_S128x128_1_0_0_1_n_n none (into I ob hb b hb2) (xhi I o h)
        (constant S128x128 .f32 0x00000000#32)))) shapeCasts_S128x128_S1x128x128

/-- The output tile of pair `p`. -/
def out0 (I : In F) (st : FVec F S1x128x128 .f32) (dsk : FVec F S1x128 .f32) : FVec F S1x128x128 .f32 :=
  outT I 0 768 1024 0 1 (by decide) (by decide) (by decide) (by decide) (by decide) (by decide) (by decide) st dsk
def out1 (I : In F) (st : FVec F S1x128x128 .f32) (dsk : FVec F S1x128 .f32) : FVec F S1x128x128 .f32 :=
  outT I 128 768 1024 2 3 (by decide) (by decide) (by decide) (by decide) (by decide) (by decide) (by decide) st dsk
def out2 (I : In F) (st : FVec F S1x128x128 .f32) (dsk : FVec F S1x128 .f32) : FVec F S1x128x128 .f32 :=
  outT I 256 768 1024 4 5 (by decide) (by decide) (by decide) (by decide) (by decide) (by decide) (by decide) st dsk
def out3 (I : In F) (st : FVec F S1x128x128 .f32) (dsk : FVec F S1x128 .f32) : FVec F S1x128x128 .f32 :=
  outT I 384 896 1152 6 7 (by decide) (by decide) (by decide) (by decide) (by decide) (by decide) (by decide) st dsk
def out4 (I : In F) (st : FVec F S1x128x128 .f32) (dsk : FVec F S1x128 .f32) : FVec F S1x128x128 .f32 :=
  outT I 512 896 1152 8 9 (by decide) (by decide) (by decide) (by decide) (by decide) (by decide) (by decide) st dsk
def out5 (I : In F) (st : FVec F S1x128x128 .f32) (dsk : FVec F S1x128 .f32) : FVec F S1x128x128 .f32 :=
  outT I 640 896 1152 10 11 (by decide) (by decide) (by decide) (by decide) (by decide) (by decide) (by decide) st dsk
def st0 (I : In F) (st : FVec F S1x128x128 .f32) : FVec F S1x128x128 .f32 :=
  stT I 0 768 0 1 (by decide) (by decide) (by decide) (by decide) (by decide) (by decide) st
def st1 (I : In F) (st : FVec F S1x128x128 .f32) : FVec F S1x128x128 .f32 :=
  stT I 128 768 2 3 (by decide) (by decide) (by decide) (by decide) (by decide) (by decide) st
def st2 (I : In F) (st : FVec F S1x128x128 .f32) : FVec F S1x128x128 .f32 :=
  stT I 256 768 4 5 (by decide) (by decide) (by decide) (by decide) (by decide) (by decide) st
def st3 (I : In F) (st : FVec F S1x128x128 .f32) : FVec F S1x128x128 .f32 :=
  stT I 384 896 6 7 (by decide) (by decide) (by decide) (by decide) (by decide) (by decide) st
def st4 (I : In F) (st : FVec F S1x128x128 .f32) : FVec F S1x128x128 .f32 :=
  stT I 512 896 8 9 (by decide) (by decide) (by decide) (by decide) (by decide) (by decide) st
def st5 (I : In F) (st : FVec F S1x128x128 .f32) : FVec F S1x128x128 .f32 :=
  stT I 640 896 10 11 (by decide) (by decide) (by decide) (by decide) (by decide) (by decide) st

end Cert.KernelIdeal.Chunk
-- ==== Proof.Trip.lean ====
module

public import proofs.«01_k».proof.Proof.Cells
public import proofs.«01_k».proof.Proof.Gen.KernelIdeal.Loops

/-! The pieces that one chunk's trip stores, as the chunk's functions of what the trip reads. -/

@[expose] public section

set_option maxRecDepth 16384
set_option maxHeartbeats 4000000

noncomputable section

namespace Cert.KernelIdeal.Chunk

open Idealize.ShloMosaic Idealize.ShloMosaic.TcCoe Cert.KernelIdeal.Gen

variable {F : FTy → Type} [FloatOps F] [Named F]

variable (𝒱 : Variants) (c : Dev nD) (bd : Option 𝒱.V) (i : grid0.Coords)
  (arg2 : Memref sig .tc .vmem S1x512x1408 .f32) (harg2 : arg2.IsWhole)
  (arg3 : Memref sig .tc .vmem S4x1280 .f32) (harg3 : arg3.IsWhole)
  (arg4 : Memref sig .tc .vmem S1x1280 .f32) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S1x768 .f32) (harg7 : arg7.IsWhole)
  (arg8 : Memref sig .tc .vmem S128x128 .f32) (harg8 : arg8.IsWhole)
  (arg9 : Memref sig .tc .vmem S1x512x768 .f32) (harg9 : arg9.IsWhole)
  (arg10 : Memref sig .tc .vmem S136x1280 .f32) (harg10 : arg10.IsWhole)
  (arg11 : Memref sig .tc .vmem S6x128x128 .f32) (harg11 : arg11.IsWhole)
  (X2 : arg2.view.ty.Contents (Elt F)) (X3 : arg3.view.ty.Contents (Elt F)) (X4 : arg4.view.ty.Contents (Elt F))
  (X5 : arg5.view.ty.Contents (Elt F)) (X6 : arg6.view.ty.Contents (Elt F)) (X7 : arg7.view.ty.Contents (Elt F))
  (X8 : arg8.view.ty.Contents (Elt F)) (k : Fin k0_t1_loop.trips)
  (f9 : arg9.view.ty.Contents (Elt F)) (f10 : arg10.view.ty.Contents (Elt F)) (f11 : arg11.view.ty.Contents (Elt F))

theorem low_eq : k0_pay18 (iota .tc S1x128 32 [1] iota_S1x128_d1_w32) = low := rfl

/-- What a trip reads, from the buffers' contents. -/
def inOf (xe : FVec F S136x1280 .f32) : In F where
  xe := xe
  w0 := arg3.view.readAt (Elt F) (Rect.unit (s := S4x1280) ![0, 0] S1x1280.size inb_S4x1280_S1x1280_0_0).toLoadRect X3
  w1 := arg3.view.readAt (Elt F) (Rect.unit (s := S4x1280) ![1, 0] S1x1280.size inb_S4x1280_S1x1280_1_0).toLoadRect X3
  w2 := arg3.view.readAt (Elt F) (Rect.unit (s := S4x1280) ![2, 0] S1x1280.size inb_S4x1280_S1x1280_2_0).toLoadRect X3
  w3 := arg3.view.readAt (Elt F) (Rect.unit (s := S4x1280) ![3, 0] S1x1280.size inb_S4x1280_S1x1280_3_0).toLoadRect X3
  cb := arg4.view.readAt (Elt F) (Rect.unit (s := S1x1280) ![0, 0] S1x1280.size inb_S1x1280_S1x1280_0_0).toLoadRect X4
  D := arg2.view.readAt (Elt F) (Rect.unit (s := S1x512x1408) (k0_off2 k) S1x128x128.size (k0_off2_inb k)).toLoadRect X2
  dtb := arg5.view.readAt (Elt F) (Rect.unit (s := S1x128) ![0, 0] S1x128.size inb_S1x128_S1x128_0_0).toLoadRect X5
  alog := arg6.view.readAt (Elt F) (Rect.unit (s := S1x128) ![0, 0] S1x128.size inb_S1x128_S1x128_0_0).toLoadRect X6
  tril := arg8.view.readAt (Elt F) (Rect.unit (s := S128x128) ![0, 0] S128x128.size inb_S128x128_S128x128_0_0).toLoadRect X8

/-- The chunk's rows, as the trip loads them. -/
def rows : FVec F S1x128x1280 .f32 :=
  arg2.view.readAt (Elt F) (Rect.unit (s := S1x512x1408) (k0_off1 k) S1x128x1280.size (k0_off1_inb k)).toLoadRect X2

/-- The rows with the 8 before them, as the trip reads them back. -/
def ext : FVec F S136x1280 .f32 :=
  arg10.view.readAt (Elt F) (Rect.unit (s := S136x1280) ![0, 0] S136x1280.size inb_S136x1280_S136x1280_0_0).toLoadRect
    (arg10.view.writes (Elt F) f10
      [⟨Rect.unit (s := S136x1280) ![8, 0] S128x1280.size inb_S136x1280_S128x1280_8_0, k0_pay4 (rows arg2 X2 k)⟩])

theorem trip10 :
    (trip_k0_t1 (F := F) 𝒱 c bd i arg2 harg2 arg3 harg3 arg4 harg4 arg5 harg5 arg6 harg6 arg7 harg7 arg8 harg8 arg9 harg9
      arg10 harg10 arg11 harg11 X2 X3 X4 X5 X6 X7 X8 k).2.1 f9 f10 f11
    = [⟨Rect.unit (s := S136x1280) ![0, 0] S8x1280.size inb_S136x1280_S8x1280_0_0,
        k0_pay7 (k0_pay6 (ext arg2 arg10 X2 k f10))⟩,
       ⟨Rect.unit (s := S136x1280) ![8, 0] S128x1280.size inb_S136x1280_S128x1280_8_0, k0_pay4 (rows arg2 X2 k)⟩] := by
  unfold trip_k0_t1
  rfl

theorem trip11 :
    (trip_k0_t1 (F := F) 𝒱 c bd i arg2 harg2 arg3 harg3 arg4 harg4 arg5 harg5 arg6 harg6 arg7 harg7 arg8 harg8 arg9 harg9
      arg10 harg10 arg11 harg11 X2 X3 X4 X5 X6 X7 X8 k).2.2.1 f9 f10 f11
    = [⟨Rect.unit (s := S6x128x128) ![5, 0, 0] S1x128x128.size inb_S6x128x128_S1x128x128_5_0_0,
        st5 (inOf arg2 arg3 arg4 arg5 arg6 arg8 X2 X3 X4 X5 X6 X8 k (ext arg2 arg10 X2 k f10))
          (arg11.view.readAt (Elt F) (Rect.unit (s := S6x128x128) ![5, 0, 0] S1x128x128.size inb_S6x128x128_S1x128x128_5_0_0).toLoadRect f11)⟩,
       ⟨Rect.unit (s := S6x128x128) ![4, 0, 0] S1x128x128.size inb_S6x128x128_S1x128x128_4_0_0,
        st4 (inOf arg2 arg3 arg4 arg5 arg6 arg8 X2 X3 X4 X5 X6 X8 k (ext arg2 arg10 X2 k f10))
          (arg11.view.readAt (Elt F) (Rect.unit (s := S6x128x128) ![4, 0, 0] S1x128x128.size inb_S6x128x128_S1x128x128_4_0_0).toLoadRect f11)⟩,
       ⟨Rect.unit (s := S6x128x128) ![3, 0, 0] S1x128x128.size inb_S6x128x128_S1x128x128_3_0_0,
        st3 (inOf arg2 arg3 arg4 arg5 arg6 arg8 X2 X3 X4 X5 X6 X8 k (ext arg2 arg10 X2 k f10))
          (arg11.view.readAt (Elt F) (Rect.unit (s := S6x128x128) ![3, 0, 0] S1x128x128.size inb_S6x128x128_S1x128x128_3_0_0).toLoadRect f11)⟩,
       ⟨Rect.unit (s := S6x128x128) ![2, 0, 0] S1x128x128.size inb_S6x128x128_S1x128x128_2_0_0,
        st2 (inOf arg2 arg3 arg4 arg5 arg6 arg8 X2 X3 X4 X5 X6 X8 k (ext arg2 arg10 X2 k f10))
          (arg11.view.readAt (Elt F) (Rect.unit (s := S6x128x128) ![2, 0, 0] S1x128x128.size inb_S6x128x128_S1x128x128_2_0_0).toLoadRect f11)⟩,
       ⟨Rect.unit (s := S6x128x128) ![1, 0, 0] S1x128x128.size inb_S6x128x128_S1x128x128_1_0_0,
        st1 (inOf arg2 arg3 arg4 arg5 arg6 arg8 X2 X3 X4 X5 X6 X8 k (ext arg2 arg10 X2 k f10))
          (arg11.view.readAt (Elt F) (Rect.unit (s := S6x128x128) ![1, 0, 0] S1x128x128.size inb_S6x128x128_S1x128x128_1_0_0).toLoadRect f11)⟩,
       ⟨Rect.unit (s := S6x128x128) ![0, 0, 0] S1x128x128.size inb_S6x128x128_S1x128x128_0_0_0,
        st0 (inOf arg2 arg3 arg4 arg5 arg6 arg8 X2 X3 X4 X5 X6 X8 k (ext arg2 arg10 X2 k f10))
          (arg11.view.readAt (Elt F) (Rect.unit (s := S6x128x128) ![0, 0, 0] S1x128x128.size inb_S6x128x128_S1x128x128_0_0_0).toLoadRect f11)⟩] := by
  unfold trip_k0_t1
  rfl

theorem trip9 :
    (trip_k0_t1 (F := F) 𝒱 c bd i arg2 harg2 arg3 harg3 arg4 harg4 arg5 harg5 arg6 harg6 arg7 harg7 arg8 harg8 arg9 harg9
      arg10 harg10 arg11 harg11 X2 X3 X4 X5 X6 X7 X8 k).1 f9 f10 f11
    = [⟨Rect.unit (s := S1x512x768) (k0_off8 k) S1x128x128.size (k0_off8_inb k),
        out5 (inOf arg2 arg3 arg4 arg5 arg6 arg8 X2 X3 X4 X5 X6 X8 k (ext arg2 arg10 X2 k f10))
          (arg11.view.readAt (Elt F) (Rect.unit (s := S6x128x128) ![5, 0, 0] S1x128x128.size inb_S6x128x128_S1x128x128_5_0_0).toLoadRect f11)
          (arg7.view.readAt (Elt F) (Rect.unit (s := S1x768) ![0, 640] S1x128.size inb_S1x768_S1x128_0_640).toLoadRect X7)⟩,
       ⟨Rect.unit (s := S1x512x768) (k0_off7 k) S1x128x128.size (k0_off7_inb k),
        out4 (inOf arg2 arg3 arg4 arg5 arg6 arg8 X2 X3 X4 X5 X6 X8 k (ext arg2 arg10 X2 k f10))
          (arg11.view.readAt (Elt F) (Rect.unit (s := S6x128x128) ![4, 0, 0] S1x128x128.size inb_S6x128x128_S1x128x128_4_0_0).toLoadRect f11)
          (arg7.view.readAt (Elt F) (Rect.unit (s := S1x768) ![0, 512] S1x128.size inb_S1x768_S1x128_0_512).toLoadRect X7)⟩,
       ⟨Rect.unit (s := S1x512x768) (k0_off6 k) S1x128x128.size (k0_off6_inb k),
        out3 (inOf arg2 arg3 arg4 arg5 arg6 arg8 X2 X3 X4 X5 X6 X8 k (ext arg2 arg10 X2 k f10))
          (arg11.view.readAt (Elt F) (Rect.unit (s := S6x128x128) ![3, 0, 0] S1x128x128.size inb_S6x128x128_S1x128x128_3_0_0).toLoadRect f11)
          (arg7.view.readAt (Elt F) (Rect.unit (s := S1x768) ![0, 384] S1x128.size inb_S1x768_S1x128_0_384).toLoadRect X7)⟩,
       ⟨Rect.unit (s := S1x512x768) (k0_off5 k) S1x128x128.size (k0_off5_inb k),
        out2 (inOf arg2 arg3 arg4 arg5 arg6 arg8 X2 X3 X4 X5 X6 X8 k (ext arg2 arg10 X2 k f10))
          (arg11.view.readAt (Elt F) (Rect.unit (s := S6x128x128) ![2, 0, 0] S1x128x128.size inb_S6x128x128_S1x128x128_2_0_0).toLoadRect f11)
          (arg7.view.readAt (Elt F) (Rect.unit (s := S1x768) ![0, 256] S1x128.size inb_S1x768_S1x128_0_256).toLoadRect X7)⟩,
       ⟨Rect.unit (s := S1x512x768) (k0_off4 k) S1x128x128.size (k0_off4_inb k),
        out1 (inOf arg2 arg3 arg4 arg5 arg6 arg8 X2 X3 X4 X5 X6 X8 k (ext arg2 arg10 X2 k f10))
          (arg11.view.readAt (Elt F) (Rect.unit (s := S6x128x128) ![1, 0, 0] S1x128x128.size inb_S6x128x128_S1x128x128_1_0_0).toLoadRect f11)
          (arg7.view.readAt (Elt F) (Rect.unit (s := S1x768) ![0, 128] S1x128.size inb_S1x768_S1x128_0_128).toLoadRect X7)⟩,
       ⟨Rect.unit (s := S1x512x768) (k0_off3 k) S1x128x128.size (k0_off3_inb k),
        out0 (inOf arg2 arg3 arg4 arg5 arg6 arg8 X2 X3 X4 X5 X6 X8 k (ext arg2 arg10 X2 k f10))
          (arg11.view.readAt (Elt F) (Rect.unit (s := S6x128x128) ![0, 0, 0] S1x128x128.size inb_S6x128x128_S1x128x128_0_0_0).toLoadRect f11)
          (arg7.view.readAt (Elt F) (Rect.unit (s := S1x768) ![0, 0] S1x128.size inb_S1x768_S1x128_0_0).toLoadRect X7)⟩] := by
  unfold trip_k0_t1
  rfl

end Cert.KernelIdeal.Chunk
-- ==== Proof.Loop.lean ====
module

public import proofs.«01_k».proof.Proof.Trip
public import Idealize.ShloMosaic.Lib.Pointwise
public import Idealize.ShloMosaic.Lib.WritesUnit
public import Idealize.ShloMosaic.Lib.VecWindow

/-! A grid point's four chunks in order, as a recursion on values: the last 8 rows read and the state, and what each chunk
puts out. The pieces stored by the trips are this recursion. -/

@[expose] public section

set_option maxRecDepth 16384
set_option maxHeartbeats 1000000

noncomputable section

namespace Cert.KernelIdeal.Chunk

open Idealize.ShloMosaic Idealize.ShloMosaic.TcCoe Cert.KernelIdeal.Gen

variable {F : FTy → Type} [FloatOps F] [Named F]

/-- What a grid point's buffers hold. -/
structure Blk (F : FTy → Type) where
  x : FVec F S1x512x1408 .f32
  w : FVec F S4x1280 .f32
  cb : FVec F S1x1280 .f32
  dtb : FVec F S1x128 .f32
  alog : FVec F S1x128 .f32
  dsk : FVec F S1x768 .f32
  tril : FVec F S128x128 .f32

/-- What is carried from chunk to chunk: the last 8 rows and the six state planes. -/
structure St (F : FTy → Type) where
  tail : FVec F S8x1280 .f32
  st : FVec F S6x128x128 .f32

def plane (st : FVec F S6x128x128 .f32) (p : Fin 6) : FVec F S1x128x128 .f32 := fun x => st (ix3 p (x 1) (x 2))

/-- Chunk `k`'s rows. -/
def Blk.rows (B : Blk F) (k : Fin 4) : FVec F S1x128x1280 .f32 := fun x =>
  B.x (ix3 0 ⟨128 * k.val + (x 1).val, by have h := (x 1).isLt; change (x 1).val < 128 at h; omega⟩
    ⟨(x 2).val, by have h := (x 2).isLt; change (x 2).val < 1280 at h; omega⟩)

/-- Chunk `k`'s raw step sizes. -/
def Blk.steps (B : Blk F) (k : Fin 4) : FVec F S1x128x128 .f32 := fun x =>
  B.x (ix3 0 ⟨128 * k.val + (x 1).val, by have h := (x 1).isLt; change (x 1).val < 128 at h; omega⟩
    ⟨1280 + (x 2).val, by have h := (x 2).isLt; change (x 2).val < 128 at h; omega⟩)

/-- The rows behind the 8 before them. -/
def behind (tail : FVec F S8x1280 .f32) (r : FVec F S1x128x1280 .f32) : FVec F S136x1280 .f32 := fun x =>
  if h : (x 0).val < 8 then tail (ix2 ⟨(x 0).val, h⟩ (x 1))
  else r (ix3 0 ⟨(x 0).val - 8, by have h := (x 0).isLt; change (x 0).val < 136 at h; omega⟩ (x 1))

def Blk.inp (B : Blk F) (k : Fin 4) (s : St F) : In F where
  xe := behind s.tail (B.rows k)
  w0 := fun x => B.w (ix2 0 (x 1))
  w1 := fun x => B.w (ix2 1 (x 1))
  w2 := fun x => B.w (ix2 2 (x 1))
  w3 := fun x => B.w (ix2 3 (x 1))
  cb := B.cb
  D := B.steps k
  dtb := B.dtb
  alog := B.alog
  tril := B.tril

/-- The new state of pair `p`. -/
def stP (p : Fin 6) (I : In F) (s : FVec F S1x128x128 .f32) : FVec F S1x128x128 .f32 :=
  match p with
  | 0 => st0 I s | 1 => st1 I s | 2 => st2 I s | 3 => st3 I s | 4 => st4 I s | 5 => st5 I s

/-- The output of pair `p`. -/
def outP (p : Fin 6) (I : In F) (s : FVec F S1x128x128 .f32) (d : FVec F S1x128 .f32) : FVec F S1x128x128 .f32 :=
  match p with
  | 0 => out0 I s d | 1 => out1 I s d | 2 => out2 I s d | 3 => out3 I s d | 4 => out4 I s d | 5 => out5 I s d

def Blk.skip (B : Blk F) (p : Fin 6) : FVec F S1x128 .f32 := fun x =>
  B.dsk (ix2 0 ⟨128 * p.val + (x 1).val, by have h := (x 1).isLt; change (x 1).val < 128 at h; omega⟩)

/-- What chunk `k` leaves. -/
def Blk.next (B : Blk F) (k : Fin 4) (s : St F) : St F where
  tail := fun x => behind s.tail (B.rows k)
    (ix2 ⟨128 + (x 0).val, by have h := (x 0).isLt; change (x 0).val < 8 at h; omega⟩ (x 1))
  st := fun y => stP (y 0) (B.inp k s) (plane s.st (y 0)) (ix3 0 (y 1) (y 2))

/-- What chunk `k` puts out. -/
def Blk.out (B : Blk F) (k : Fin 4) (s : St F) : FVec F ⟨3, ![1, 128, 768]⟩ .f32 := fun x =>
  outP ⟨(x 2).val / 128, by have h := (x 2).isLt; change (x 2).val < 768 at h; omega⟩ (B.inp k s)
    (plane s.st ⟨(x 2).val / 128, by have h := (x 2).isLt; change (x 2).val < 768 at h; omega⟩)
    (B.skip ⟨(x 2).val / 128, by have h := (x 2).isLt; change (x 2).val < 768 at h; omega⟩)
    (ix3 0 (x 1) ⟨(x 2).val % 128, Nat.mod_lt _ (by omega)⟩)

/-- What is carried into chunk `k` of a point that was entered with `s`. -/
def Blk.iter (B : Blk F) (s : St F) : ℕ → St F
  | 0 => s
  | k + 1 => if h : k < 4 then B.next ⟨k, h⟩ (B.iter s k) else B.iter s k

/-- What a point puts out. -/
def Blk.res (B : Blk F) (s : St F) : FVec F S1x512x768 .f32 := fun y =>
  B.out ⟨(y 1).val / 128, by have h := (y 1).isLt; change (y 1).val < 512 at h; omega⟩ (B.iter s ((y 1).val / 128))
    (ix3 0 ⟨(y 1).val % 128, Nat.mod_lt _ (by omega)⟩ (y 2))

variable (𝒱 : Variants) (c : Dev nD) (bd : Option 𝒱.V) (i : grid0.Coords)
  (arg2 : Memref sig .tc .vmem S1x512x1408 .f32) (harg2 : arg2.IsWhole)
  (arg3 : Memref sig .tc .vmem S4x1280 .f32) (harg3 : arg3.IsWhole)
  (arg4 : Memref sig .tc .vmem S1x1280 .f32) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S1x768 .f32) (harg7 : arg7.IsWhole)
  (arg8 : Memref sig .tc .vmem S128x128 .f32) (harg8 : arg8.IsWhole)
  (arg9 : Memref sig .tc .vmem S1x512x768 .f32) (harg9 : arg9.IsWhole)
  (arg10 : Memref sig .tc .vmem S136x1280 .f32) (harg10 : arg10.IsWhole)
  (arg11 : Memref sig .tc .vmem S6x128x128 .f32) (harg11 : arg11.IsWhole)
  (X2 : arg2.view.ty.Contents (Elt F)) (X3 : arg3.view.ty.Contents (Elt F)) (X4 : arg4.view.ty.Contents (Elt F))
  (X5 : arg5.view.ty.Contents (Elt F)) (X6 : arg6.view.ty.Contents (Elt F)) (X7 : arg7.view.ty.Contents (Elt F))
  (X8 : arg8.view.ty.Contents (Elt F)) (k : Fin k0_t1_loop.trips)
  (f9 : arg9.view.ty.Contents (Elt F)) (f10 : arg10.view.ty.Contents (Elt F)) (f11 : arg11.view.ty.Contents (Elt F))

/-- The blocks of raw contents. -/
def blkOf : Blk F where
  x := arg2.view.read (Elt F) X2
  w := arg3.view.read (Elt F) X3
  cb := arg4.view.read (Elt F) X4
  dtb := arg5.view.read (Elt F) X5
  alog := arg6.view.read (Elt F) X6
  dsk := arg7.view.read (Elt F) X7
  tril := arg8.view.read (Elt F) X8

/-- What raw scratch contents carry. -/
def stOf : St F where
  tail := fun x => arg10.view.read (Elt F) f10
    (ix2 ⟨(x 0).val, by have h := (x 0).isLt; change (x 0).val < 8 at h; omega⟩ (x 1))
  st := arg11.view.read (Elt F) f11

theorem k_lt (k : Fin k0_t1_loop.trips) : k.val < 4 := Nat.lt_of_lt_of_le k.isLt k0_t1_abs.2.1

theorem rows_eq : rows arg2 X2 k = (blkOf arg2 arg3 arg4 arg5 arg6 arg7 arg8 X2 X3 X4 X5 X6 X7 X8).rows ⟨k.val, k_lt k⟩ := by
  unfold rows
  rw [View.readAt_unit (off' := ![0, 128 * k.val, 0]) (h := k0_off1_eq k)
    (inb' := by rw [← k0_off1_eq k]; exact k0_off1_inb k)]
  funext x
  refine congrArg (arg2.view.read (Elt F) X2) ?_
  funext a
  apply Fin.ext
  match a with
  | 0 => exact Nat.lt_one_iff.mp (by have h := (x 0).isLt; change (x 0).val < 1 at h; show 0 + 1 * (x 0).val < 1; omega)
  | 1 => show 128 * k.val + 1 * (x 1).val = 128 * k.val + (x 1).val; omega
  | 2 => show 0 + 1 * (x 2).val = (x 2).val; omega

theorem steps_eq :
    arg2.view.readAt (Elt F) (Rect.unit (s := S1x512x1408) (k0_off2 k) S1x128x128.size (k0_off2_inb k)).toLoadRect X2
    = (blkOf arg2 arg3 arg4 arg5 arg6 arg7 arg8 X2 X3 X4 X5 X6 X7 X8).steps ⟨k.val, k_lt k⟩ := by
  rw [View.readAt_unit (off' := ![0, 128 * k.val, 1280]) (h := k0_off2_eq k)
    (inb' := by rw [← k0_off2_eq k]; exact k0_off2_inb k)]
  funext x
  refine congrArg (arg2.view.read (Elt F) X2) ?_
  funext a
  apply Fin.ext
  match a with
  | 0 => exact Nat.lt_one_iff.mp (by have h := (x 0).isLt; change (x 0).val < 1 at h; show 0 + 1 * (x 0).val < 1; omega)
  | 1 => show 128 * k.val + 1 * (x 1).val = 128 * k.val + (x 1).val; omega
  | 2 => show 1280 + 1 * (x 2).val = 1280 + (x 2).val; omega

/-- A load of one row of a two-axis block. -/
theorem row_eq {n m : Nat} (M : Memref sig .tc .vmem ⟨2, ![n, m]⟩ .f32) (X : M.view.ty.Contents (Elt F)) (r o l : Nat)
    (inb : ∀ a, (![r, o] : Fin 2 → Nat) a + (![1, l] : Fin 2 → Nat) a ≤ (⟨2, ![n, m]⟩ : Shape).size a)
    (hr : r < n) (ho : o + l ≤ m) :
    M.view.readAt (Elt F) (Rect.unit (s := ⟨2, ![n, m]⟩) ![r, o] ![1, l] inb).toLoadRect X
    = fun x => M.view.read (Elt F) X (ix2 ⟨r, hr⟩ ⟨o + (x 1).val, by have h := (x 1).isLt; change (x 1).val < l at h; omega⟩) := by
  funext x
  refine congrArg (M.view.read (Elt F) X) ?_
  funext a
  apply Fin.ext
  match a with
  | 0 => show r + 1 * (x 0).val = r; have h := (x 0).isLt; change (x 0).val < 1 at h; omega
  | 1 => show o + 1 * (x 1).val = o + (x 1).val; omega

theorem ext_eq : ext arg2 arg10 X2 k f10
    = behind (stOf arg10 arg11 f10 f11).tail
        ((blkOf arg2 arg3 arg4 arg5 arg6 arg7 arg8 X2 X3 X4 X5 X6 X7 X8).rows ⟨k.val, k_lt k⟩) := by
  unfold ext
  rw [View.readAt_full, rows_eq arg2 arg3 arg4 arg5 arg6 arg7 arg8 X2 X3 X4 X5 X6 X7 X8 k]
  funext x
  unfold behind
  by_cases h : (x 0).val < 8
  · rw [dif_pos h, View.read_writes_cons_unit_of_not_mem _ _ _ _ _ _ rfl (0 : Fin 2) (Or.inl h), View.writes_nil]
    refine congrArg (arg10.view.read (Elt F) f10) ?_
    exact eq_ix2 x
  · rw [dif_neg h]
    have h1 := (x 0).isLt
    change (x 0).val < 136 at h1
    rw [View.read_writes_cons_unit_of_mem _ _ _ _ _ _ (ix2 ⟨(x 0).val - 8, by omega⟩ (x 1)) rfl (fun a => by
      match a with
      | 0 => show (x 0).val = 8 + ((x 0).val - 8); omega
      | 1 => show (x 1).val = 0 + (x 1).val; omega)]
    unfold k0_pay4
    pointwise

theorem inOf_eq : inOf arg2 arg3 arg4 arg5 arg6 arg8 X2 X3 X4 X5 X6 X8 k (ext arg2 arg10 X2 k f10)
    = (blkOf arg2 arg3 arg4 arg5 arg6 arg7 arg8 X2 X3 X4 X5 X6 X7 X8).inp ⟨k.val, k_lt k⟩
        (stOf arg10 arg11 f10 f11) := by
  unfold inOf Blk.inp
  rw [ext_eq arg2 arg3 arg4 arg5 arg6 arg7 arg8 arg10 arg11 X2 X3 X4 X5 X6 X7 X8 k f10 f11,
    steps_eq arg2 arg3 arg4 arg5 arg6 arg7 arg8 X2 X3 X4 X5 X6 X7 X8 k]
  congr 1
  · exact (row_eq arg3 X3 0 0 1280 _ (by decide) (by decide)).trans (by funext x; exact congrArg _ (by congr 1; apply Fin.ext; exact Nat.zero_add _))
  · exact (row_eq arg3 X3 1 0 1280 _ (by decide) (by decide)).trans (by funext x; exact congrArg _ (by congr 1; apply Fin.ext; exact Nat.zero_add _))
  · exact (row_eq arg3 X3 2 0 1280 _ (by decide) (by decide)).trans (by funext x; exact congrArg _ (by congr 1; apply Fin.ext; exact Nat.zero_add _))
  · exact (row_eq arg3 X3 3 0 1280 _ (by decide) (by decide)).trans (by funext x; exact congrArg _ (by congr 1; apply Fin.ext; exact Nat.zero_add _))
  · exact View.readAt_full _ _ _
  · exact View.readAt_full _ _ _
  · exact View.readAt_full _ _ _
  · exact View.readAt_full _ _ _

/-- A load of one plane of the state. -/
theorem plane_eq (p : Nat) (hp : p < 6)
    (inb : ∀ a, (![p, 0, 0] : Fin 3 → Nat) a + S1x128x128.size a ≤ S6x128x128.size a) :
    arg11.view.readAt (Elt F) (Rect.unit (s := S6x128x128) ![p, 0, 0] S1x128x128.size inb).toLoadRect f11
    = plane (stOf arg10 arg11 f10 f11).st ⟨p, hp⟩ := by
  funext x
  refine congrArg (arg11.view.read (Elt F) f11) ?_
  funext a
  apply Fin.ext
  match a with
  | 0 => show p + 1 * (x 0).val = p; have h := (x 0).isLt; change (x 0).val < 1 at h; omega
  | 1 => show 0 + 1 * (x 1).val = (x 1).val; omega
  | 2 => show 0 + 1 * (x 2).val = (x 2).val; omega

/-- A load of a pair's skip weights. -/
theorem skip_eq (p : Nat) (hp : p < 6) (inb : ∀ a, (![0, 128 * p] : Fin 2 → Nat) a + S1x128.size a ≤ S1x768.size a) :
    arg7.view.readAt (Elt F) (Rect.unit (s := S1x768) ![0, 128 * p] S1x128.size inb).toLoadRect X7
    = (blkOf arg2 arg3 arg4 arg5 arg6 arg7 arg8 X2 X3 X4 X5 X6 X7 X8).skip ⟨p, hp⟩ :=
  row_eq arg7 X7 0 (128 * p) 128 inb (by decide) (by omega)

/-- One piece of the state's list: plane `p`. -/
theorem read_plane (p : Nat) (inb : ∀ a, (![p, 0, 0] : Fin 3 → Nat) a + S1x128x128.size a ≤ S6x128x128.size a)
    (w : FVec F S1x128x128 .f32) (L : List (View.Piece (Elt F) S6x128x128 .f32)) (y : S6x128x128.Idx) :
    arg11.view.read (Elt F) (arg11.view.writes (Elt F) f11
      (⟨Rect.unit (s := S6x128x128) ![p, 0, 0] S1x128x128.size inb, w⟩ :: L)) y
    = if (y 0).val = p then w (ix3 0 (y 1) (y 2)) else arg11.view.read (Elt F) (arg11.view.writes (Elt F) f11 L) y := by
  by_cases h : (y 0).val = p
  · rw [if_pos h]
    refine View.read_writes_cons_unit_of_mem arg11.view f11 inb w L y
      (ix3 (0 : Fin 1) (y 1 : Fin 128) (y 2 : Fin 128) : S1x128x128.Idx) rfl ?_
    intro a
    match a with
    | 0 => show (y 0).val = p + 0; omega
    | 1 => show (y 1).val = 0 + (y 1).val; omega
    | 2 => show (y 2).val = 0 + (y 2).val; omega
  · rw [if_neg h]
    exact View.read_writes_cons_unit_of_not_mem _ _ _ _ _ _ rfl (0 : Fin 3) (by
      show (y 0).val < p ∨ p + 1 ≤ (y 0).val
      omega)

/-- One piece of the output's list: pair `p`'s columns of chunk `k`. -/
theorem read_tile (off : Fin 3 → Nat) (p : Nat) (hoff : off = ![0, 128 * k.val, 128 * p]) (hp : p < 6)
    (inb : ∀ a, off a + S1x128x128.size a ≤ S1x512x768.size a)
    (w : FVec F S1x128x128 .f32) (L : List (View.Piece (Elt F) S1x512x768 .f32)) (y : S1x512x768.Idx) :
    arg9.view.read (Elt F) (arg9.view.writes (Elt F) f9
      (⟨Rect.unit (s := S1x512x768) off S1x128x128.size inb, w⟩ :: L)) y
    = if (y 1).val / 128 = k.val ∧ (y 2).val / 128 = p then
        w (ix3 0 ⟨(y 1).val % 128, Nat.mod_lt _ (by omega)⟩ ⟨(y 2).val % 128, Nat.mod_lt _ (by omega)⟩)
      else arg9.view.read (Elt F) (arg9.view.writes (Elt F) f9 L) y := by
  by_cases h : (y 1).val / 128 = k.val ∧ (y 2).val / 128 = p
  · rw [if_pos h]
    refine View.read_writes_cons_unit_of_mem arg9.view f9 inb w L y
      (ix3 (0 : Fin 1) ⟨(y 1).val % 128, Nat.mod_lt _ (by omega)⟩ ⟨(y 2).val % 128, Nat.mod_lt _ (by omega)⟩ : S1x128x128.Idx) hoff ?_
    intro a
    match a with
    | 0 => show (y 0).val = 0 + 0; have h := (y 0).isLt; change (y 0).val < 1 at h; omega
    | 1 => show (y 1).val = 128 * k.val + (y 1).val % 128; omega
    | 2 => show (y 2).val = 128 * p + (y 2).val % 128; omega
  · rw [if_neg h]
    by_cases h1 : (y 1).val / 128 = k.val
    · have h2 : ¬ (y 2).val / 128 = p := fun e => h ⟨h1, e⟩
      exact View.read_writes_cons_unit_of_not_mem _ _ _ _ _ _ hoff (2 : Fin 3) (by
        show (y 2).val < 128 * p ∨ 128 * p + 128 ≤ (y 2).val
        omega)
    · exact View.read_writes_cons_unit_of_not_mem _ _ _ _ _ _ hoff (1 : Fin 3) (by
        show (y 1).val < 128 * k.val ∨ 128 * k.val + 128 ≤ (y 1).val
        omega)

/-- Asking for each of six numbers in turn. -/
theorem pick {α : Type*} (q : Fin 6) (f : Fin 6 → α) (d : α) :
    (if q.val = 5 then f 5 else if q.val = 4 then f 4 else if q.val = 3 then f 3 else if q.val = 2 then f 2
      else if q.val = 1 then f 1 else if q.val = 0 then f 0 else d) = f q := by
  fin_cases q <;> rfl

/-- A trip takes what the scratch carries to what the chunk leaves. -/
theorem trip_next :
    stOf arg10 arg11
      (arg10.view.writes (Elt F) f10 ((trip_k0_t1 (F := F) 𝒱 c bd i arg2 harg2 arg3 harg3 arg4 harg4 arg5 harg5 arg6 harg6
        arg7 harg7 arg8 harg8 arg9 harg9 arg10 harg10 arg11 harg11 X2 X3 X4 X5 X6 X7 X8 k).2.1 f9 f10 f11))
      (arg11.view.writes (Elt F) f11 ((trip_k0_t1 (F := F) 𝒱 c bd i arg2 harg2 arg3 harg3 arg4 harg4 arg5 harg5 arg6 harg6
        arg7 harg7 arg8 harg8 arg9 harg9 arg10 harg10 arg11 harg11 X2 X3 X4 X5 X6 X7 X8 k).2.2.1 f9 f10 f11))
    = (blkOf arg2 arg3 arg4 arg5 arg6 arg7 arg8 X2 X3 X4 X5 X6 X7 X8).next ⟨k.val, k_lt k⟩ (stOf arg10 arg11 f10 f11) := by
  rw [trip10, trip11, inOf_eq arg2 arg3 arg4 arg5 arg6 arg7 arg8 arg10 arg11 X2 X3 X4 X5 X6 X7 X8 k f10 f11,
    ext_eq arg2 arg3 arg4 arg5 arg6 arg7 arg8 arg10 arg11 X2 X3 X4 X5 X6 X7 X8 k f10 f11]
  rw [plane_eq arg10 arg11 f10 f11 0 (by decide), plane_eq arg10 arg11 f10 f11 1 (by decide),
    plane_eq arg10 arg11 f10 f11 2 (by decide), plane_eq arg10 arg11 f10 f11 3 (by decide),
    plane_eq arg10 arg11 f10 f11 4 (by decide), plane_eq arg10 arg11 f10 f11 5 (by decide)]
  generalize stOf arg10 arg11 f10 f11 = s
  generalize blkOf arg2 arg3 arg4 arg5 arg6 arg7 arg8 X2 X3 X4 X5 X6 X7 X8 = B
  unfold Blk.next stOf
  congr 1
  · funext x
    have hx := (x 0).isLt
    change (x 0).val < 8 at hx
    rw [View.read_writes_cons_unit_of_mem _ _ _ _ _ _ (ix2 ⟨(x 0).val, hx⟩ (x 1)) rfl (fun (a : Fin 2) => by
      match a with
      | 0 => show (x 0).val = 0 + (x 0).val; omega
      | 1 => show (x 1).val = 0 + (x 1).val; omega)]
    unfold k0_pay7 k0_pay6
    pointwise
  · funext y
    refine (read_plane arg11 f11 5 inb_S6x128x128_S1x128x128_5_0_0 _ _ y).trans ?_
    refine (congrArg (ite _ _) (read_plane arg11 f11 4 inb_S6x128x128_S1x128x128_4_0_0 _ _ y)).trans ?_
    refine (congrArg (ite _ _) (congrArg (ite _ _) (read_plane arg11 f11 3 inb_S6x128x128_S1x128x128_3_0_0 _ _ y))).trans ?_
    refine (congrArg (ite _ _) (congrArg (ite _ _) (congrArg (ite _ _)
      (read_plane arg11 f11 2 inb_S6x128x128_S1x128x128_2_0_0 _ _ y)))).trans ?_
    refine (congrArg (ite _ _) (congrArg (ite _ _) (congrArg (ite _ _) (congrArg (ite _ _)
      (read_plane arg11 f11 1 inb_S6x128x128_S1x128x128_1_0_0 _ _ y))))).trans ?_
    refine (congrArg (ite _ _) (congrArg (ite _ _) (congrArg (ite _ _) (congrArg (ite _ _) (congrArg (ite _ _)
      (read_plane arg11 f11 0 inb_S6x128x128_S1x128x128_0_0_0 _ _ y)))))).trans ?_
    exact pick (y 0) (fun p => stP p (B.inp ⟨k.val, k_lt k⟩ s) (plane s.st p) (ix3 0 (y 1) (y 2))) _

/-- The loop makes four trips. -/
theorem trips_eq : k0_t1_loop.trips = 4 := by decide

/-- A trip writes the chunk's output over its rows and leaves the others. -/
theorem trip_out (y : S1x512x768.Idx) :
    arg9.view.read (Elt F)
      (arg9.view.writes (Elt F) f9 ((trip_k0_t1 (F := F) 𝒱 c bd i arg2 harg2 arg3 harg3 arg4 harg4 arg5 harg5 arg6 harg6
        arg7 harg7 arg8 harg8 arg9 harg9 arg10 harg10 arg11 harg11 X2 X3 X4 X5 X6 X7 X8 k).1 f9 f10 f11)) y
    = if (y 1).val / 128 = k.val then
        (blkOf arg2 arg3 arg4 arg5 arg6 arg7 arg8 X2 X3 X4 X5 X6 X7 X8).out ⟨k.val, k_lt k⟩ (stOf arg10 arg11 f10 f11)
          (ix3 0 ⟨(y 1).val % 128, Nat.mod_lt _ (by omega)⟩ (y 2))
      else arg9.view.read (Elt F) f9 y := by
  rw [trip9, inOf_eq arg2 arg3 arg4 arg5 arg6 arg7 arg8 arg10 arg11 X2 X3 X4 X5 X6 X7 X8 k f10 f11]
  rw [read_tile arg9 k f9 _ 5 (k0_off8_eq k) (by decide), read_tile arg9 k f9 _ 4 (k0_off7_eq k) (by decide),
    read_tile arg9 k f9 _ 3 (k0_off6_eq k) (by decide), read_tile arg9 k f9 _ 2 (k0_off5_eq k) (by decide),
    read_tile arg9 k f9 _ 1 (k0_off4_eq k) (by decide), read_tile arg9 k f9 _ 0 (k0_off3_eq k) (by decide), View.writes_nil]
  rw [plane_eq arg10 arg11 f10 f11 0 (by decide), plane_eq arg10 arg11 f10 f11 1 (by decide),
    plane_eq arg10 arg11 f10 f11 2 (by decide), plane_eq arg10 arg11 f10 f11 3 (by decide),
    plane_eq arg10 arg11 f10 f11 4 (by decide), plane_eq arg10 arg11 f10 f11 5 (by decide)]
  have e (p : Nat) (hp : p < 6) := skip_eq arg2 arg3 arg4 arg5 arg6 arg7 arg8 X2 X3 X4 X5 X6 X7 X8 p hp
  rw [e 5 (by decide) inb_S1x768_S1x128_0_640, e 4 (by decide) inb_S1x768_S1x128_0_512,
    e 3 (by decide) inb_S1x768_S1x128_0_384, e 2 (by decide) inb_S1x768_S1x128_0_256,
    e 1 (by decide) inb_S1x768_S1x128_0_128, e 0 (by decide) inb_S1x768_S1x128_0_0]
  generalize blkOf arg2 arg3 arg4 arg5 arg6 arg7 arg8 X2 X3 X4 X5 X6 X7 X8 = B
  generalize stOf arg10 arg11 f10 f11 = s
  by_cases h : (y 1).val / 128 = k.val
  · simp only [h, true_and, if_true]
    have h2 := (y 2).isLt
    change (y 2).val < 768 at h2
    exact pick ⟨(y 2).val / 128, by omega⟩ (fun q => outP q (B.inp ⟨k.val, k_lt k⟩ s) (plane s.st q) (B.skip q)
      (ix3 0 ⟨(y 1).val % 128, Nat.mod_lt _ (by omega)⟩ ⟨(y 2).val % 128, Nat.mod_lt _ (by omega)⟩)) _
  · simp only [h, false_and, if_false]

/-- After `n` trips the scratch carries the chunks' states one after another. -/
theorem loop_st (n : ℕ) (hn : n ≤ 4) :
    stOf arg10 arg11
      (arg10.view.writes (Elt F) f10 (pb_k0_t1 (F := F) 𝒱 c bd i arg2 harg2 arg3 harg3 arg4 harg4 arg5 harg5 arg6 harg6 arg7 harg7 arg8 harg8 arg9 harg9 arg10 harg10 arg11 harg11 X2 X3 X4 X5 X6 X7 X8 f9 f10 f11 n).2.1)
      (arg11.view.writes (Elt F) f11 (pb_k0_t1 (F := F) 𝒱 c bd i arg2 harg2 arg3 harg3 arg4 harg4 arg5 harg5 arg6 harg6 arg7 harg7 arg8 harg8 arg9 harg9 arg10 harg10 arg11 harg11 X2 X3 X4 X5 X6 X7 X8 f9 f10 f11 n).2.2)
    = (blkOf arg2 arg3 arg4 arg5 arg6 arg7 arg8 X2 X3 X4 X5 X6 X7 X8).iter (stOf arg10 arg11 f10 f11) n := by
  induction n with
  | zero => rfl
  | succ n ih =>
    have hlt : n < k0_t1_loop.trips := by rw [trips_eq]; omega
    rw [show n + 1 = (⟨n, hlt⟩ : Fin k0_t1_loop.trips).val + 1 from rfl, pb_k0_t1_succ, View.writes_append, View.writes_append]
    refine (trip_next 𝒱 c bd i arg2 harg2 arg3 harg3 arg4 harg4 arg5 harg5 arg6 harg6 arg7 harg7 arg8 harg8 arg9 harg9 arg10 harg10 arg11 harg11 X2 X3 X4 X5 X6 X7 X8 ⟨n, hlt⟩ _ _ _).trans ?_
    rw [ih (by omega)]
    show _ = if h : n < 4 then _ else _
    rw [dif_pos (show n < 4 by omega)]

/-- After `n` trips the rows of the first `n` chunks are written. -/
theorem loop_out (n : ℕ) (hn : n ≤ 4) (y : S1x512x768.Idx) (hy : (y 1).val / 128 < n) :
    arg9.view.read (Elt F) (arg9.view.writes (Elt F) f9 (pb_k0_t1 (F := F) 𝒱 c bd i arg2 harg2 arg3 harg3 arg4 harg4 arg5 harg5 arg6 harg6 arg7 harg7 arg8 harg8 arg9 harg9 arg10 harg10 arg11 harg11 X2 X3 X4 X5 X6 X7 X8 f9 f10 f11 n).1) y
    = (blkOf arg2 arg3 arg4 arg5 arg6 arg7 arg8 X2 X3 X4 X5 X6 X7 X8).res (stOf arg10 arg11 f10 f11) y := by
  induction n with
  | zero => omega
  | succ n ih =>
    have hlt : n < k0_t1_loop.trips := by rw [trips_eq]; omega
    rw [show n + 1 = (⟨n, hlt⟩ : Fin k0_t1_loop.trips).val + 1 from rfl, pb_k0_t1_succ, View.writes_append]
    refine (trip_out 𝒱 c bd i arg2 harg2 arg3 harg3 arg4 harg4 arg5 harg5 arg6 harg6 arg7 harg7 arg8 harg8 arg9 harg9 arg10 harg10 arg11 harg11 X2 X3 X4 X5 X6 X7 X8 ⟨n, hlt⟩ _ _ _ y).trans ?_
    by_cases h : (y 1).val / 128 = n
    · rw [if_pos h]
      refine (congrArg (fun s => (blkOf arg2 arg3 arg4 arg5 arg6 arg7 arg8 X2 X3 X4 X5 X6 X7 X8).out ⟨n, k_lt ⟨n, hlt⟩⟩ s
        (ix3 0 ⟨(y 1).val % 128, Nat.mod_lt _ (by omega)⟩ (y 2))) (loop_st 𝒱 c bd i arg2 harg2 arg3 harg3 arg4 harg4 arg5 harg5 arg6 harg6 arg7 harg7 arg8 harg8 arg9 harg9 arg10 harg10 arg11 harg11 X2 X3 X4 X5 X6 X7 X8 f9 f10 f11 n (by omega))).trans ?_
      unfold Blk.res
      subst h
      rfl
    · rw [if_neg h]
      exact ih (by omega) (by omega)

/-- What scratch contents carry. -/
def stV (d0 : FVec F S136x1280 .f32) (d1 : FVec F S6x128x128 .f32) : St F where
  tail x := d0 (ix2 ⟨(x 0).val, by have h := (x 0).isLt; change (x 0).val < 8 at h; omega⟩ (x 1))
  st := d1

/-- Nothing carried: what a row's first point starts from. -/
def St.zero : St F := ⟨k0_pay1 (F := F), k0_pay2 (F := F)⟩

/-- The two clearing stores leave nothing carried. -/
theorem cleared (inb0 : ∀ a, (![0, 0] : Fin 2 → Nat) a + S8x1280.size a ≤ S136x1280.size a)
    (inb1 : ∀ a, (![0, 0, 0] : Fin 3 → Nat) a + S6x128x128.size a ≤ S6x128x128.size a) :
    stOf arg10 arg11
      (arg10.view.writes (Elt F) f10 [⟨Rect.unit (s := S136x1280) ![0, 0] S8x1280.size inb0, k0_pay1 (F := F)⟩])
      (arg11.view.writes (Elt F) f11 [⟨Rect.unit (s := S6x128x128) ![0, 0, 0] S6x128x128.size inb1, k0_pay2 (F := F)⟩])
    = St.zero := by
  unfold stOf St.zero
  congr 1
  · funext x
    have hx := (x 0).isLt
    change (x 0).val < 8 at hx
    refine View.read_writes_cons_unit_of_mem arg10.view f10 inb0 _ _ _ x rfl ?_
    intro a
    match a with
    | 0 => show (x 0).val = 0 + (x 0).val; omega
    | 1 => show (x 1).val = 0 + (x 1).val; omega
  · funext y
    refine View.read_writes_cons_unit_of_mem arg11.view f11 inb1 _ _ _ y rfl ?_
    intro a
    match a with
    | 0 => show (y 0).val = 0 + (y 0).val; omega
    | 1 => show (y 1).val = 0 + (y 1).val; omega
    | 2 => show (y 2).val = 0 + (y 2).val; omega

end Cert.KernelIdeal.Chunk
-- ==== Proof.FrameValue.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Loop
public import Idealize.ShloMosaic.Lib.Claim
public import Idealize.ShloMosaic.Lib.Pipeline.Frame
public import Idealize.ShloMosaic.Lib.Pipeline.FrameBody
public import Idealize.ShloMosaic.Lib.Tactic

/-! The scan's run with its output named: every point puts out `Blk.res` of its blocks and of what the point before it
left in the scratch buffers, a row's first point starting from nothing. -/

@[expose] public section

noncomputable section

namespace Cert.KernelIdeal.Hand

open Cert.KernelIdeal Cert.KernelIdeal.Gen Cert.KernelIdeal.Chunk
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

abbrev sc0 : Memref sig .tc .vmem S136x1280 .f32 := Memref.whole cc0_scratch0
abbrev sc1 : Memref sig .tc .vmem S6x128x128 .f32 := Memref.whole cc0_scratch1

/-- A memref's buffer owned at some contents. -/
abbrev some' (c : Dev nD) {sp : Space} {S : Shape} {e : EltTy} (M : Memref sig .tc sp S e) : sProp 𝕄 :=
  iprop(∃ d, owns (c : Thread nD τ) M fullShare d)

/-- A memref's buffer owned at given contents. -/
abbrev own' (c : Dev nD) {sp : Space} {S : Shape} {e : EltTy} (M : Memref sig .tc sp S e) (d : Vec F S e) : sProp 𝕄 :=
  owns (c : Thread nD τ) M fullShare d

/-- The body's condition: the point is its row's first. -/
abbrev first (i : grid0.Coords) : Prop :=
  Scalar.cmpi .ne (Scalar.extui (Scalar.cmpi .eq (BitVec.ofNat 32 (i 1).val) 0#32) : BitVec 32) 0#32 = 1#1

/-- What a point goes in with. -/
def entryOf (i : grid0.Coords) (s : St F) : St F := by
  classical exact if first i then St.zero else s

/-- The body's run: the output named, and what the scratch carries. -/
theorem kernelRun (c : Dev nD) (i : grid0.Coords)
    (arg2 : Memref sig .tc .vmem S1x512x1408 .f32) (harg2 : arg2.IsWhole)
    (arg3 : Memref sig .tc .vmem S4x1280 .f32) (harg3 : arg3.IsWhole)
    (arg4 : Memref sig .tc .vmem S1x1280 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S1x768 .f32) (harg7 : arg7.IsWhole)
    (arg8 : Memref sig .tc .vmem S128x128 .f32) (harg8 : arg8.IsWhole)
    (arg9 : Memref sig .tc .vmem S1x512x768 .f32) (harg9 : arg9.IsWhole)
    (B : Blk F) (d0 : FVec F S136x1280 .f32) (d1 : FVec F S6x128x128 .f32) (K : PUnit → sProp 𝕄) :
    iprop(own' c arg2 B.x ∗ own' c arg3 B.w ∗ own' c arg4 B.cb ∗ own' c arg5 B.dtb
        ∗ own' c arg6 B.alog ∗ own' c arg7 B.dsk ∗ own' c arg8 B.tril ∗ some' (F := F) c arg9
        ∗ own' c sc0 d0 ∗ own' c sc1 d1
        ∗ (iprop(own' c arg2 B.x ∗ own' c arg3 B.w ∗ own' c arg4 B.cb ∗ own' c arg5 B.dtb
        ∗ own' c arg6 B.alog ∗ own' c arg7 B.dsk ∗ own' c arg8 B.tril
        ∗ own' c arg9 (B.res (entryOf i (stV d0 d1)))
        ∗ (∃ e0 e1, own' c sc0 e0 ∗ own' c sc1 e1 ∗ ⌜stV e0 e1 = B.iter (entryOf i (stV d0 d1)) 4⌝)) -∗ K ⟨⟩))
      ⊢ wp frame (wpE (defs₀ (F := F)) Variants.none c none) Set.univ
          (cc0_ssd_scan i arg2 harg2 arg3 harg3 arg4 harg4 arg5 harg5 arg6 harg6 arg7 harg7 arg8 harg8 arg9 harg9
            sc0 (Memref.isWhole_whole _) sc1 (Memref.isWhole_whole _)) K := by
  obtain ⟨bx, bw, bcb, bdtb, balog, bdsk, btril⟩ := B
  simp only [cc0_ssd_scan_eq_skeleton]; unfold cc0_ssd_scan_skel
  unfold own' some' owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%d9, %f9, -, H9⟩, ⟨%fa, %ha, Ha⟩, ⟨%fb, %hb, Hb⟩, Hk⟩
  subst h2 h3 h4 h5 h6 h7 h8 ha hb
  have ht : Scf.trips k0_t1_loop.lb k0_t1_loop.ub k0_t1_loop.st = 4 := trips_eq
  by_cases hc : first i
  · rw [show entryOf i (stV (sc0.view.read (Elt F) fa) (sc1.view.read (Elt F) fb)) = St.zero by unfold entryOf; exact if_pos hc]
    sl_exec (disch := sl_exact hc)
    sl_step
    iapply Hk
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro
      rw [ht]
      funext y
      have hy := (y 1).isLt
      change (y 1).val < 512 at hy
      replace hy : (y 1).val / 128 < 4 := by omega
      refine (loop_out Variants.none c none i arg2 harg2 arg3 harg3 arg4 harg4 arg5 harg5 arg6 harg6 arg7 harg7 arg8 harg8 arg9 harg9
        sc0 (Memref.isWhole_whole _) sc1 (Memref.isWhole_whole _) f2 f3 f4 f5 f6 f7 f8 f9 _ _ 4 le_rfl y hy).trans ?_
      refine congrFun (congrArg (Blk.res _) ?_) y
      exact cleared sc0 sc1 _ _ _ _
    iexists _, _
    isplitl [Ha]
    · iexists _; isplitr; swap; · iexact Ha
      ipureintro; rfl
    isplitl [Hb]
    · iexists _; isplitr; swap; · iexact Hb
      ipureintro; rfl
    ipureintro
    rw [ht]
    rw [View.writes_append, View.writes_append]
    refine (loop_st Variants.none c none i arg2 harg2 arg3 harg3 arg4 harg4 arg5 harg5 arg6 harg6 arg7 harg7 arg8 harg8 arg9 harg9
        sc0 (Memref.isWhole_whole _) sc1 (Memref.isWhole_whole _) f2 f3 f4 f5 f6 f7 f8 f9 _ _ 4 le_rfl).trans ?_
    refine congrArg (fun s => Blk.iter _ s 4) ?_
    exact cleared sc0 sc1 _ _ _ _
  · rw [show entryOf i (stV (sc0.view.read (Elt F) fa) (sc1.view.read (Elt F) fb))
        = stV (sc0.view.read (Elt F) fa) (sc1.view.read (Elt F) fb) by unfold entryOf; exact if_neg hc]
    sl_exec (disch := sl_exact hc)
    sl_step
    iapply Hk
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro
      rw [ht]
      funext y
      have hy := (y 1).isLt
      change (y 1).val < 512 at hy
      replace hy : (y 1).val / 128 < 4 := by omega
      exact loop_out Variants.none c none i arg2 harg2 arg3 harg3 arg4 harg4 arg5 harg5 arg6 harg6 arg7 harg7 arg8 harg8 arg9 harg9
        sc0 (Memref.isWhole_whole _) sc1 (Memref.isWhole_whole _) f2 f3 f4 f5 f6 f7 f8 f9 _ _ 4 le_rfl y hy
    iexists _, _
    isplitl [Ha]
    · iexists _; isplitr; swap; · iexact Ha
      ipureintro; rfl
    isplitl [Hb]
    · iexists _; isplitr; swap; · iexact Hb
      ipureintro; rfl
    ipureintro
    rw [ht]
    exact loop_st Variants.none c none i arg2 harg2 arg3 harg3 arg4 harg4 arg5 harg5 arg6 harg6 arg7 harg7 arg8 harg8 arg9 harg9
        sc0 (Memref.isWhole_whole _) sc1 (Memref.isWhole_whole _) f2 f3 f4 f5 f6 f7 f8 f9 _ _ 4 le_rfl

/-! ## The launch -/

/-- The blocks of point `t`. -/
def blkAt (c : Dev nD) (t : Fin cfg0.N) : Blk F where
  x := iblk m c 0 t
  w := iblk m c 1 t
  cb := iblk m c 2 t
  dtb := iblk m c 3 t
  alog := iblk m c 4 t
  dsk := iblk m c 5 t
  tril := iblk m c 6 t

/-- What the scratch carries before point `t`. -/
def traj (c : Dev nD) : ℕ → St F
  | 0 => St.zero
  | t + 1 => if h : t < cfg0.N then (blkAt m c ⟨t, h⟩).iter (if t % 16 = 0 then St.zero else traj c t) 4 else St.zero

/-- What point `t` goes in with. -/
def entry (c : Dev nD) (t : ℕ) : St F := if t % 16 = 0 then St.zero else traj m c t

theorem traj_succ (c : Dev nD) (t : Fin cfg0.N) : traj m c (t.val + 1) = (blkAt m c t).iter (entry m c t.val) 4 := by
  rw [traj, dif_pos t.isLt]; rfl

/-- What is known of the scratch before a point. -/
def Phi (c : Dev nD) (t : ℕ) : sProp 𝕄 :=
  iprop((∃ d0 d1, own' c sc0 d0 ∗ own' c sc1 d1 ∗ ⌜t % 16 ≠ 0 → stV d0 d1 = traj m c t⌝) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (blkAt m c t).res (entry m c t.val)
  Φ t := Phi m c t.val
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (blkAt m c t).res (entry m c t.val) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- A point is its row's first exactly when its number is a multiple of sixteen. -/
theorem first_iff : ∀ t : Fin cfg0.N, first (grid0.coords t) ↔ t.val % 16 = 0 := by decide +kernel

theorem entryOf_eq (c : Dev nD) (t : Fin cfg0.N) (s : St F) (h : t.val % 16 ≠ 0 → s = traj m c t.val) :
    entryOf (grid0.coords t) s = entry m c t.val := by
  unfold entryOf entry
  by_cases ht : t.val % 16 = 0
  · rw [if_pos ht]; exact if_pos ((first_iff t).mpr ht)
  · rw [if_neg ht, ← h ht]; exact if_neg (fun hc => ht ((first_iff t).mp hc))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6,
    after0_0, after0_1, after0_2, after0_3, after0_4, after0_5, after0_6, after0_7]
  rw [show (dats m 0 c).Φ t.succ = Phi m c (t.val + 1) from rfl,
    show (dats m 0 c).owesAt () t.succ = (dats m 0 c).owesAt () t.castSucc from rfl,
    show (dats m 0 c).Φ t.castSucc = Phi m c t.val from rfl]
  unfold Phi
  iintro ⟨⟨⟨%d0, %d1, Ha, Hb, %hs⟩, Hg⟩, HO, ⟨%e2, H2⟩, ⟨%e3, H3⟩, ⟨%e4, H4⟩, ⟨%e5, H5⟩, ⟨%e6, H6⟩, ⟨%e7, H7⟩, ⟨%e8, H8⟩, ⟨%e9, H9⟩⟩
  iapply (kernelRun c (grid0.coords t) _ _ _ _ _ _ _ _ _ _ _ _ _ _ _ _ (blkAt m c t) d0 d1 _)
  rw [entryOf_eq m c t (stV d0 d1) hs]
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [Ha]; · iexact Ha
  isplitl [Hb]; · iexact Hb
  iintro ⟨H2, H3, H4, H5, H6, H7, H8, H9, ⟨%g0, %g1, Ha, Hb, %hg⟩⟩
  isplitl [Ha Hb Hg]
  · isplitl [Ha Hb]
    · iexists g0, g1
      isplitl [Ha]; · iexact Ha
      isplitl [Hb]; · iexact Hb
      ipureintro; intro _; rw [traj_succ]; exact hg
    iexact Hg
  isplitl [HO]; · iexact HO
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

theorem PhiA_eq (c : Dev nD) :
    (Pipeline.ΦA spec0 c : sProp 𝕄) = iprop((some' (F := F) c sc0 ∗ some' (F := F) c sc1) ∗ (∃ r, prngReg c r)) := by
  unfold Pipeline.ΦA; rw [scopedRest0_eq]; simp only [some', sc0, sc1, owns_whole]; try rfl

theorem Phi_in (c : Dev nD) : Pipeline.ΦA spec0 c ⊢ (Phi m c 0 : sProp 𝕄) := by
  rw [PhiA_eq]; unfold Phi some' own'
  iintro ⟨⟨⟨%d0, Ha⟩, ⟨%d1, Hb⟩⟩, Hg⟩
  isplitl [Ha Hb]
  · iexists d0, d1
    isplitl [Ha]; · iexact Ha
    isplitl [Hb]; · iexact Hb
    ipureintro; intro h; exact absurd rfl h
  iexact Hg

theorem Phi_out (c : Dev nD) (n : ℕ) : (Phi m c n : sProp 𝕄) ⊢ Pipeline.ΦA spec0 c := by
  rw [PhiA_eq]; unfold Phi some' own'
  iintro ⟨⟨%d0, %d1, Ha, Hb, -⟩, Hg⟩
  isplitl [Ha Hb]
  · isplitl [Ha]; · iexists d0; iexact Ha
    iexists d1; iexact Hb
  iexact Hg

set_option backward.isDefEq.respectTransparency.types false in
theorem run_main :
    θ_run defs (onTc (τ := τ) (main (F := F))) (s₀ m ρ)
      (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => Phi_in m c) (hout := fun c => Phi_out m c _)

/-- The frame claim's post, and the counters at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  Idealize.ShloMosaic.θ_run_and (frame_of m ρ (dats m) (A_eq m) ((θ_run defs _ _).mono (fun _ h => h.1) (run_main m ρ)))
    ((θ_run defs _ _).mono (fun _ h => h.2) (run_main m ρ))

end Cert.KernelIdeal.Hand
-- ==== Proof.Real.lean ====
module

public import Idealize.ShloMosaic.PureOps.Ideal.Laws
public import Idealize.ShloMosaic.Lib.Pointwise
public import Mathlib.Analysis.SpecialFunctions.Pow.Real

/-! Facts on the extended reals that the scan's values need: sums of reals, powers of two of logarithms, the softplus of
a real, and a nonnegative real factor through a sum. -/

@[expose] public section

noncomputable section

namespace Ssd

open Idealize.ShloMosaic

/-- The softplus of a real. -/
def sp (x : ℝ) : ℝ := Real.log (1 + Real.exp x)

theorem sp_pos (x : ℝ) : 0 < sp x := Real.log_pos (by have := Real.exp_pos x; linarith)

theorem sp_eq (x : ℝ) : max x 0 + Real.log (1 + Real.exp (-max x (-x))) = sp x := by
  unfold sp
  rcases le_total 0 x with h | h
  · rw [max_eq_left h, max_eq_left (by linarith)]
    have h1 : (0 : ℝ) < 1 + Real.exp (-x) := by have := Real.exp_pos (-x); linarith
    rw [show (1 : ℝ) + Real.exp x = Real.exp x * (1 + Real.exp (-x)) by
      rw [mul_add, mul_one, ← Real.exp_add, add_neg_cancel, Real.exp_zero, add_comm],
      Real.log_mul (Real.exp_pos x).ne' h1.ne', Real.log_exp]
  · rw [max_eq_right h, max_eq_right (by linarith), neg_neg, zero_add]

theorem coe_sum {ι : Type*} (s : Finset ι) (f : ι → ℝ) : ((∑ i ∈ s, f i : ℝ) : EReal) = ∑ i ∈ s, (f i : EReal) := by
  classical
  induction s using Finset.induction_on with
  | empty => rfl
  | insert a s h ih => rw [Finset.sum_insert h, Finset.sum_insert h, EReal.coe_add, ih]

theorem coe_max (a b : ℝ) : ((max a b : ℝ) : EReal) = max (a : EReal) b := by
  rcases le_total a b with h | h
  · rw [max_eq_right h, max_eq_right (EReal.coe_le_coe_iff.mpr h)]
  · rw [max_eq_left h, max_eq_left (EReal.coe_le_coe_iff.mpr h)]

theorem log_pos {r : ℝ} (h : 0 < r) : Ideal.log (r : EReal) = (Real.log r : EReal) := by
  rw [Ideal.log_coe, if_neg (not_le.mpr h)]

/-- A step's size, as it is computed: of a real it is the softplus. -/
theorem softplus_coe (x : ℝ) :
    max (x : EReal) 0 + Ideal.log (1 + Ideal.exp (0 - max (x : EReal) (-(x : EReal)))) = (sp x : EReal) := by
  rw [show (-(x : EReal)) = ((-x : ℝ) : EReal) from rfl, ← coe_max, show (0 : EReal) = ((0 : ℝ) : EReal) from rfl, ← coe_max,
    ← EReal.coe_sub, Ideal.exp_coe, show (1 : EReal) = ((1 : ℝ) : EReal) from rfl, ← EReal.coe_add,
    log_pos (by have := Real.exp_pos (0 - max x (-x)); linarith), ← EReal.coe_add, zero_sub, sp_eq]

/-- Two to the power of a logarithm to base two is the exponential. -/
theorem exp2_scaled (x : ℝ) : Ideal.exp2 ((x * (Real.log 2)⁻¹ : ℝ) : EReal) = (Real.exp x : EReal) := by
  rw [Ideal.exp2_coe]
  congr 1
  show (2 : ℝ) ^ (x * (Real.log 2)⁻¹) = Real.exp x
  rw [Real.rpow_def_of_pos (by norm_num)]
  congr 1
  have : Real.log 2 ≠ 0 := (Real.log_pos (by norm_num)).ne'
  field_simp

/-- A nonnegative real factor goes through a sum, whatever the summands. -/
theorem mul_sum {ι : Type*} (s : Finset ι) (r : ℝ) (hr : 0 ≤ r) (f : ι → EReal) :
    (r : EReal) * ∑ i ∈ s, f i = ∑ i ∈ s, (r : EReal) * f i := by
  classical
  induction s using Finset.induction_on with
  | empty => simp
  | insert a s h ih =>
    rw [Finset.sum_insert h, Finset.sum_insert h,
      EReal.left_distrib_of_nonneg_of_ne_top (by exact_mod_cast hr) (EReal.coe_ne_top r), ih]

end Ssd
-- ==== Proof.Pair.lean ====
module

public import proofs.«01_k».proof.Proof.Cells
public import proofs.«01_k».proof.Proof.Real

/-! The values of one chunk over the extended reals, element by element, where the step sizes and the rates are real. -/

@[expose] public section

noncomputable section

namespace Cert.KernelIdeal.Chunk

open Idealize.ShloMosaic Cert.KernelIdeal.Gen Ssd

/-- A head's lane of the step sizes. -/
abbrev hd (h : Fin 12) : Fin 128 := ⟨h.val, by omega⟩
abbrev hd16 (h : Fin 12) : Fin 16 := ⟨h.val, by omega⟩

/-- A chunk whose step logits are the reals `x` and whose rates' logarithms are the reals `al`. -/
structure Real (I : In Ideal) (x : Fin 128 → Fin 12 → ℝ) (al : Fin 12 → ℝ) : Prop where
  step : ∀ l h, I.D (ix3 0 l (hd h)) + I.dtb (ix2 0 (hd h)) = (x l h : EReal)
  rate : ∀ h, I.alog (ix2 0 (hd h)) = (al h : EReal)
  tri : ∀ l k : Fin 128, I.tril (ix2 l k) = if k ≤ l then 1 else 0

/-- The running sum of a head's decay exponents. -/
def run (x : Fin 128 → Fin 12 → ℝ) (al : Fin 12 → ℝ) (h : Fin 12) (l : Fin 128) : ℝ :=
  ∑ k : Fin 128, if k ≤ l then sp (x k h) * -_root_.Real.exp (al h) else 0

theorem log2e_eq : (Named.named (F := Ideal) κ "log2e" 0x3FB8AA3B#32 : Ideal .f32) = (((_root_.Real.log 2)⁻¹ : ℝ) : EReal) :=
  IdealRules.named_const.ideal_named_scalar _ _ _ _ rfl

theorem sel_one {α : Type} (a b : α) : Scalar.select 1#1 a b = a := rfl
theorem sel_zero {α : Type} (a b : α) : Scalar.select 0#1 a b = b := rfl

variable {I : In Ideal} {x : Fin 128 → Fin 12 → ℝ} {al : Fin 12 → ℝ}

theorem dt_apply (R : Real I x al) (l : Fin 128) (h : Fin 12) : dt I (ix2 l (hd h)) = (sp (x l h) : EReal) := by
  unfold dt k0_pay9
  pointwise
  rw [R.step, Ideal.absf_def]
  exact softplus_coe _

theorem lda_apply (R : Real I x al) (l : Fin 128) (h : Fin 12) :
    lda I (ix2 l (hd h)) = ((sp (x l h) * -_root_.Real.exp (al h) * (_root_.Real.log 2)⁻¹ : ℝ) : EReal) := by
  unfold lda k0_pay10
  pointwise
  rw [show k0_pay9 I.D I.dtb (ix2 l (hd h)) = dt I (ix2 l (hd h)) from rfl, dt_apply R, R.rate, log2e_eq]
  have hs : IntOp.cmpi CmpIPredicate.slt (BitVec.ofNat 32 (hd h).val) 12#32 = 1#1 := by fin_cases h <;> decide
  rw [hs, sel_one]
  rw [Ideal.exp_coe, show (0 : EReal) = ((0 : ℝ) : EReal) from rfl, ← EReal.coe_sub, ← EReal.coe_mul, ← EReal.coe_mul]
  congr 1; ring

theorem cum_apply (R : Real I x al) (l : Fin 128) (h : Fin 12) :
    cum I (ix2 l (hd h)) = ((run x al h l * (_root_.Real.log 2)⁻¹ : ℝ) : EReal) := by
  unfold cum k0_pay11
  pointwise
  unfold run
  rw [Finset.sum_mul, coe_sum]
  refine Finset.sum_congr rfl fun k _ => ?_
  rw [lda_apply R, R.tri]
  by_cases hk : k ≤ l
  · rw [if_pos hk, if_pos hk, one_mul]
  · rw [if_neg hk, if_neg hk, zero_mul, zero_mul]; rfl

theorem last_apply (R : Real I x al) (h : Fin 12) :
    last I (ix2 (hd16 h) 0) = ((run x al h 127 * (_root_.Real.log 2)⁻¹ : ℝ) : EReal) := by
  unfold last k0_pay13
  pointwise
  exact cum_apply R 127 h

theorem rt_apply (R : Real I x al) (h : Fin 12) (l : Fin 128) :
    rt I (ix2 (hd16 h) l) = (((run x al h l - _root_.Real.log (sp (x l h))) * (_root_.Real.log 2)⁻¹ : ℝ) : EReal) := by
  unfold rt k0_pay14
  pointwise
  refine (congrArg₂ (fun a b => a - Ideal.log b * Named.named (F := Ideal) κ "log2e" 0x3FB8AA3B#32)
    (cum_apply R l h) (dt_apply R l h)).trans ?_
  rw [log2e_eq, log_pos (sp_pos _), ← EReal.coe_mul, ← EReal.coe_sub]
  congr 1; ring

/-- The decay from row `s` to row `l`, times the step at `s`. -/
theorem decay_apply (R : Real I x al) (h : Fin 12) (l s : Fin 128) :
    Ideal.exp2 (cum I (ix2 l (hd h)) - rt I (ix2 (hd16 h) s))
    = ((sp (x s h) * _root_.Real.exp (run x al h l - run x al h s) : ℝ) : EReal) := by
  rw [cum_apply R, rt_apply R, ← EReal.coe_sub, ← sub_mul, exp2_scaled]
  congr 1
  rw [show run x al h l - (run x al h s - _root_.Real.log (sp (x s h)))
    = _root_.Real.log (sp (x s h)) + (run x al h l - run x al h s) by ring, _root_.Real.exp_add, _root_.Real.exp_log (sp_pos _)]

theorem toEnd_apply (R : Real I x al) (h : Fin 12) (s : Fin 128) :
    Ideal.exp2 (last I (ix2 (hd16 h) 0) - rt I (ix2 (hd16 h) s))
    = ((sp (x s h) * _root_.Real.exp (run x al h 127 - run x al h s) : ℝ) : EReal) := by
  rw [last_apply R, ← cum_apply R, decay_apply R]

theorem tri_apply (l s : Fin 128) : k0_pay17 (ix2 l s) = if s ≤ l then 1#1 else 0#1 := by
  unfold k0_pay17
  pointwise
  have h : ∀ l s : Fin 128, IntOp.cmpi CmpIPredicate.sge (BitVec.ofNat 32 l.val) (BitVec.ofNat 32 s.val)
    = if s ≤ l then 1#1 else 0#1 := by decide +kernel
  exact h l s

theorem low_apply (j : Fin 128) : low (ix2 0 j) = if j.val < 64 then 1#1 else 0#1 := by
  unfold low k0_pay18
  pointwise
  have h : ∀ j : Fin 128, IntOp.cmpi CmpIPredicate.slt (BitVec.ofNat 32 j.val) 64#32
    = if j.val < 64 then 1#1 else 0#1 := by decide +kernel
  exact h j

theorem negInf_eq : Ideal.ofBits .f32 0xFF800000#32 = (⊥ : EReal) := by simp [Ideal.ofBits, Ideal.ieee]

/-- The weight of row `s` in row `l`. -/
theorem mix_apply (R : Real I x al) (ob oc : Nat) (hb : S128x1280.Slices ![0, ob] S128x128)
    (hc : S128x1280.Slices ![0, oc] S128x128) (h : Fin 12) (h1 : S128x128.Slices ![0, h.val] S128x1)
    (h2 : S16x128.Slices ![h.val, 0] S1x128) (l s : Fin 128) :
    mix I ob oc hb hc h.val h1 h2 (ix2 l s)
    = (∑ n : Fin 128, act I (ix2 l ⟨oc + n.val, by have := hc.2 1; simp at this; omega⟩)
        * act I (ix2 s ⟨ob + n.val, by have := hb.2 1; simp at this; omega⟩))
      * ((if s ≤ l then sp (x s h) * _root_.Real.exp (run x al h l - run x al h s) else 0 : ℝ) : EReal) := by
  unfold mix cbm cols
  pointwise
  refine congrArg (_ * ·) ?_
  rw [tri_apply]
  by_cases hs : s ≤ l
  · rw [if_pos hs, if_pos hs, ← decay_apply R]; rfl
  · rw [if_neg hs, if_neg hs]
    show Ideal.exp2 (Ideal.ofBits .f32 0xFF800000#32) = _
    rw [negInf_eq]; rfl

/-- The head of a pair's lane. -/
def headOf (a b : Fin 12) (j : Fin 128) : Fin 12 := if j.val < 64 then a else b

theorem xlo_apply (o : Nat) (h : S128x1280.Slices ![0, o] S128x128) (s j : Fin 128) :
    xlo I o h (ix2 s j) = if j.val < 64 then act I (ix2 s ⟨o + j.val, by have := h.2 1; simp at this; omega⟩) else 0 := by
  unfold xlo cols
  pointwise
  rw [low_apply]
  by_cases hj : j.val < 64
  · rw [if_pos hj, if_pos hj]; rfl
  · rw [if_neg hj, if_neg hj]; rfl

theorem xhi_apply (o : Nat) (h : S128x1280.Slices ![0, o] S128x128) (s j : Fin 128) :
    xhi I o h (ix2 s j) = if j.val < 64 then 0 else act I (ix2 s ⟨o + j.val, by have := h.2 1; simp at this; omega⟩) := by
  unfold xhi cols
  pointwise
  rw [low_apply]
  by_cases hj : j.val < 64
  · rw [if_pos hj, if_pos hj]; rfl
  · rw [if_neg hj, if_neg hj]; rfl

/-- The two heads' products, each over its own lanes: a lane's head alone is left. -/
theorem two_heads (f g : Fin 128 → EReal) (c : Fin 128 → EReal) (p : Prop) [Decidable p] :
    (∑ s, f s * (if p then c s else 0)) + (∑ s, g s * (if p then 0 else c s)) = ∑ s, (if p then f s else g s) * c s := by
  by_cases hp : p
  · simp only [if_pos hp, mul_zero, Finset.sum_const_zero, add_zero]
  · simp only [if_neg hp, mul_zero, Finset.sum_const_zero, zero_add]

theorem into_apply (R : Real I x al) (ob : Nat) (hb : S128x1280.Slices ![0, ob] S128x128) (h : Fin 12)
    (h2 : S16x128.Slices ![h.val, 0] S1x128) (n l : Fin 128) :
    into I ob hb h.val h2 (ix2 n l)
    = act I (ix2 l ⟨ob + n.val, by have := hb.2 1; simp at this; omega⟩)
      * ((sp (x l h) * _root_.Real.exp (run x al h 127 - run x al h l) : ℝ) : EReal) := by
  unfold into cols
  pointwise
  refine congrArg (_ * ·) ?_
  exact toEnd_apply R h l

/-- A pair's state after the chunk. -/
theorem stT_apply (R : Real I x al) (o ob : Nat) (a b : Fin 12) (h : S128x1280.Slices ![0, o] S128x128)
    (hb : S128x1280.Slices ![0, ob] S128x128)
    (ha2 : S16x128.Slices ![a.val, 0] S1x128) (ha3 : S16x1.Slices ![a.val, 0] S1x1)
    (hb2 : S16x128.Slices ![b.val, 0] S1x128) (hb3 : S16x1.Slices ![b.val, 0] S1x1)
    (st : FVec Ideal S1x128x128 .f32) (n j : Fin 128) :
    stT I o ob a.val b.val h hb ha2 ha3 hb2 hb3 st (ix3 0 n j)
    = st (ix3 0 n j) * ((_root_.Real.exp (run x al (headOf a b j) 127) : ℝ) : EReal)
      + ∑ l : Fin 128, (act I (ix2 l ⟨ob + n.val, by have := hb.2 1; simp at this; omega⟩)
          * ((sp (x l (headOf a b j)) * _root_.Real.exp (run x al (headOf a b j) 127 - run x al (headOf a b j) l) : ℝ) : EReal))
        * act I (ix2 l ⟨o + j.val, by have := h.2 1; simp at this; omega⟩) := by
  unfold stT
  pointwise
  simp only [into_apply R, xlo_apply, xhi_apply, two_heads]
  have e (i : Fin 12) : Ideal.exp2 (last I (ix2 (hd16 i) 0)) = ((_root_.Real.exp (run x al i 127) : ℝ) : EReal) := by
    refine (congrArg Ideal.exp2 (last_apply R i)).trans (exp2_scaled _)
  rw [low_apply]
  unfold headOf
  by_cases hj : j.val < 64
  · simp only [if_pos hj, sel_one]
    exact congrArg (fun u => st (ix3 0 n j) * u + _) (e a)
  · simp only [if_neg hj, sel_zero]
    exact congrArg (fun u => st (ix3 0 n j) * u + _) (e b)

/-- A pair's output. -/
theorem outT_apply (R : Real I x al) (o ob oc : Nat) (a b : Fin 12) (h : S128x1280.Slices ![0, o] S128x128)
    (hb : S128x1280.Slices ![0, ob] S128x128) (hc : S128x1280.Slices ![0, oc] S128x128)
    (ha1 : S128x128.Slices ![0, a.val] S128x1) (ha2 : S16x128.Slices ![a.val, 0] S1x128)
    (hb1 : S128x128.Slices ![0, b.val] S128x1) (hb2 : S16x128.Slices ![b.val, 0] S1x128)
    (st : FVec Ideal S1x128x128 .f32) (dsk : FVec Ideal S1x128 .f32) (l j : Fin 128) :
    outT I o ob oc a.val b.val h hb hc ha1 ha2 hb1 hb2 st dsk (ix3 0 l j)
    = (∑ s : Fin 128, ((∑ n : Fin 128, act I (ix2 l ⟨oc + n.val, by have := hc.2 1; simp at this; omega⟩)
          * act I (ix2 s ⟨ob + n.val, by have := hb.2 1; simp at this; omega⟩))
        * ((if s ≤ l then sp (x s (headOf a b j))
            * _root_.Real.exp (run x al (headOf a b j) l - run x al (headOf a b j) s) else 0 : ℝ) : EReal))
        * act I (ix2 s ⟨o + j.val, by have := h.2 1; simp at this; omega⟩))
      + (∑ n : Fin 128, act I (ix2 l ⟨oc + n.val, by have := hc.2 1; simp at this; omega⟩) * st (ix3 0 n j))
        * ((_root_.Real.exp (run x al (headOf a b j) l) : ℝ) : EReal)
      + act I (ix2 l ⟨o + j.val, by have := h.2 1; simp at this; omega⟩) * dsk (ix2 0 j) := by
  unfold outT cols
  pointwise
  simp only [mix_apply R, xlo_apply, xhi_apply, two_heads]
  have e (i : Fin 12) : Ideal.exp2 (cum I (ix2 l (hd i))) = ((_root_.Real.exp (run x al i l) : ℝ) : EReal) :=
    (congrArg Ideal.exp2 (cum_apply R l i)).trans (exp2_scaled _)
  rw [low_apply]
  unfold headOf
  by_cases hj : j.val < 64
  · simp only [if_pos hj, sel_one]
    exact congrArg (fun u => _ + (∑ n : Fin 128, act I (ix2 l ⟨oc + n.val, by have := hc.2 1; simp at this; omega⟩) * st (ix3 0 n j)) * u + _) (e a)
  · simp only [if_neg hj, sel_zero]
    exact congrArg (fun u => _ + (∑ n : Fin 128, act I (ix2 l ⟨oc + n.val, by have := hc.2 1; simp at this; omega⟩) * st (ix3 0 n j)) * u + _) (e b)

end Cert.KernelIdeal.Chunk
-- ==== Proof.Spec.lean ====
module

public import proofs.«01_k».proof.Proof.Real
public import Idealize.ShloMosaic.Lib.Pointwise

/-! The scan as mathematics: the convolved and gated rows, the decays of a chunk of 128 rows, the state carried from
chunk to chunk, and the output. -/

@[expose] public section

noncomputable section

namespace Ssd

open Idealize.ShloMosaic

/-- The scan's arrays: the rows of each batch element, the convolution's taps and bias, the steps' bias, the logarithms
of the rates, the skip weights. -/
structure Args where
  X : Fin 8 → Fin 8192 → Fin 1408 → EReal
  w : Fin 4 → Fin 1280 → EReal
  cb : Fin 1280 → EReal
  bias : Fin 12 → EReal
  al : Fin 12 → EReal
  d : Fin 12 → EReal

/-- The arrays read at their coordinates. -/
def Args.of (x : FVec Ideal ⟨3, ![8, 8192, 1408]⟩ .f32) (w : FVec Ideal ⟨2, ![4, 1280]⟩ .f32) (cb : FVec Ideal ⟨1, ![1280]⟩ .f32)
    (bias al d : FVec Ideal ⟨1, ![12]⟩ .f32) : Args where
  X b t j := x (ix3 b t j)
  w i j := w (ix2 i j)
  cb j := cb (ix1 j)
  bias h := bias (ix1 h)
  al h := al (ix1 h)
  d h := d (ix1 h)

/-- The step sizes' logits, their bias and the rates' logarithms are real. -/
structure Args.Fin (A : Args) : Prop where
  X : ∀ b t (h : _root_.Fin 12), A.X b t ⟨1280 + h.val, by omega⟩ = ((A.X b t ⟨1280 + h.val, by omega⟩).toReal : EReal)
  bias : ∀ h, A.bias h = ((A.bias h).toReal : EReal)
  al : ∀ h, A.al h = ((A.al h).toReal : EReal)

/-- The rows by their number, nothing past the end. -/
def Args.row (A : Args) (b : _root_.Fin 8) (t : ℕ) (j : _root_.Fin 1408) : EReal := if h : t < 8192 then A.X b ⟨t, h⟩ j else 0

/-- The row `k` before row `t`, nothing before the first. -/
def Args.tap (A : Args) (b : _root_.Fin 8) (t k : ℕ) (j : _root_.Fin 1280) : EReal :=
  if k ≤ t then A.row b (t - k) ⟨j.val, by omega⟩ else 0

/-- The convolution. -/
def Args.pre (A : Args) (b : _root_.Fin 8) (t : ℕ) (j : _root_.Fin 1280) : EReal :=
  A.cb j + A.w 3 j * A.tap b t 0 j + A.w 2 j * A.tap b t 1 j + A.w 1 j * A.tap b t 2 j + A.w 0 j * A.tap b t 3 j

/-- The gated rows. -/
def Args.act (A : Args) (b : _root_.Fin 8) (t : ℕ) (j : _root_.Fin 1280) : EReal :=
  A.pre b t j * Ideal.div 1 (1 + Ideal.exp (0 - A.pre b t j))

/-- The logit of a row's step for head `h`. -/
def Args.logit (A : Args) (b : _root_.Fin 8) (t : ℕ) (h : _root_.Fin 12) : ℝ :=
  (A.row b t ⟨1280 + h.val, by omega⟩).toReal + (A.bias h).toReal

/-- The running sum of the decays' exponents in chunk `z`. -/
def Args.run (A : Args) (b : _root_.Fin 8) (z : ℕ) (h : _root_.Fin 12) (l : _root_.Fin 128) : ℝ :=
  ∑ k : _root_.Fin 128, if k ≤ l then sp (A.logit b (128 * z + k.val) h) * -Real.exp (A.al h).toReal else 0

/-- The head of an output column. -/
def head (c : _root_.Fin 768) : _root_.Fin 12 := ⟨c.val / 64, by omega⟩

/-- A group's input and output columns. -/
def inCol (c : _root_.Fin 768) (n : _root_.Fin 128) : _root_.Fin 1280 := ⟨768 + 128 * (c.val / 384) + n.val, by omega⟩
def outCol (c : _root_.Fin 768) (n : _root_.Fin 128) : _root_.Fin 1280 := ⟨1024 + 128 * (c.val / 384) + n.val, by omega⟩
def col (c : _root_.Fin 768) : _root_.Fin 1280 := ⟨c.val, by omega⟩

/-- Chunk `z`'s contribution to the state. -/
def Args.inc (A : Args) (b : _root_.Fin 8) (z : ℕ) (c : _root_.Fin 768) (n : _root_.Fin 128) : EReal :=
  ∑ l : _root_.Fin 128, (A.act b (128 * z + l.val) (inCol c n)
      * ((sp (A.logit b (128 * z + l.val) (head c)) * Real.exp (A.run b z (head c) 127 - A.run b z (head c) l) : ℝ) : EReal))
    * A.act b (128 * z + l.val) (col c)

/-- The state before chunk `z`. -/
def Args.state (A : Args) (b : _root_.Fin 8) : ℕ → _root_.Fin 768 → _root_.Fin 128 → EReal
  | 0 => fun _ _ => 0
  | z + 1 => fun c n => A.state b z c n * ((Real.exp (A.run b z (head c) 127) : ℝ) : EReal) + A.inc b z c n

/-- The output at row `l` of chunk `z`. -/
def Args.out (A : Args) (b : _root_.Fin 8) (z : ℕ) (l : _root_.Fin 128) (c : _root_.Fin 768) : EReal :=
  (∑ s : _root_.Fin 128, ((∑ n : _root_.Fin 128, A.act b (128 * z + l.val) (outCol c n) * A.act b (128 * z + s.val) (inCol c n))
      * ((if s ≤ l then sp (A.logit b (128 * z + s.val) (head c))
          * Real.exp (A.run b z (head c) l - A.run b z (head c) s) else 0 : ℝ) : EReal))
    * A.act b (128 * z + s.val) (col c))
  + (∑ n : _root_.Fin 128, A.act b (128 * z + l.val) (outCol c n) * A.state b z c n)
    * ((Real.exp (A.run b z (head c) l) : ℝ) : EReal)
  + A.act b (128 * z + l.val) (col c) * A.d (head c)

end Ssd
-- ==== Proof.Scan.lean ====
module

public import proofs.«01_k».proof.Proof.Loop
public import proofs.«01_k».proof.Proof.Pair
public import proofs.«01_k».proof.Proof.Spec

/-! The chunks of a grid point compute the scan's recurrence. -/

@[expose] public section

noncomputable section

namespace Cert.KernelIdeal.Chunk

open Idealize.ShloMosaic Cert.KernelIdeal.Gen Ssd

/-- The blocks of batch element `b` from row `512 q` on. -/
structure BlkIs (A : Args) (b : Fin 8) (q : ℕ) (B : Blk Ideal) : Prop where
  x : ∀ (r : Fin 512) (j : Fin 1408), B.x (ix3 0 r j) = A.row b (512 * q + r.val) j
  w : ∀ (i : Fin 4) (j : Fin 1280), B.w (ix2 i j) = A.w i j
  cb : ∀ j : Fin 1280, B.cb (ix2 0 j) = A.cb j
  dtb : ∀ h, B.dtb (ix2 0 (hd h)) = A.bias h
  alog : ∀ h, B.alog (ix2 0 (hd h)) = A.al h
  dsk : ∀ c : Fin 768, B.dsk (ix2 0 c) = A.d (head c)
  tril : ∀ l k : Fin 128, B.tril (ix2 l k) = if k ≤ l then 1 else 0

/-- What is carried into chunk `z`. -/
def stAt (A : Args) (b : Fin 8) (z : ℕ) : St Ideal where
  tail x := if z = 0 then (0 : EReal) else A.row b (128 * z + (x 0).val - 8) ⟨(x 1).val, by
    have h := (x 1).isLt; change (x 1).val < 1280 at h; omega⟩
  st y := A.state b z ⟨128 * (y 0).val + (y 2).val, by
    have h := (y 0).isLt; have h2 := (y 2).isLt
    change (y 0).val < 6 at h; change (y 2).val < 128 at h2; omega⟩ (y 1)

variable {A : Args} {b : Fin 8} {q : ℕ} {B : Blk Ideal}

theorem rows_apply (H : BlkIs A b q B) (k : Fin 4) (l : Fin 128) (j : Fin 1280) :
    B.rows k (ix3 0 l j) = A.row b (128 * (4 * q + k.val) + l.val) ⟨j.val, by omega⟩ := by
  unfold Blk.rows
  refine (H.x ⟨128 * k.val + l.val, by omega⟩ ⟨j.val, by omega⟩).trans ?_
  congr 1
  show 512 * q + (128 * k.val + l.val) = _
  ring

/-- The rows behind their tail are the rows by number. -/
theorem behind_apply (H : BlkIs A b q B) (k : Fin 4) (i : ℕ) (hi : i < 136) (j : Fin 1280)
    (l i' : ℕ) (hil : i + i' = 8 + l) (hi' : i' ≤ 8) :
    behind (stAt A b (4 * q + k.val)).tail (B.rows k) (ix2 ⟨i, hi⟩ j) = A.tap b (128 * (4 * q + k.val) + l) i' j := by
  unfold behind Args.tap
  by_cases h8 : i < 8
  · refine (dif_pos h8).trans ?_
    unfold stAt
    dsimp only
    by_cases hz : 4 * q + k.val = 0
    · rw [if_pos hz, if_neg (by omega)]
    · rw [if_neg hz, if_pos (by omega)]
      refine congrArg (fun t => A.row b t _) ?_
      show 128 * (4 * q + k.val) + i - 8 = _
      omega
  · refine (dif_neg h8).trans ?_
    rw [if_pos (by omega)]
    refine (rows_apply H k ⟨i - 8, by omega⟩ j).trans ?_
    refine congrArg (fun t => A.row b t _) ?_
    show 128 * (4 * q + k.val) + (i - 8) = _
    omega

theorem act_apply (H : BlkIs A b q B) (k : Fin 4) (l : Fin 128) (j : Fin 1280) :
    act (B.inp k (stAt A b (4 * q + k.val))) (ix2 l j) = A.act b (128 * (4 * q + k.val) + l.val) j := by
  unfold act k0_pay8 k0_pay5
  pointwise
  have e3 : (8 + l.val + 136 - 3) % 136 = 5 + l.val := by omega
  have e2 : (8 + l.val + 136 - 2) % 136 = 6 + l.val := by omega
  have e1 : (8 + l.val + 136 - 1) % 136 = 7 + l.val := by omega
  simp only [e3, e2, e1]
  have t (i : ℕ) (hi : i < 136) (i' : ℕ) (hil : i + i' = 8 + l.val) (hi' : i' ≤ 8) :
      (B.inp k (stAt A b (4 * q + k.val))).xe (ix2 ⟨i, hi⟩ j) = A.tap b (128 * (4 * q + k.val) + l.val) i' j :=
    behind_apply H k i hi j l.val i' hil hi'
  rw [t (8 + l.val) (by omega) 0 (by omega) (by omega), t (7 + l.val) (by omega) 1 (by omega) (by omega),
    t (6 + l.val) (by omega) 2 (by omega) (by omega), t (5 + l.val) (by omega) 3 (by omega) (by omega)]
  rw [show (B.inp k (stAt A b (4 * q + k.val))).cb (ix2 0 j) = A.cb j from H.cb j,
    show (B.inp k (stAt A b (4 * q + k.val))).w0 (ix2 0 j) = A.w 0 j from H.w 0 j,
    show (B.inp k (stAt A b (4 * q + k.val))).w1 (ix2 0 j) = A.w 1 j from H.w 1 j,
    show (B.inp k (stAt A b (4 * q + k.val))).w2 (ix2 0 j) = A.w 2 j from H.w 2 j,
    show (B.inp k (stAt A b (4 * q + k.val))).w3 (ix2 0 j) = A.w 3 j from H.w 3 j]
  rfl

theorem row_real (hA : A.Fin) (t : ℕ) (h : Fin 12) :
    A.row b t ⟨1280 + h.val, by omega⟩ = ((A.row b t ⟨1280 + h.val, by omega⟩).toReal : EReal) := by
  unfold Args.row
  split
  · exact hA.X _ _ h
  · rfl

/-- A chunk's steps and rates are real. -/
theorem real (hA : A.Fin) (H : BlkIs A b q B) (k : Fin 4) (s : St Ideal) :
    Real (B.inp k s) (fun l h => A.logit b (128 * (4 * q + k.val) + l.val) h) (fun h => (A.al h).toReal) where
  step l h := by
    have e : (B.inp k s).D (ix3 0 l (hd h)) = A.row b (128 * (4 * q + k.val) + l.val) ⟨1280 + h.val, by omega⟩ := by
      refine (H.x ⟨128 * k.val + l.val, by omega⟩ ⟨1280 + h.val, by omega⟩).trans ?_
      refine congrArg (fun t => A.row b t _) ?_
      show 512 * q + (128 * k.val + l.val) = _
      ring
    have e2 : (B.inp k s).dtb (ix2 0 (hd h)) = A.bias h := H.dtb h
    rw [e, e2, row_real hA, hA.bias, ← EReal.coe_add]
    rfl
  rate h := (H.alog h).trans (hA.al h)
  tri l k := H.tril l k

/-- The head of lane `j` of pair `p`. -/
theorem headOf_eq (p : Fin 6) (j : Fin 128) :
    headOf ⟨2 * p.val, by omega⟩ ⟨2 * p.val + 1, by omega⟩ j = head ⟨128 * p.val + j.val, by omega⟩ := by
  unfold headOf head
  apply Fin.ext
  by_cases hj : j.val < 64
  · rw [if_pos hj]; show 2 * p.val = (128 * p.val + j.val) / 64; omega
  · rw [if_neg hj]; show 2 * p.val + 1 = (128 * p.val + j.val) / 64; omega

theorem stP_apply (hA : A.Fin) (H : BlkIs A b q B) (k : Fin 4) (p : Fin 6) (n j : Fin 128) :
    stP p (B.inp k (stAt A b (4 * q + k.val))) (plane (stAt A b (4 * q + k.val)).st p) (ix3 0 n j)
    = A.state b (4 * q + k.val + 1) ⟨128 * p.val + j.val, by omega⟩ n := by
  have R := real hA H k (stAt A b (4 * q + k.val))
  have hh := headOf_eq p j
  have key : stP p (B.inp k (stAt A b (4 * q + k.val))) (plane (stAt A b (4 * q + k.val)).st p) (ix3 0 n j)
    = (plane (stAt A b (4 * q + k.val)).st p) (ix3 0 n j) * ((_root_.Real.exp (A.run b (4 * q + k.val)
        (headOf ⟨2 * p.val, by omega⟩ ⟨2 * p.val + 1, by omega⟩ j) 127) : ℝ) : EReal)
      + ∑ l : Fin 128, (act (B.inp k (stAt A b (4 * q + k.val))) (ix2 l ⟨768 + 128 * (p.val / 3) + n.val, by omega⟩)
          * ((sp (A.logit b (128 * (4 * q + k.val) + l.val) (headOf ⟨2 * p.val, by omega⟩ ⟨2 * p.val + 1, by omega⟩ j))
            * _root_.Real.exp (A.run b (4 * q + k.val) (headOf ⟨2 * p.val, by omega⟩ ⟨2 * p.val + 1, by omega⟩ j) 127
              - A.run b (4 * q + k.val) (headOf ⟨2 * p.val, by omega⟩ ⟨2 * p.val + 1, by omega⟩ j) l) : ℝ) : EReal))
        * act (B.inp k (stAt A b (4 * q + k.val))) (ix2 l ⟨128 * p.val + j.val, by omega⟩) := by
    clear hh
    match p with
    | 0 => exact stT_apply R 0 768 0 1 _ _ _ _ _ _ _ n j
    | 1 => exact stT_apply R 128 768 2 3 _ _ _ _ _ _ _ n j
    | 2 => exact stT_apply R 256 768 4 5 _ _ _ _ _ _ _ n j
    | 3 => exact stT_apply R 384 896 6 7 _ _ _ _ _ _ _ n j
    | 4 => exact stT_apply R 512 896 8 9 _ _ _ _ _ _ _ n j
    | 5 => exact stT_apply R 640 896 10 11 _ _ _ _ _ _ _ n j
  rw [key, hh]
  simp only [act_apply H]
  have hg : (128 * p.val + j.val) / 384 = p.val / 3 := by omega
  show _ = _ + A.inc b (4 * q + k.val) _ n
  unfold Args.inc inCol col
  simp only [hg]
  rfl

theorem outP_apply (hA : A.Fin) (H : BlkIs A b q B) (k : Fin 4) (p : Fin 6) (l j : Fin 128) :
    outP p (B.inp k (stAt A b (4 * q + k.val))) (plane (stAt A b (4 * q + k.val)).st p) (B.skip p) (ix3 0 l j)
    = A.out b (4 * q + k.val) l ⟨128 * p.val + j.val, by omega⟩ := by
  have R := real hA H k (stAt A b (4 * q + k.val))
  have hh := headOf_eq p j
  have key : outP p (B.inp k (stAt A b (4 * q + k.val))) (plane (stAt A b (4 * q + k.val)).st p) (B.skip p) (ix3 0 l j)
    = (∑ s : Fin 128, ((∑ n : Fin 128, act (B.inp k (stAt A b (4 * q + k.val))) (ix2 l ⟨1024 + 128 * (p.val / 3) + n.val, by omega⟩)
          * act (B.inp k (stAt A b (4 * q + k.val))) (ix2 s ⟨768 + 128 * (p.val / 3) + n.val, by omega⟩))
        * ((if s ≤ l then sp (A.logit b (128 * (4 * q + k.val) + s.val) (headOf ⟨2 * p.val, by omega⟩ ⟨2 * p.val + 1, by omega⟩ j))
            * _root_.Real.exp (A.run b (4 * q + k.val) (headOf ⟨2 * p.val, by omega⟩ ⟨2 * p.val + 1, by omega⟩ j) l
              - A.run b (4 * q + k.val) (headOf ⟨2 * p.val, by omega⟩ ⟨2 * p.val + 1, by omega⟩ j) s) else 0 : ℝ) : EReal))
        * act (B.inp k (stAt A b (4 * q + k.val))) (ix2 s ⟨128 * p.val + j.val, by omega⟩))
      + (∑ n : Fin 128, act (B.inp k (stAt A b (4 * q + k.val))) (ix2 l ⟨1024 + 128 * (p.val / 3) + n.val, by omega⟩)
          * (plane (stAt A b (4 * q + k.val)).st p) (ix3 0 n j))
        * ((_root_.Real.exp (A.run b (4 * q + k.val) (headOf ⟨2 * p.val, by omega⟩ ⟨2 * p.val + 1, by omega⟩ j) l) : ℝ) : EReal)
      + act (B.inp k (stAt A b (4 * q + k.val))) (ix2 l ⟨128 * p.val + j.val, by omega⟩) * B.skip p (ix2 0 j) := by
    clear hh
    match p with
    | 0 => exact outT_apply R 0 768 1024 0 1 _ _ _ _ _ _ _ _ _ l j
    | 1 => exact outT_apply R 128 768 1024 2 3 _ _ _ _ _ _ _ _ _ l j
    | 2 => exact outT_apply R 256 768 1024 4 5 _ _ _ _ _ _ _ _ _ l j
    | 3 => exact outT_apply R 384 896 1152 6 7 _ _ _ _ _ _ _ _ _ l j
    | 4 => exact outT_apply R 512 896 1152 8 9 _ _ _ _ _ _ _ _ _ l j
    | 5 => exact outT_apply R 640 896 1152 10 11 _ _ _ _ _ _ _ _ _ l j
  rw [key, hh]
  simp only [act_apply H]
  have hg : (128 * p.val + j.val) / 384 = p.val / 3 := by omega
  unfold Args.out inCol outCol col
  simp only [hg]
  rw [show B.skip p (ix2 0 j) = A.d (head ⟨128 * p.val + j.val, by omega⟩) from H.dsk ⟨128 * p.val + j.val, by omega⟩]
  rfl

/-- A chunk takes what is carried into it to what is carried into the next. -/
theorem next_eq (hA : A.Fin) (H : BlkIs A b q B) (k : Fin 4) :
    B.next k (stAt A b (4 * q + k.val)) = stAt A b (4 * q + k.val + 1) := by
  have ht : (B.next k (stAt A b (4 * q + k.val))).tail = (stAt A b (4 * q + k.val + 1)).tail := by
    funext x
    have h0 := (x 0).isLt
    change (x 0).val < 8 at h0
    refine (behind_apply H k (128 + (x 0).val) (by omega) (x 1) (120 + (x 0).val) 0 (by omega) (by omega)).trans ?_
    unfold Args.tap stAt
    rw [if_pos (by omega)]
    dsimp only
    rw [if_neg (by omega)]
    refine congrArg (fun t => A.row b t _) ?_
    omega
  have hs : (B.next k (stAt A b (4 * q + k.val))).st = (stAt A b (4 * q + k.val + 1)).st := by
    funext y
    exact stP_apply hA H k (y 0) (y 1) (y 2)
  generalize B.next k (stAt A b (4 * q + k.val)) = u at ht hs
  generalize stAt A b (4 * q + k.val + 1) = v at ht hs
  cases u; cases v; cases ht; cases hs; rfl

theorem iter_eq (hA : A.Fin) (H : BlkIs A b q B) (k : ℕ) (hk : k ≤ 4) :
    B.iter (stAt A b (4 * q)) k = stAt A b (4 * q + k) := by
  induction k with
  | zero => rfl
  | succ k ih =>
    rw [Blk.iter, dif_pos (by omega), ih (by omega)]
    exact next_eq hA H ⟨k, by omega⟩

/-- A point's output. -/
theorem res_eq (hA : A.Fin) (H : BlkIs A b q B) (r : Fin 512) (c : Fin 768) :
    B.res (stAt A b (4 * q)) (ix3 0 r c)
    = A.out b (4 * q + r.val / 128) ⟨r.val % 128, Nat.mod_lt _ (by omega)⟩ c := by
  unfold Blk.res
  have hr : r.val / 128 < 4 := by omega
  rw [show B.iter (stAt A b (4 * q)) ((ix3 (0 : Fin 1) r c 1).val / 128) = stAt A b (4 * q + r.val / 128) from
    iter_eq hA H (r.val / 128) (by omega)]
  unfold Blk.out
  refine (outP_apply hA H ⟨r.val / 128, hr⟩ ⟨c.val / 128, by omega⟩ ⟨r.val % 128, Nat.mod_lt _ (by omega)⟩
    ⟨c.val % 128, Nat.mod_lt _ (by omega)⟩).trans ?_
  refine congrArg (A.out b _ _) (Fin.ext ?_)
  show 128 * (c.val / 128) + c.val % 128 = c.val
  omega

end Cert.KernelIdeal.Chunk
-- ==== Proof.Table.lean ====
module

public import proofs.«01_k».proof.KernelIdeal

/-! The triangle's table of ones and zeros. -/

@[expose] public section

namespace Cert.KernelIdeal.Hand

/-- Row `l` of the table is one up to lane `l`, zero behind it. -/
theorem lit0_eq : ∀ l k : Fin 128, Cert.KernelIdeal.lit0 (finProdFinEquiv (l, k)) = if k ≤ l then 0x3F800000#32 else 0#32 := by
  decide +kernel

end Cert.KernelIdeal.Hand
-- ==== Proof.Blocks.lean ====
module

public import proofs.«01_k».proof.Proof.FrameValue
public import proofs.«01_k».proof.Proof.Scan
public import proofs.«01_k».proof.Proof.Table
public import Idealize.ShloMosaic.Lib.Pointwise
public import Idealize.ShloMosaic.Lib.Pipeline.ValueKit
public import Idealize.ShloMosaic.Lib.Pipeline.Covers

/-! The scan's blocks in terms of its arguments, and its output. -/

@[expose] public section

noncomputable section

namespace Cert.KernelIdeal.Hand

open Idealize.ShloMosaic Cert.KernelIdeal Cert.KernelIdeal.Gen Cert.KernelIdeal.Chunk Ssd

variable (m : (ℓ : Loc nD τ sig) → Buf (Elt Ideal) ℓ)

/-- The program's arguments as the scan's. -/
def args (c : Dev nD) : Ssd.Args :=
  Ssd.Args.of (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))

theorem idx0 : ∀ t : Fin cfg0.N, (win0_0.index t 0 : ℕ) = t.val / 16 ∧ (win0_0.index t 1 : ℕ) = t.val % 16 ∧ (win0_0.index t 2 : ℕ) = 0 := by
  decide +kernel

theorem idx7 : ∀ t : Fin cfg0.N, (win0_7.index t 0 : ℕ) = t.val / 16 ∧ (win0_7.index t 1 : ℕ) = t.val % 16 ∧ (win0_7.index t 2 : ℕ) = 0 := by
  decide +kernel

/-- A vector of 12 behind its padding. -/
theorem padded_apply (x : FVec Ideal S12 .f32) (h : Fin 12) :
    pad S128 ![0] ![116] ![0] x (sitofp .f32 (constantI S_ 32 0#32)) pads_S12_S128_01160 h_S_ (ix1 (hd h)) = x (ix1 h) := by
  pointwise

theorem bias_apply (c : Dev nD) (h : Fin 12) :
    (V m c main_v5 : FVec Ideal S1x128 .f32) (ix2 0 (hd h)) = (m ((c.tc : Thread nD τ).loc main_arg3)) (ix1 h) := by
  simp only [V, hostOps0, hostOps0_1, hostOps0_2, hostOps0_3, hostOps0_4, List.flatten_cons, List.flatten_nil, List.append_nil,
    List.cons_append, List.nil_append]
  entry_read
  pointwise
  exact padded_apply (m ((c.tc : Thread nD τ).loc main_arg3)) h

theorem rate_apply (c : Dev nD) (h : Fin 12) :
    (V m c main_v7 : FVec Ideal S1x128 .f32) (ix2 0 (hd h)) = (m ((c.tc : Thread nD τ).loc main_arg4)) (ix1 h) := by
  simp only [V, hostOps0, hostOps0_1, hostOps0_2, hostOps0_3, hostOps0_4, List.flatten_cons, List.flatten_nil, List.append_nil,
    List.cons_append, List.nil_append]
  entry_read
  pointwise
  exact padded_apply (m ((c.tc : Thread nD τ).loc main_arg4)) h

theorem skip_apply (c : Dev nD) (j : Fin 768) :
    (V m c main_v2 : FVec Ideal S1x768 .f32) (ix2 0 j) = (m ((c.tc : Thread nD τ).loc main_arg5)) (ix1 (head j)) := by
  simp only [V, hostOps0, hostOps0_1, hostOps0_2, hostOps0_3, hostOps0_4, List.flatten_cons, List.flatten_nil, List.append_nil,
    List.cons_append, List.nil_append]
  entry_read
  pointwise
  rfl

theorem cb_apply (c : Dev nD) (j : Fin 1280) :
    (V m c main_v3 : FVec Ideal S1x1280 .f32) (ix2 0 j) = (m ((c.tc : Thread nD τ).loc main_arg2)) (ix1 j) := by
  simp only [V, hostOps0, hostOps0_1, hostOps0_2, hostOps0_3, hostOps0_4, List.flatten_cons, List.flatten_nil, List.append_nil,
    List.cons_append, List.nil_append]
  entry_read
  pointwise

theorem tril_apply (c : Dev nD) (l k : Fin 128) :
    (V m c main_cst : FVec Ideal S128x128 .f32) (ix2 l k) = (if k ≤ l then (1 : EReal) else 0) := by
  simp only [V, hostOps0, hostOps0_1, hostOps0_2, hostOps0_3, hostOps0_4, List.flatten_cons, List.flatten_nil, List.append_nil,
    List.cons_append, List.nil_append]
  entry_read
  rw [show S128x128.rowMajor (ix2 l k) = finProdFinEquiv (l, k) from Fin.ext (by
    rw [Shape.rowMajor_val_two]; show l.val * 128 + k.val = k.val + 128 * l.val; omega), lit0_eq]
  split
  · exact Ideal.ofBits_one_f32
  · exact Ideal.ofBits_zero_f32

theorem emb1 (t : Fin cfg0.N) (y) : ((cfg0.win 1).blk t).view.emb y = y := by
  have h : (win0_1.index t 0 : ℕ) = 0 ∧ (win0_1.index t 1 : ℕ) = 0 := ⟨rfl, rfl⟩
  blk_ext [h]

theorem iblk1 (c : Dev nD) (t : Fin cfg0.N) (y) : iblk m c 1 t y = V m c main_arg1 y := by
  unfold iblk
  exact congrArg (V m c main_arg1) (emb1 t y)

theorem emb2 (t : Fin cfg0.N) (y) : ((cfg0.win 2).blk t).view.emb y = y := by
  have h : (win0_2.index t 0 : ℕ) = 0 ∧ (win0_2.index t 1 : ℕ) = 0 := ⟨rfl, rfl⟩
  blk_ext [h]

theorem iblk2 (c : Dev nD) (t : Fin cfg0.N) (y) : iblk m c 2 t y = V m c main_v3 y := by
  unfold iblk
  exact congrArg (V m c main_v3) (emb2 t y)

theorem emb3 (t : Fin cfg0.N) (y) : ((cfg0.win 3).blk t).view.emb y = y := by
  have h : (win0_3.index t 0 : ℕ) = 0 ∧ (win0_3.index t 1 : ℕ) = 0 := ⟨rfl, rfl⟩
  blk_ext [h]

theorem iblk3 (c : Dev nD) (t : Fin cfg0.N) (y) : iblk m c 3 t y = V m c main_v5 y := by
  unfold iblk
  exact congrArg (V m c main_v5) (emb3 t y)

theorem emb4 (t : Fin cfg0.N) (y) : ((cfg0.win 4).blk t).view.emb y = y := by
  have h : (win0_4.index t 0 : ℕ) = 0 ∧ (win0_4.index t 1 : ℕ) = 0 := ⟨rfl, rfl⟩
  blk_ext [h]

theorem iblk4 (c : Dev nD) (t : Fin cfg0.N) (y) : iblk m c 4 t y = V m c main_v7 y := by
  unfold iblk
  exact congrArg (V m c main_v7) (emb4 t y)

theorem emb5 (t : Fin cfg0.N) (y) : ((cfg0.win 5).blk t).view.emb y = y := by
  have h : (win0_5.index t 0 : ℕ) = 0 ∧ (win0_5.index t 1 : ℕ) = 0 := ⟨rfl, rfl⟩
  blk_ext [h]

theorem iblk5 (c : Dev nD) (t : Fin cfg0.N) (y) : iblk m c 5 t y = V m c main_v2 y := by
  unfold iblk
  exact congrArg (V m c main_v2) (emb5 t y)

theorem emb6 (t : Fin cfg0.N) (y) : ((cfg0.win 6).blk t).view.emb y = y := by
  have h : (win0_6.index t 0 : ℕ) = 0 ∧ (win0_6.index t 1 : ℕ) = 0 := ⟨rfl, rfl⟩
  blk_ext [h]

theorem iblk6 (c : Dev nD) (t : Fin cfg0.N) (y) : iblk m c 6 t y = V m c main_cst y := by
  unfold iblk
  exact congrArg (V m c main_cst) (emb6 t y)

theorem iblk0 (c : Dev nD) (t : Fin cfg0.N) (r : Fin 512) (j : Fin 1408) :
    iblk m c 0 t (ix3 0 r j) = Args.row (args m c) ⟨t.val / 16, by have h := t.isLt; change t.val < 128 at h; omega⟩
      (512 * (t.val % 16) + r.val) j := by
  have ht : t.val < 128 := t.isLt
  unfold Args.row
  rw [dif_pos (by omega)]
  show _ = (m ((c.tc : Thread nD τ).loc main_arg0)) _
  blk_ext [iblk, V, idx0 t]

theorem blkIs (c : Dev nD) (t : Fin cfg0.N) :
    BlkIs (args m c) ⟨t.val / 16, by have h := t.isLt; change t.val < 128 at h; omega⟩ (t.val % 16) (blkAt m c t) where
  x := iblk0 m c t
  w i j := by
    refine (iblk1 m c t (ix2 i j)).trans ?_
    rw [V_main_arg1]
    rfl
  cb j := by
    refine (iblk2 m c t (ix2 0 j)).trans ?_
    exact cb_apply m c j
  dtb h := by
    refine (iblk3 m c t (ix2 0 (hd h))).trans ?_
    exact bias_apply m c h
  alog h := by
    refine (iblk4 m c t (ix2 0 (hd h))).trans ?_
    exact rate_apply m c h
  dsk j := by
    refine (iblk5 m c t (ix2 0 j)).trans ?_
    exact skip_apply m c j
  tril l k := by
    refine (iblk6 m c t (ix2 l k)).trans ?_
    exact tril_apply m c l k

theorem zero_eq (A : Ssd.Args) (b : Fin 8) : (St.zero : St Ideal) = stAt A b 0 := by
  have e1 : (k0_pay1 : FVec Ideal _ .f32) = (stAt A b 0).tail := by
    funext x; unfold k0_pay1; pointwise; rfl
  have e2 : (k0_pay2 : FVec Ideal _ .f32) = (stAt A b 0).st := by
    funext x; unfold k0_pay2; pointwise; rfl
  unfold St.zero
  rw [e1, e2]

/-- Before each point the scratch carries the recurrence's state. -/
theorem entry_eq (c : Dev nD) (hA : (args m c).Fin) (t : Fin cfg0.N) :
    entry m c t.val = stAt (args m c) ⟨t.val / 16, by have h := t.isLt; change t.val < 128 at h; omega⟩ (4 * (t.val % 16)) := by
  have ht : t.val < 128 := t.isLt
  obtain ⟨n, hn⟩ := t
  change n < 128 at ht
  induction n with
  | zero => exact zero_eq _ _
  | succ n ih =>
    unfold entry
    by_cases h0 : (n + 1) % 16 = 0
    · rw [if_pos h0]
      simp only [h0]
      exact zero_eq _ _
    · rw [if_neg h0]
      have hs := traj_succ m c ⟨n, by show n < 128; omega⟩
      rw [ih (by show n < 128; omega) (by omega)] at hs
      refine hs.trans ((iter_eq hA (blkIs m c ⟨n, by show n < 128; omega⟩) 4 le_rfl).trans ?_)
      have e1 : n / 16 = (n + 1) / 16 := by omega
      have e2 : 4 * (n % 16) + 4 = 4 * ((n + 1) % 16) := by omega
      simp only [e1, e2]

/-- The output array. -/
def result (A : Ssd.Args) : FVec Ideal S8x8192x768 .f32 := fun i =>
  A.out (i 0) ((i 1).val / 128) ⟨(i 1).val % 128, Nat.mod_lt _ (by omega)⟩ (i 2)

theorem out_eq (c : Dev nD) (hA : (args m c).Fin) :
    (dats m 0 c).arrAt 7 cfg0.N = result (args m c) := by
  refine (dats m 0 c).arrAt_eq_of_covers 7 _ (by decide +kernel) fun t hf y => ?_
  have ht : t.val < 128 := t.isLt
  blk_simp
  rw [after0_7, entry_eq m c hA t]
  idx_vars y
  have hy : y0 = 0 := Subsingleton.elim _ _
  subst hy
  refine (res_eq hA (blkIs m c t) y1 y2).trans ?_
  have e : (((View.whole main_v8).slice (win0_7.rect t)).emb (ix3 0 y1 y2))
      = ix3 ⟨t.val / 16, by omega⟩ ⟨512 * (t.val % 16) + y1.val, by omega⟩ y2 := by
    blk_ext [idx7 t]
  rw [e]
  show _ = (args m c).out _ ((512 * (t.val % 16) + y1.val) / 128) ⟨(512 * (t.val % 16) + y1.val) % 128, _⟩ y2
  have e1 : (512 * (t.val % 16) + y1.val) / 128 = 4 * (t.val % 16) + y1.val / 128 := by omega
  have e2 : (512 * (t.val % 16) + y1.val) % 128 = y1.val % 128 := by omega
  simp only [e1, e2]
  rfl

end Cert.KernelIdeal.Hand
-- ==== Proof.Window.lean ====
module

public import Idealize.ShloMosaic.Lib.Pointwise
public import Idealize.ShloMosaic.Lib.IdealHost

/-! Running sums: a window of the whole last axis, padded low by one less than its length. -/

@[expose] public section

noncomputable section

namespace Ssd

open Idealize.ShloMosaic

theorem foldl_sum {α : Type} (L : List α) (g : α → EReal) (v : EReal) :
    L.foldl (fun r n => r + g n) v = v + (L.map g).sum := by
  induction L generalizing v with
  | nil => simp
  | cons a L ih => simp only [List.foldl_cons, List.map_cons, List.sum_cons, ih, add_assoc]

theorem window_sum (N : ℕ) (f : ℕ → EReal) (j : ℕ) (hj : j ≤ N) :
    (∑ k : Fin (N + 1), if N ≤ j + k.val then f (j + k.val - N) else 0)
      = ∑ k : Fin (N + 1), if k.val ≤ j then f k.val else 0 := by
  rw [← Finset.sum_filter, ← Finset.sum_filter]
  refine Finset.sum_nbij' (fun k => ⟨j + k.val - N, by omega⟩) (fun k => ⟨(k.val + N - j) % (N + 1), Nat.mod_lt _ (by omega)⟩) ?_ ?_ ?_ ?_ ?_
  · intro k hk
    simp only [Finset.mem_filter, Finset.mem_univ, true_and] at hk ⊢
    omega
  · intro k hk
    simp only [Finset.mem_filter, Finset.mem_univ, true_and] at hk ⊢
    rw [Nat.mod_eq_of_lt (by omega)]
    omega
  · intro k hk
    simp only [Finset.mem_filter, Finset.mem_univ, true_and] at hk
    apply Fin.ext
    show (j + k.val - N + N - j) % (N + 1) = k.val
    rw [Nat.mod_eq_of_lt (by omega)]
    omega
  · intro k hk
    simp only [Finset.mem_filter, Finset.mem_univ, true_and] at hk
    apply Fin.ext
    show j + (k.val + N - j) % (N + 1) - N = k.val
    rw [Nat.mod_eq_of_lt (by omega)]
    omega
  · intro k hk
    rfl

/-- The indices of a window of the last axis alone. -/
def last5 (K : ℕ) : (⟨5, ![1, 1, 1, 1, K]⟩ : Shape).Idx ≃ Fin K where
  toFun w := w 4
  invFun k := ix5 (0 : Fin 1) (0 : Fin 1) (0 : Fin 1) (0 : Fin 1) k
  left_inv w := by
    refine (congrArg₂ (fun (p : Fin 1 × Fin 1) (q : Fin 1 × Fin 1) => (ix5 p.1 p.2 q.1 q.2 (w 4) : (⟨5, ![1, 1, 1, 1, K]⟩ : Shape).Idx))
      (Subsingleton.elim ((0, 0) : Fin 1 × Fin 1) (w 0, w 1)) (Subsingleton.elim ((0, 0) : Fin 1 × Fin 1) (w 2, w 3))).trans (eq_ix5 w).symm
  right_inv k := rfl

def last4 (K : ℕ) : (⟨4, ![1, 1, 1, K]⟩ : Shape).Idx ≃ Fin K where
  toFun w := w 3
  invFun k := ix4 (0 : Fin 1) (0 : Fin 1) (0 : Fin 1) k
  left_inv w := by
    refine (congrArg₂ (fun (p : Fin 1 × Fin 1) (q : Fin 1) => (ix4 p.1 p.2 q (w 3) : (⟨4, ![1, 1, 1, K]⟩ : Shape).Idx))
      (Subsingleton.elim ((0, 0) : Fin 1 × Fin 1) (w 0, w 1)) (Subsingleton.elim (0 : Fin 1) (w 2))).trans (eq_ix4 w).symm
  right_inv k := rfl

theorem cumsum5 {a b c d N : ℕ} (x : FVec Ideal ⟨5, ![a, b, c, d, N + 1]⟩ .f32) (z : FVec Ideal ⟨0, ![]⟩ .f32)
    (hz : ∀ i, z i = (0 : EReal)) (h) (hu) (i0 : Fin a) (i1 : Fin b) (i2 : Fin c) (i3 : Fin d) (j : Fin (N + 1)) :
    Host.reduceWindowAdd (F := Ideal) (s := ⟨5, ![a, b, c, d, N + 1]⟩) (t := ⟨5, ![a, b, c, d, N + 1]⟩)
      ![1, 1, 1, 1, N + 1] ![1, 1, 1, 1, 1] ![0, 0, 0, 0, N] ![0, 0, 0, 0, 0] x z h hu (ix5 i0 i1 i2 i3 j)
    = ∑ k : Fin (N + 1), if k ≤ j then (x (ix5 i0 i1 i2 i3 k) : EReal) else 0 := by
  have hj := j.isLt
  let f : ℕ → EReal := fun k => if hk : k < N + 1 then x (ix5 i0 i1 i2 i3 ⟨k, hk⟩) else 0
  have e : (∑ k : Fin (N + 1), if k ≤ j then (x (ix5 i0 i1 i2 i3 k) : EReal) else 0)
      = ∑ k : Fin (N + 1), if k.val ≤ j.val then f k.val else 0 :=
    Finset.sum_congr rfl fun k _ => by
      show _ = if k.val ≤ j.val then (if hk : k.val < N + 1 then x (ix5 i0 i1 i2 i3 ⟨k.val, hk⟩) else 0) else 0
      rw [dif_pos k.isLt]
      rfl
  rw [e, ← window_sum N f j.val (by omega)]
  unfold Host.reduceWindowAdd
  rw [Ideal.hostReduceWindowAdd_def]
  unfold Ideal.hostReduceWindowAdd Host.reduceWindow
  dsimp only
  rw [hz]
  rw [foldl_sum, zero_add, ← List.ofFn_eq_map, List.sum_ofFn]
  rw [← Equiv.sum_comp (((⟨5, ![1, 1, 1, 1, N + 1]⟩ : Shape).rowMajor.symm).trans (last5 (N + 1)))]
  refine Finset.sum_congr rfl fun n _ => ?_
  change _ = if N ≤ j.val + ((⟨5, ![1, 1, 1, 1, N + 1]⟩ : Shape).rowMajor.symm n 4).val then f (j.val + ((⟨5, ![1, 1, 1, 1, N + 1]⟩ : Shape).rowMajor.symm n 4).val - N) else 0
  have w0 : ((⟨5, ![1, 1, 1, 1, N + 1]⟩ : Shape).rowMajor.symm n 0).val = 0 := by have := ((⟨5, ![1, 1, 1, 1, N + 1]⟩ : Shape).rowMajor.symm n 0).isLt; change ((⟨5, ![1, 1, 1, 1, N + 1]⟩ : Shape).rowMajor.symm n 0).val < 1 at this; omega
  have w1 : ((⟨5, ![1, 1, 1, 1, N + 1]⟩ : Shape).rowMajor.symm n 1).val = 0 := by have := ((⟨5, ![1, 1, 1, 1, N + 1]⟩ : Shape).rowMajor.symm n 1).isLt; change ((⟨5, ![1, 1, 1, 1, N + 1]⟩ : Shape).rowMajor.symm n 1).val < 1 at this; omega
  have w2 : ((⟨5, ![1, 1, 1, 1, N + 1]⟩ : Shape).rowMajor.symm n 2).val = 0 := by have := ((⟨5, ![1, 1, 1, 1, N + 1]⟩ : Shape).rowMajor.symm n 2).isLt; change ((⟨5, ![1, 1, 1, 1, N + 1]⟩ : Shape).rowMajor.symm n 2).val < 1 at this; omega
  have w3 : ((⟨5, ![1, 1, 1, 1, N + 1]⟩ : Shape).rowMajor.symm n 3).val = 0 := by have := ((⟨5, ![1, 1, 1, 1, N + 1]⟩ : Shape).rowMajor.symm n 3).isLt; change ((⟨5, ![1, 1, 1, 1, N + 1]⟩ : Shape).rowMajor.symm n 3).val < 1 at this; omega
  have w4 : ((⟨5, ![1, 1, 1, 1, N + 1]⟩ : Shape).rowMajor.symm n 4).val < N + 1 := ((⟨5, ![1, 1, 1, 1, N + 1]⟩ : Shape).rowMajor.symm n 4).isLt
  by_cases hc : N ≤ j.val + ((⟨5, ![1, 1, 1, 1, N + 1]⟩ : Shape).rowMajor.symm n 4).val
  · rw [if_pos hc, dif_pos]
    · show _ = if hk : j.val + ((⟨5, ![1, 1, 1, 1, N + 1]⟩ : Shape).rowMajor.symm n 4).val - N < N + 1 then x (ix5 i0 i1 i2 i3 ⟨_, hk⟩) else 0
      rw [dif_pos (by omega)]
      refine congrArg x (funext fun q => Fin.ext ?_)
      match q with
      | ⟨0, _⟩ => show i0.val * 1 + ((⟨5, ![1, 1, 1, 1, N + 1]⟩ : Shape).rowMajor.symm n 0).val - 0 = i0.val; omega
      | ⟨1, _⟩ => show i1.val * 1 + ((⟨5, ![1, 1, 1, 1, N + 1]⟩ : Shape).rowMajor.symm n 1).val - 0 = i1.val; omega
      | ⟨2, _⟩ => show i2.val * 1 + ((⟨5, ![1, 1, 1, 1, N + 1]⟩ : Shape).rowMajor.symm n 2).val - 0 = i2.val; omega
      | ⟨3, _⟩ => show i3.val * 1 + ((⟨5, ![1, 1, 1, 1, N + 1]⟩ : Shape).rowMajor.symm n 3).val - 0 = i3.val; omega
      | ⟨4, _⟩ => show j.val * 1 + ((⟨5, ![1, 1, 1, 1, N + 1]⟩ : Shape).rowMajor.symm n 4).val - N = j.val + ((⟨5, ![1, 1, 1, 1, N + 1]⟩ : Shape).rowMajor.symm n 4).val - N; omega
    · intro q
      match q with
      | ⟨0, _⟩ => show 0 ≤ i0.val * 1 + ((⟨5, ![1, 1, 1, 1, N + 1]⟩ : Shape).rowMajor.symm n 0).val ∧ i0.val * 1 + ((⟨5, ![1, 1, 1, 1, N + 1]⟩ : Shape).rowMajor.symm n 0).val - 0 < a; omega
      | ⟨1, _⟩ => show 0 ≤ i1.val * 1 + ((⟨5, ![1, 1, 1, 1, N + 1]⟩ : Shape).rowMajor.symm n 1).val ∧ i1.val * 1 + ((⟨5, ![1, 1, 1, 1, N + 1]⟩ : Shape).rowMajor.symm n 1).val - 0 < b; omega
      | ⟨2, _⟩ => show 0 ≤ i2.val * 1 + ((⟨5, ![1, 1, 1, 1, N + 1]⟩ : Shape).rowMajor.symm n 2).val ∧ i2.val * 1 + ((⟨5, ![1, 1, 1, 1, N + 1]⟩ : Shape).rowMajor.symm n 2).val - 0 < c; omega
      | ⟨3, _⟩ => show 0 ≤ i3.val * 1 + ((⟨5, ![1, 1, 1, 1, N + 1]⟩ : Shape).rowMajor.symm n 3).val ∧ i3.val * 1 + ((⟨5, ![1, 1, 1, 1, N + 1]⟩ : Shape).rowMajor.symm n 3).val - 0 < d; omega
      | ⟨4, _⟩ => show N ≤ j.val * 1 + ((⟨5, ![1, 1, 1, 1, N + 1]⟩ : Shape).rowMajor.symm n 4).val ∧ j.val * 1 + ((⟨5, ![1, 1, 1, 1, N + 1]⟩ : Shape).rowMajor.symm n 4).val - N < N + 1; omega
  · rw [if_neg hc, dif_neg]
    intro hq
    have h4 : N ≤ j.val * 1 + ((⟨5, ![1, 1, 1, 1, N + 1]⟩ : Shape).rowMajor.symm n 4).val := (hq 4).1
    omega

theorem cumsum4 {a b c N : ℕ} (x : FVec Ideal ⟨4, ![a, b, c, N + 1]⟩ .f32) (z : FVec Ideal ⟨0, ![]⟩ .f32)
    (hz : ∀ i, z i = (0 : EReal)) (h) (hu) (i0 : Fin a) (i1 : Fin b) (i2 : Fin c) (j : Fin (N + 1)) :
    Host.reduceWindowAdd (F := Ideal) (s := ⟨4, ![a, b, c, N + 1]⟩) (t := ⟨4, ![a, b, c, N + 1]⟩)
      ![1, 1, 1, N + 1] ![1, 1, 1, 1] ![0, 0, 0, N] ![0, 0, 0, 0] x z h hu (ix4 i0 i1 i2 j)
    = ∑ k : Fin (N + 1), if k ≤ j then (x (ix4 i0 i1 i2 k) : EReal) else 0 := by
  have hj := j.isLt
  let f : ℕ → EReal := fun k => if hk : k < N + 1 then x (ix4 i0 i1 i2 ⟨k, hk⟩) else 0
  have e : (∑ k : Fin (N + 1), if k ≤ j then (x (ix4 i0 i1 i2 k) : EReal) else 0)
      = ∑ k : Fin (N + 1), if k.val ≤ j.val then f k.val else 0 :=
    Finset.sum_congr rfl fun k _ => by
      show _ = if k.val ≤ j.val then (if hk : k.val < N + 1 then x (ix4 i0 i1 i2 ⟨k.val, hk⟩) else 0) else 0
      rw [dif_pos k.isLt]
      rfl
  rw [e, ← window_sum N f j.val (by omega)]
  unfold Host.reduceWindowAdd
  rw [Ideal.hostReduceWindowAdd_def]
  unfold Ideal.hostReduceWindowAdd Host.reduceWindow
  dsimp only
  rw [hz]
  rw [foldl_sum, zero_add, ← List.ofFn_eq_map, List.sum_ofFn]
  rw [← Equiv.sum_comp (((⟨4, ![1, 1, 1, N + 1]⟩ : Shape).rowMajor.symm).trans (last4 (N + 1)))]
  refine Finset.sum_congr rfl fun n _ => ?_
  change _ = if N ≤ j.val + ((⟨4, ![1, 1, 1, N + 1]⟩ : Shape).rowMajor.symm n 3).val then f (j.val + ((⟨4, ![1, 1, 1, N + 1]⟩ : Shape).rowMajor.symm n 3).val - N) else 0
  have w0 : ((⟨4, ![1, 1, 1, N + 1]⟩ : Shape).rowMajor.symm n 0).val = 0 := by have := ((⟨4, ![1, 1, 1, N + 1]⟩ : Shape).rowMajor.symm n 0).isLt; change ((⟨4, ![1, 1, 1, N + 1]⟩ : Shape).rowMajor.symm n 0).val < 1 at this; omega
  have w1 : ((⟨4, ![1, 1, 1, N + 1]⟩ : Shape).rowMajor.symm n 1).val = 0 := by have := ((⟨4, ![1, 1, 1, N + 1]⟩ : Shape).rowMajor.symm n 1).isLt; change ((⟨4, ![1, 1, 1, N + 1]⟩ : Shape).rowMajor.symm n 1).val < 1 at this; omega
  have w2 : ((⟨4, ![1, 1, 1, N + 1]⟩ : Shape).rowMajor.symm n 2).val = 0 := by have := ((⟨4, ![1, 1, 1, N + 1]⟩ : Shape).rowMajor.symm n 2).isLt; change ((⟨4, ![1, 1, 1, N + 1]⟩ : Shape).rowMajor.symm n 2).val < 1 at this; omega
  have w3 : ((⟨4, ![1, 1, 1, N + 1]⟩ : Shape).rowMajor.symm n 3).val < N + 1 := ((⟨4, ![1, 1, 1, N + 1]⟩ : Shape).rowMajor.symm n 3).isLt
  by_cases hc : N ≤ j.val + ((⟨4, ![1, 1, 1, N + 1]⟩ : Shape).rowMajor.symm n 3).val
  · rw [if_pos hc, dif_pos]
    · show _ = if hk : j.val + ((⟨4, ![1, 1, 1, N + 1]⟩ : Shape).rowMajor.symm n 3).val - N < N + 1 then x (ix4 i0 i1 i2 ⟨_, hk⟩) else 0
      rw [dif_pos (by omega)]
      refine congrArg x (funext fun q => Fin.ext ?_)
      match q with
      | ⟨0, _⟩ => show i0.val * 1 + ((⟨4, ![1, 1, 1, N + 1]⟩ : Shape).rowMajor.symm n 0).val - 0 = i0.val; omega
      | ⟨1, _⟩ => show i1.val * 1 + ((⟨4, ![1, 1, 1, N + 1]⟩ : Shape).rowMajor.symm n 1).val - 0 = i1.val; omega
      | ⟨2, _⟩ => show i2.val * 1 + ((⟨4, ![1, 1, 1, N + 1]⟩ : Shape).rowMajor.symm n 2).val - 0 = i2.val; omega
      | ⟨3, _⟩ => show j.val * 1 + ((⟨4, ![1, 1, 1, N + 1]⟩ : Shape).rowMajor.symm n 3).val - N = j.val + ((⟨4, ![1, 1, 1, N + 1]⟩ : Shape).rowMajor.symm n 3).val - N; omega
    · intro q
      match q with
      | ⟨0, _⟩ => show 0 ≤ i0.val * 1 + ((⟨4, ![1, 1, 1, N + 1]⟩ : Shape).rowMajor.symm n 0).val ∧ i0.val * 1 + ((⟨4, ![1, 1, 1, N + 1]⟩ : Shape).rowMajor.symm n 0).val - 0 < a; omega
      | ⟨1, _⟩ => show 0 ≤ i1.val * 1 + ((⟨4, ![1, 1, 1, N + 1]⟩ : Shape).rowMajor.symm n 1).val ∧ i1.val * 1 + ((⟨4, ![1, 1, 1, N + 1]⟩ : Shape).rowMajor.symm n 1).val - 0 < b; omega
      | ⟨2, _⟩ => show 0 ≤ i2.val * 1 + ((⟨4, ![1, 1, 1, N + 1]⟩ : Shape).rowMajor.symm n 2).val ∧ i2.val * 1 + ((⟨4, ![1, 1, 1, N + 1]⟩ : Shape).rowMajor.symm n 2).val - 0 < c; omega
      | ⟨3, _⟩ => show N ≤ j.val * 1 + ((⟨4, ![1, 1, 1, N + 1]⟩ : Shape).rowMajor.symm n 3).val ∧ j.val * 1 + ((⟨4, ![1, 1, 1, N + 1]⟩ : Shape).rowMajor.symm n 3).val - N < N + 1; omega
  · rw [if_neg hc, dif_neg]
    intro hq
    have h4 : N ≤ j.val * 1 + ((⟨4, ![1, 1, 1, N + 1]⟩ : Shape).rowMajor.symm n 3).val := (hq 3).1
    omega

end Ssd
-- ==== Proof.RefStep.lean ====
module

public import proofs.«01_k».proof.Proof.Gen.ReferenceIdeal.Read
public import proofs.«01_k».proof.Proof.Spec
public import proofs.«01_k».proof.Proof.Window
public import Idealize.ShloMosaic.Lib.WordCmp

/-! The reference's stages in terms of the scan's mathematics: the gated rows and the decays. -/

@[expose] public section

noncomputable section

namespace Cert.ReferenceIdeal.Read

open Idealize.ShloMosaic Cert.ReferenceIdeal Ssd

theorem conv_sum (t0 t1 t2 t3 w0 w1 w2 w3 c : EReal) :
    t3 * w0 + t2 * w1 + t1 * w2 + t0 * w3 + c = c + w3 * t0 + w2 * t1 + w1 * t2 + w0 * t3 := by
  rw [mul_comm t3, mul_comm t2, mul_comm t1, mul_comm t0]
  ac_rfl

/-- The integer zero as a number. -/
theorem sitofp_zero : (FloatOps.sitofp (F := Ideal) .f32 0#32 : EReal) = 0 := by
  show (((0#32 : BitVec 32).toInt : ℝ) : EReal) = 0
  simp

/-- The exponential of a masked exponent. -/
theorem masked_exp (l k : ℕ) (hl : l < 2 ^ 31) (hk : k < 2 ^ 31) (a : ℝ) :
    Ideal.exp (Scalar.select (Scalar.select (IntOp.cmpi CmpIPredicate.sge (IntOp.addi (BitVec.ofNat 32 l) 0#32) (BitVec.ofNat 32 k)) 1#1 0#1)
      (a : EReal) (id (constant (F := Ideal) S_ FTy.f32 4286578688#32) ix0)) = (((if k ≤ l then Real.exp a else 0 : ℝ)) : EReal) := by
  have e0 : IntOp.addi (BitVec.ofNat 32 l) 0#32 = BitVec.ofNat 32 l := by unfold IntOp.addi; simp
  rw [e0, WordCmp.cmpi_sge_ofNat hl hk]
  by_cases h : k ≤ l
  · rw [if_pos h, decide_eq_true h]
    exact Ideal.exp_coe a
  · rw [if_neg h, decide_eq_false h]
    show Ideal.exp (Ideal.ofBits .f32 0xFF800000#32) = 0
    rw [show Ideal.ofBits .f32 0xFF800000#32 = (⊥ : EReal) by simp [Ideal.ofBits, Ideal.ieee]]
    rfl

variable (x0 : FVec Ideal S8x8192x1408 .f32) (x1 : FVec Ideal S4x1280 .f32) (x2 : FVec Ideal S1280 .f32)
  (x3 x4 x5 : FVec Ideal S12 .f32)

theorem padded_apply (b : Fin 8) (t k : ℕ) (ht : t < 8192) (hk : k ≤ 3) (j : Fin 1280) :
    val_main_v2 (F := Ideal) x0 (ix3 b ⟨3 + t - k, by omega⟩ j) = (Args.of x0 x1 x2 x3 x4 x5).tap b t k j := by
  unfold val_main_v2 val_main_call0_v0 val_main_c val_main_v0
  pointwise
  unfold Args.tap Args.row
  by_cases h : k ≤ t
  · rw [dif_pos (by omega), if_pos h, dif_pos (by omega)]
    refine congrArg x0 ?_
    have e : 3 + t - k - 3 = t - k := by omega
    simp only [e]
  · rw [dif_neg (by omega), if_neg h]
    exact sitofp_zero

theorem gated_apply (b : Fin 8) (t : Fin 8192) (j : Fin 1280) :
    val_main_v33 (F := Ideal) x0 x1 x2 (ix3 b t j) = (Args.of x0 x1 x2 x3 x4 x5).act b t.val j := by
  unfold val_main_v33 val_main_call1_v5 val_main_call1_v4 val_main_call1_v3 val_main_call1_v2 val_main_call1_v1
    val_main_call1_v0 val_main_call1_cst val_main_call1_cst_0
  have e : val_main_v32 (F := Ideal) x0 x1 x2 (ix3 b t j) = (Args.of x0 x1 x2 x3 x4 x5).pre b t.val j := by
    unfold val_main_v32 val_main_v31 val_main_v30 val_main_v29 val_main_v28 val_main_v27 val_main_v26 val_main_v25 val_main_v24
      val_main_v23 val_main_v22 val_main_v21 val_main_v20 val_main_v19 val_main_v18 val_main_v17 val_main_v16 val_main_v15
      val_main_v14 val_main_v13 val_main_v12 val_main_v11 val_main_v10 val_main_v9 val_main_v8 val_main_v7 val_main_v6
      val_main_v5 val_main_v4 val_main_v3
    pointwise
    have t0 := padded_apply x0 x1 x2 x3 x4 x5 b t.val 0 t.isLt (by omega) j
    have t1 := padded_apply x0 x1 x2 x3 x4 x5 b t.val 1 t.isLt (by omega) j
    have t2 := padded_apply x0 x1 x2 x3 x4 x5 b t.val 2 t.isLt (by omega) j
    have t3 := padded_apply x0 x1 x2 x3 x4 x5 b t.val 3 t.isLt (by omega) j
    have e1 : 3 + t.val - 1 = 2 + t.val := by omega
    have e2 : 3 + t.val - 2 = 1 + t.val := by omega
    have e3 : 3 + t.val - 3 = t.val := by omega
    simp only [e1, e2, e3, Nat.sub_zero] at t0 t1 t2 t3
    rw [t0, t1, t2, t3]
    unfold Args.pre
    show _ = x2 (ix1 j) + x1 (ix2 3 j) * _ + x1 (ix2 2 j) * _ + x1 (ix2 1 j) * _ + x1 (ix2 0 j) * _
    exact conv_sum _ _ _ _ _ _ _ _ _
  pointwise
  rw [e]
  unfold Args.act
  rw [zero_sub]

theorem step_apply (b : Fin 8) (t : Fin 8192) (h : Fin 12) (hA : (Args.of x0 x1 x2 x3 x4 x5).Fin) :
    val_main_v43 (F := Ideal) x0 x3 (ix3 b t h) = ((sp ((Args.of x0 x1 x2 x3 x4 x5).logit b t.val h) : ℝ) : EReal) := by
  unfold val_main_v43 val_main_call2_v11 val_main_call2_v10 val_main_call2_v9 val_main_call2_v8 val_main_call2_v7
   val_main_call2_v6 val_main_call2_v5 val_main_call2_v4 val_main_call2_v3 val_main_call2_v2 val_main_call2_v1
   val_main_call2_v0 val_main_call2_cst val_main_v42 val_main_v41 val_main_v40 val_main_v1
  pointwise
  have e : x0 (ix3 b t ⟨1280 + h.val, by omega⟩) + x3 (ix1 h) = (((Args.of x0 x1 x2 x3 x4 x5).logit b t.val h : ℝ) : EReal) := by
    have e1 := hA.X b t h
    have e2 := hA.bias h
    change x0 (ix3 b t ⟨1280 + h.val, by omega⟩) = _ at e1
    change x3 (ix1 h) = _ at e2
    rw [e1, e2, ← EReal.coe_add]
    unfold Args.logit Args.row
    rw [dif_pos t.isLt]
  rw [e, if_neg (by simp), ← softplus_coe, zero_sub]
  rfl

/-- The head of a group's place. -/
def gh (g : Fin 2) (e : Fin 6) : Fin 12 := ⟨g.val * 6 + e.val, by omega⟩

theorem expo_apply (hA : (Args.of x0 x1 x2 x3 x4 x5).Fin) (b : Fin 8) (g : Fin 2) (e : Fin 6) (c : Fin 64) (l : Fin 128) :
    val_main_v51 (F := Ideal) x0 x3 x4 (ix5 b g e c l)
      = ((sp ((Args.of x0 x1 x2 x3 x4 x5).logit b (128 * c.val + l.val) (gh g e)) * -Real.exp ((Args.of x0 x1 x2 x3 x4 x5).al (gh g e)).toReal : ℝ) : EReal) := by
  unfold val_main_v51 val_main_v50 val_main_v49 val_main_v48 val_main_v47 val_main_v46 val_main_v45 val_main_v44
  pointwise
  have h := step_apply x0 x1 x2 x3 x4 x5 b ⟨c.val * 128 + l.val, by omega⟩ (gh g e) hA
  have e2 : -Ideal.exp (x4 (ix1 (gh g e))) = ((-Real.exp ((Args.of x0 x1 x2 x3 x4 x5).al (gh g e)).toReal : ℝ) : EReal) := by
    rw [show x4 (ix1 (gh g e)) = _ from hA.al (gh g e), Ideal.exp_coe, EReal.coe_neg]
  have hc : 128 * c.val + l.val = c.val * 128 + l.val := by omega
  refine (congrArg₂ (· * ·) h e2).trans ?_
  rw [hc]
  exact (EReal.coe_mul _ _).symm

theorem cum_apply (hA : (Args.of x0 x1 x2 x3 x4 x5).Fin) (b : Fin 8) (g : Fin 2) (e : Fin 6) (c : Fin 64) (l : Fin 128) :
    val_main_v55 (F := Ideal) x0 x3 x4 (ix5 b g e c l) = (((Args.of x0 x1 x2 x3 x4 x5).run b c.val (gh g e) l : ℝ) : EReal) := by
  unfold val_main_v55
  refine (cumsum5 (N := 127) _ _ (fun i => by unfold val_main_call3_call0_v0 val_main_call3_call0_cst; pointwise) _ _ b g e c l).trans ?_
  unfold Args.run
  rw [coe_sum]
  refine Finset.sum_congr rfl fun k _ => ?_
  rw [expo_apply x0 x1 x2 x3 x4 x5 hA]
  split <;> rfl

theorem cum2_apply (hA : (Args.of x0 x1 x2 x3 x4 x5).Fin) (b : Fin 8) (g : Fin 2) (e : Fin 6) (c : Fin 64) (l : Fin 128) :
    val_main_v56 (F := Ideal) x0 x3 x4 (ix5 b g e c l) = (((Args.of x0 x1 x2 x3 x4 x5).run b c.val (gh g e) l : ℝ) : EReal) :=
  cum_apply x0 x1 x2 x3 x4 x5 hA b g e c l

/-- The decay from row `k` to row `l` of a chunk. -/
theorem decay_apply (hA : (Args.of x0 x1 x2 x3 x4 x5).Fin) (b : Fin 8) (g : Fin 2) (e : Fin 6) (c : Fin 64) (l k : Fin 128) :
    val_main_v65 (F := Ideal) x0 x3 x4 (ix6 b g e c l k) = (((if k ≤ l then
      Real.exp ((Args.of x0 x1 x2 x3 x4 x5).run b c.val (gh g e) l - (Args.of x0 x1 x2 x3 x4 x5).run b c.val (gh g e) k) else 0 : ℝ)) : EReal) := by
  unfold val_main_v65 val_main_v64 val_main_call6_v2 val_main_call6_v1 val_main_call6_v0 val_main_cst val_main_v63 val_main_call5_v5
    val_main_call5_c_0 val_main_call5_v4 val_main_call5_v3 val_main_call5_v2 val_main_call5_v1 val_main_call5_c val_main_call5_v0
    val_main_v62 val_main_c_0 val_main_v61 val_main_v60 val_main_v59 val_main_v58 val_main_v57
  pointwise
  rw [cum2_apply x0 x1 x2 x3 x4 x5 hA, cum2_apply x0 x1 x2 x3 x4 x5 hA, ← EReal.coe_sub]
  exact masked_exp l.val k.val (by omega) (by omega) _

theorem toEnd_apply (hA : (Args.of x0 x1 x2 x3 x4 x5).Fin) (b : Fin 8) (g : Fin 2) (e : Fin 6) (c : Fin 64) (l : Fin 128) (p : Fin 64) :
    val_main_v78 (F := Ideal) x0 x3 x4 (ix6 b c l g e p) = ((Real.exp ((Args.of x0 x1 x2 x3 x4 x5).run b c.val (gh g e) 127
      - (Args.of x0 x1 x2 x3 x4 x5).run b c.val (gh g e) l) : ℝ) : EReal) := by
  unfold val_main_v78 val_main_v77 val_main_v76 val_main_v75 val_main_v74 val_main_v73 val_main_v72
  pointwise
  rw [cum_apply x0 x1 x2 x3 x4 x5 hA, cum_apply x0 x1 x2 x3 x4 x5 hA, ← EReal.coe_sub, Ideal.exp_coe]

theorem fromStart_apply (hA : (Args.of x0 x1 x2 x3 x4 x5).Fin) (b : Fin 8) (g : Fin 2) (e : Fin 6) (c : Fin 64) (l : Fin 128) (p : Fin 64) :
    val_main_v105 (F := Ideal) x0 x3 x4 (ix6 b c l g e p) = ((Real.exp ((Args.of x0 x1 x2 x3 x4 x5).run b c.val (gh g e) l) : ℝ) : EReal) := by
  unfold val_main_v105 val_main_v104 val_main_v103 val_main_v102
  pointwise
  rw [cum_apply x0 x1 x2 x3 x4 x5 hA, Ideal.exp_coe]

/-- The totals of the chunks before `z`. -/
def tot (A : Args) (b : Fin 8) (h : Fin 12) (z : ℕ) : ℝ := ∑ i ∈ Finset.range z, A.run b i h 127

theorem totals_apply (hA : (Args.of x0 x1 x2 x3 x4 x5).Fin) (b : Fin 8) (g : Fin 2) (e : Fin 6) (z : Fin 65) :
    val_main_v87 (F := Ideal) x0 x3 x4 (ix4 b g e z) = ((tot (Args.of x0 x1 x2 x3 x4 x5) b (gh g e) z.val : ℝ) : EReal) := by
  unfold val_main_v87
  refine (cumsum4 (N := 64) _ _ (fun i => by unfold val_main_call8_call0_v0 val_main_call8_call0_cst; pointwise) _ _ b g e z).trans ?_
  unfold val_main_v86 val_main_v85 val_main_v84 val_main_call7_v0 val_main_c_2
  pointwise
  have e : tot (Args.of x0 x1 x2 x3 x4 x5) b (gh g e) z.val
      = ∑ i ∈ Finset.range 64, if i < z.val then (Args.of x0 x1 x2 x3 x4 x5).run b i (gh g e) 127 else 0 := by
    unfold tot
    rw [← Finset.sum_filter]
    refine Finset.sum_congr ?_ fun _ _ => rfl
    ext i
    simp only [Finset.mem_range, Finset.mem_filter]
    omega
  rw [e, Finset.sum_range, coe_sum, Fin.sum_univ_succ, dif_neg (by simp), sitofp_zero, ite_self, zero_add]
  refine Finset.sum_congr rfl fun i _ => ?_
  rw [dif_pos (by simp only [Fin.val_succ]; omega)]
  have hi : (⟨i.succ.val - 1, by simp only [Fin.val_succ]; omega⟩ : Fin 64) = i := Fin.ext (by simp only [Fin.val_succ]; omega)
  by_cases hz : i.val < z.val
  · rw [if_pos (by rw [Fin.le_def, Fin.val_succ]; omega), if_pos hz, hi]
    exact cum_apply x0 x1 x2 x3 x4 x5 hA b g _ i 127
  · rw [if_neg (by rw [Fin.le_def, Fin.val_succ]; omega), if_neg hz]
    rfl

theorem between_apply (hA : (Args.of x0 x1 x2 x3 x4 x5).Fin) (b : Fin 8) (g : Fin 2) (e : Fin 6) (z k : Fin 65) :
    val_main_v96 (F := Ideal) x0 x3 x4 (ix5 b g e z k) = (((if k ≤ z then
      Real.exp (tot (Args.of x0 x1 x2 x3 x4 x5) b (gh g e) z.val - tot (Args.of x0 x1 x2 x3 x4 x5) b (gh g e) k.val) else 0 : ℝ)) : EReal) := by
  unfold val_main_v96 val_main_v95 val_main_call10_v2 val_main_call10_v1 val_main_call10_v0 val_main_cst_4 val_main_v94 val_main_call9_v5
    val_main_call9_c_0 val_main_call9_v4 val_main_call9_v3 val_main_call9_v2 val_main_call9_v1 val_main_call9_c val_main_call9_v0
    val_main_v93 val_main_c_3 val_main_v92 val_main_v91 val_main_v90 val_main_v89 val_main_v88
  pointwise
  rw [totals_apply x0 x1 x2 x3 x4 x5 hA, totals_apply x0 x1 x2 x3 x4 x5 hA, ← EReal.coe_sub]
  exact masked_exp z.val k.val (by omega) (by omega) _

end Cert.ReferenceIdeal.Read
-- ==== Proof.RefRead.lean ====
module

public import proofs.«01_k».proof.Proof.RefStep

/-! The reference's last stages read at their coordinates, one stage in terms of the stages before it. -/

@[expose] public section

noncomputable section

namespace Cert.ReferenceIdeal.Read

open Idealize.ShloMosaic Cert.ReferenceIdeal Ssd

variable (x0 : FVec Ideal S8x8192x1408 .f32) (x1 : FVec Ideal S4x1280 .f32) (x2 : FVec Ideal S1280 .f32)
  (x3 x4 x5 : FVec Ideal S12 .f32)

theorem dts_read (b : Fin 8) (c : Fin 64) (l : Fin 128) (g : Fin 2) (e : Fin 6) :
    val_main_v46 (F := Ideal) x0 x3 (ix5 b c l g e)
      = val_main_v43 (F := Ideal) x0 x3 (ix3 b ⟨c.val * 128 + l.val, by omega⟩ ⟨g.val * 6 + e.val, by omega⟩) := by
  unfold val_main_v46
  generalize val_main_v43 (F := Ideal) x0 x3 = u
  pointwise

theorem xdt_read (b : Fin 8) (c : Fin 64) (l : Fin 128) (g : Fin 2) (e : Fin 6) (p : Fin 64) :
    val_main_v54 (F := Ideal) x0 x1 x2 x3 (ix6 b c l g e p)
      = val_main_v35 (F := Ideal) x0 x1 x2 (ix6 b c l g e p) * val_main_v46 (F := Ideal) x0 x3 (ix5 b c l g e) := by
  have h : val_main_v53 (F := Ideal) x0 x3 (ix6 b c l g e p) = val_main_v46 (F := Ideal) x0 x3 (ix5 b c l g e) := by
    unfold val_main_v53 val_main_v52
    generalize val_main_v46 (F := Ideal) x0 x3 = v
    pointwise
  rw [val_main_v54_apply, Ideal.mulf_def, h]

theorem scores_read (b : Fin 8) (g : Fin 2) (c : Fin 64) (l s : Fin 128) :
    val_main_v66 (F := Ideal) x0 x1 x2 (ix5 b g c l s)
      = ∑ n : Fin 128, val_main_v39 (F := Ideal) x0 x1 x2 (ix5 b c l g n) * val_main_v37 (F := Ideal) x0 x1 x2 (ix5 b c s g n) := by
  unfold val_main_v66
  generalize val_main_v39 (F := Ideal) x0 x1 x2 = u
  generalize val_main_v37 (F := Ideal) x0 x1 x2 = v
  pointwise

theorem masked_read (b : Fin 8) (g : Fin 2) (e : Fin 6) (c : Fin 64) (l s : Fin 128) :
    val_main_v69 (F := Ideal) x0 x1 x2 x3 x4 (ix6 b g e c l s)
      = val_main_v66 (F := Ideal) x0 x1 x2 (ix5 b g c l s) * val_main_v65 (F := Ideal) x0 x3 x4 (ix6 b g e c l s) := by
  have h : val_main_v68 (F := Ideal) x0 x1 x2 (ix6 b g e c l s) = val_main_v66 (F := Ideal) x0 x1 x2 (ix5 b g c l s) := by
    unfold val_main_v68 val_main_v67
    generalize val_main_v66 (F := Ideal) x0 x1 x2 = u
    pointwise
  rw [val_main_v69_apply, Ideal.mulf_def, h]

theorem diag_read (b : Fin 8) (c : Fin 64) (l : Fin 128) (g : Fin 2) (e : Fin 6) (p : Fin 64) :
    val_main_v71 (F := Ideal) x0 x1 x2 x3 x4 (ix6 b c l g e p)
      = ∑ s : Fin 128, val_main_v54 (F := Ideal) x0 x1 x2 x3 (ix6 b c s g e p) * val_main_v69 (F := Ideal) x0 x1 x2 x3 x4 (ix6 b g e c l s) := by
  unfold val_main_v71 val_main_v70
  generalize val_main_v54 (F := Ideal) x0 x1 x2 x3 = u
  generalize val_main_v69 (F := Ideal) x0 x1 x2 x3 x4 = v
  pointwise

theorem inc_read (b : Fin 8) (c : Fin 64) (g : Fin 2) (e : Fin 6) (p : Fin 64) (n : Fin 128) :
    val_main_v80 (F := Ideal) x0 x1 x2 x3 x4 (ix6 b c g e p n)
      = ∑ l : Fin 128, val_main_v78 (F := Ideal) x0 x3 x4 (ix6 b c l g e p) * val_main_v54 (F := Ideal) x0 x1 x2 x3 (ix6 b c l g e p)
        * val_main_v37 (F := Ideal) x0 x1 x2 (ix5 b c l g n) := by
  have h : val_main_v80 (F := Ideal) x0 x1 x2 x3 x4 (ix6 b c g e p n)
      = ∑ l : Fin 128, val_main_v79 (F := Ideal) x0 x1 x2 x3 x4 (ix6 b c l g e p) * val_main_v37 (F := Ideal) x0 x1 x2 (ix5 b c l g n) := by
    unfold val_main_v80
    generalize val_main_v79 (F := Ideal) x0 x1 x2 x3 x4 = v
    generalize val_main_v37 (F := Ideal) x0 x1 x2 = w
    pointwise
  rw [h]
  refine Finset.sum_congr rfl fun l _ => ?_
  rw [val_main_v79_apply, Ideal.mulf_def]

theorem state_read (b : Fin 8) (c : Fin 64) (g : Fin 2) (e : Fin 6) (p : Fin 64) (n : Fin 128) :
    val_main_v99 (F := Ideal) x0 x1 x2 x3 x4 (ix6 b c g e p n)
      = ∑ k : Fin 64, val_main_v80 (F := Ideal) x0 x1 x2 x3 x4 (ix6 b k g e p n)
        * val_main_v96 (F := Ideal) x0 x3 x4 (ix5 b g e ⟨c.val, by omega⟩ ⟨1 + k.val, by omega⟩) := by
  unfold val_main_v99 val_main_v98 val_main_v97 val_main_v83 val_main_v82 val_main_cst_1
  generalize val_main_v80 (F := Ideal) x0 x1 x2 x3 x4 = u
  generalize val_main_v96 (F := Ideal) x0 x3 x4 = v
  pointwise
  simp only [zero_mul, Finset.sum_const_zero, zero_add]

theorem off_read (b : Fin 8) (c : Fin 64) (l : Fin 128) (g : Fin 2) (e : Fin 6) (p : Fin 64) :
    val_main_v106 (F := Ideal) x0 x1 x2 x3 x4 (ix6 b c l g e p)
      = (∑ n : Fin 128, val_main_v99 (F := Ideal) x0 x1 x2 x3 x4 (ix6 b c g e p n) * val_main_v39 (F := Ideal) x0 x1 x2 (ix5 b c l g n))
        * val_main_v105 (F := Ideal) x0 x3 x4 (ix6 b c l g e p) := by
  unfold val_main_v106 val_main_v101 val_main_v100
  generalize val_main_v99 (F := Ideal) x0 x1 x2 x3 x4 = u
  generalize val_main_v39 (F := Ideal) x0 x1 x2 = v
  generalize val_main_v105 (F := Ideal) x0 x3 x4 = w
  pointwise

theorem heads_read (b : Fin 8) (c : Fin 64) (l : Fin 128) (g : Fin 2) (e : Fin 6) (p : Fin 64) :
    val_main_v113 (F := Ideal) x0 x1 x2 x3 x4 x5 (ix6 b c l g e p)
      = val_main_v71 (F := Ideal) x0 x1 x2 x3 x4 (ix6 b c l g e p) + val_main_v106 (F := Ideal) x0 x1 x2 x3 x4 (ix6 b c l g e p)
        + val_main_v35 (F := Ideal) x0 x1 x2 (ix6 b c l g e p) * x5 (ix1 ⟨g.val * 6 + e.val, by omega⟩) := by
  have h : val_main_v111 (F := Ideal) x5 (ix6 b c l g e p) = x5 (ix1 ⟨g.val * 6 + e.val, by omega⟩) := by
    unfold val_main_v111 val_main_v110 val_main_v109 val_main_v108
    pointwise
  rw [val_main_v113_apply, Ideal.addf_def, val_main_v107_apply, Ideal.addf_def, val_main_v112_apply, Ideal.mulf_def, h]

theorem rows_read (b : Fin 8) (t : Fin 8192) (j : Fin 768) :
    val_main_v114 (F := Ideal) x0 x1 x2 x3 x4 x5 (ix3 b t j)
      = val_main_v113 (F := Ideal) x0 x1 x2 x3 x4 x5 (ix6 b ⟨t.val / 128, by omega⟩ ⟨t.val % 128, by omega⟩ ⟨j.val / 384, by omega⟩
        ⟨j.val / 64 % 6, by omega⟩ ⟨j.val % 64, by omega⟩) := by
  unfold val_main_v114
  generalize val_main_v113 (F := Ideal) x0 x1 x2 x3 x4 x5 = u
  pointwise

end Cert.ReferenceIdeal.Read
-- ==== Proof.RefScan.lean ====
module

public import proofs.«01_k».proof.Proof.RefRead

/-! The reference's output in terms of the scan's mathematics. The reference adds up, for each chunk, what every earlier
chunk brought, weighted by the decays between the two; the scan carries the sum from chunk to chunk. -/

@[expose] public section

noncomputable section

namespace Cert.ReferenceIdeal.Read

open Idealize.ShloMosaic Cert.ReferenceIdeal Ssd

theorem tot_succ (A : Args) (b : Fin 8) (h : Fin 12) (z : ℕ) : tot A b h (z + 1) = tot A b h z + A.run b z h 127 := by
  unfold tot
  rw [Finset.sum_range_succ]

/-- The carried state is the weighted sum of what the chunks brought. -/
theorem state_closed (A : Args) (b : Fin 8) (z : ℕ) (c : Fin 768) (n : Fin 128) :
    A.state b z c n = ∑ k ∈ Finset.range z, A.inc b k c n
      * ((Real.exp (tot A b (head c) z - tot A b (head c) (k + 1)) : ℝ) : EReal) := by
  induction z with
  | zero => rfl
  | succ z ih =>
    show A.state b z c n * ((Real.exp (A.run b z (head c) 127) : ℝ) : EReal) + A.inc b z c n = _
    rw [ih, Finset.sum_range_succ, sub_self, Real.exp_zero, EReal.coe_one, mul_one, mul_comm, mul_sum _ _ (Real.exp_pos _).le]
    congr 1
    refine Finset.sum_congr rfl fun k _ => ?_
    rw [tot_succ A b (head c) z, show tot A b (head c) z + A.run b z (head c) 127 - tot A b (head c) (k + 1)
      = A.run b z (head c) 127 + (tot A b (head c) z - tot A b (head c) (k + 1)) by ring, Real.exp_add, EReal.coe_mul]
    exact mul_left_comm _ _ _

/-- The same sum over all chunks, the later ones weighted by zero. -/
theorem state_masked (A : Args) (b : Fin 8) (z : Fin 64) (c : Fin 768) (n : Fin 128) :
    A.state b z.val c n = ∑ k : Fin 64, A.inc b k.val c n
      * (((if 1 + k.val ≤ z.val then Real.exp (tot A b (head c) z.val - tot A b (head c) (1 + k.val)) else 0 : ℝ)) : EReal) := by
  rw [state_closed, ← Fin.sum_univ_eq_sum_range (fun k => A.inc b k c n
      * (((if 1 + k ≤ z.val then Real.exp (tot A b (head c) z.val - tot A b (head c) (1 + k)) else 0 : ℝ)) : EReal)) 64 |>.symm]
  refine (Finset.sum_subset_zero_on_sdiff (Finset.range_mono z.isLt.le) (fun k hk => ?_) (fun k hk => ?_))
  · have h : ¬ 1 + k ≤ z.val := by
      simp only [Finset.mem_sdiff, Finset.mem_range] at hk
      omega
    rw [if_neg h, EReal.coe_zero, mul_zero]
  · have h : 1 + k ≤ z.val := by
      simp only [Finset.mem_range] at hk
      omega
    rw [if_pos h, add_comm 1 k]

variable (x0 : FVec Ideal S8x8192x1408 .f32) (x1 : FVec Ideal S4x1280 .f32) (x2 : FVec Ideal S1280 .f32)
  (x3 x4 x5 : FVec Ideal S12 .f32)

/-- The column of a head's place. -/
def cc (g : Fin 2) (e : Fin 6) (p : Fin 64) : Fin 768 := ⟨(g.val * 6 + e.val) * 64 + p.val, by omega⟩

theorem head_cc (g : Fin 2) (e : Fin 6) (p : Fin 64) : head (cc g e p) = gh g e := by
  apply Fin.ext
  show ((g.val * 6 + e.val) * 64 + p.val) / 64 = g.val * 6 + e.val
  omega

theorem xs_apply (b : Fin 8) (c : Fin 64) (l : Fin 128) (g : Fin 2) (e : Fin 6) (p : Fin 64) :
    val_main_v35 (F := Ideal) x0 x1 x2 (ix6 b c l g e p) = (Args.of x0 x1 x2 x3 x4 x5).act b (128 * c.val + l.val) (col (cc g e p)) := by
  unfold val_main_v35 val_main_v34
  pointwise
  rw [gated_apply x0 x1 x2 x3 x4 x5]
  refine congrArg₂ (Args.act _ b) ?_ (Fin.ext ?_)
  · show c.val * 128 + l.val = 128 * c.val + l.val
    omega
  · show g.val * 384 + e.val * 64 + p.val = (g.val * 6 + e.val) * 64 + p.val
    omega

theorem bm_apply (b : Fin 8) (c : Fin 64) (l : Fin 128) (g : Fin 2) (e : Fin 6) (p : Fin 64) (n : Fin 128) :
    val_main_v37 (F := Ideal) x0 x1 x2 (ix5 b c l g n) = (Args.of x0 x1 x2 x3 x4 x5).act b (128 * c.val + l.val) (inCol (cc g e p) n) := by
  unfold val_main_v37 val_main_v36
  pointwise
  rw [gated_apply x0 x1 x2 x3 x4 x5]
  refine congrArg₂ (Args.act _ b) ?_ (Fin.ext ?_)
  · show c.val * 128 + l.val = 128 * c.val + l.val
    omega
  · show 768 + (g.val * 128 + n.val) = 768 + 128 * (((g.val * 6 + e.val) * 64 + p.val) / 384) + n.val
    omega

theorem cm_apply (b : Fin 8) (c : Fin 64) (l : Fin 128) (g : Fin 2) (e : Fin 6) (p : Fin 64) (n : Fin 128) :
    val_main_v39 (F := Ideal) x0 x1 x2 (ix5 b c l g n) = (Args.of x0 x1 x2 x3 x4 x5).act b (128 * c.val + l.val) (outCol (cc g e p) n) := by
  unfold val_main_v39 val_main_v38
  pointwise
  rw [gated_apply x0 x1 x2 x3 x4 x5]
  refine congrArg₂ (Args.act _ b) ?_ (Fin.ext ?_)
  · show c.val * 128 + l.val = 128 * c.val + l.val
    omega
  · show 1024 + (g.val * 128 + n.val) = 1024 + 128 * (((g.val * 6 + e.val) * 64 + p.val) / 384) + n.val
    omega

theorem dts_apply (hA : (Args.of x0 x1 x2 x3 x4 x5).Fin) (b : Fin 8) (c : Fin 64) (l : Fin 128) (g : Fin 2) (e : Fin 6) :
    val_main_v46 (F := Ideal) x0 x3 (ix5 b c l g e)
      = ((sp ((Args.of x0 x1 x2 x3 x4 x5).logit b (128 * c.val + l.val) (gh g e)) : ℝ) : EReal) := by
  rw [dts_read]
  refine (step_apply x0 x1 x2 x3 x4 x5 _ _ _ hA).trans ?_
  have h : c.val * 128 + l.val = 128 * c.val + l.val := by omega
  rw [← h]
  rfl

theorem xdt_apply (hA : (Args.of x0 x1 x2 x3 x4 x5).Fin) (b : Fin 8) (c : Fin 64) (l : Fin 128) (g : Fin 2) (e : Fin 6) (p : Fin 64) :
    val_main_v54 (F := Ideal) x0 x1 x2 x3 (ix6 b c l g e p) = (Args.of x0 x1 x2 x3 x4 x5).act b (128 * c.val + l.val) (col (cc g e p))
      * ((sp ((Args.of x0 x1 x2 x3 x4 x5).logit b (128 * c.val + l.val) (gh g e)) : ℝ) : EReal) := by
  rw [xdt_read, xs_apply x0 x1 x2 x3 x4 x5, dts_apply x0 x1 x2 x3 x4 x5 hA]

theorem scores_apply (b : Fin 8) (c : Fin 64) (l s : Fin 128) (g : Fin 2) (e : Fin 6) (p : Fin 64) :
    val_main_v66 (F := Ideal) x0 x1 x2 (ix5 b g c l s)
      = ∑ n : Fin 128, (Args.of x0 x1 x2 x3 x4 x5).act b (128 * c.val + l.val) (outCol (cc g e p) n)
        * (Args.of x0 x1 x2 x3 x4 x5).act b (128 * c.val + s.val) (inCol (cc g e p) n) := by
  rw [scores_read]
  refine Finset.sum_congr rfl fun n _ => ?_
  rw [cm_apply x0 x1 x2 x3 x4 x5 b c l g e p n, bm_apply x0 x1 x2 x3 x4 x5 b c s g e p n]

/-- A step times its masked decay. -/
theorem masked_step (q : Prop) [Decidable q] (r s : ℝ) (a u : EReal) :
    a * (r : EReal) * (u * ((if q then s else 0 : ℝ) : EReal)) = u * ((if q then r * s else 0 : ℝ) : EReal) * a := by
  by_cases h : q
  · rw [if_pos h, if_pos h, EReal.coe_mul]
    ac_rfl
  · rw [if_neg h, if_neg h, EReal.coe_zero, mul_zero, mul_zero, zero_mul]

theorem diag_apply (hA : (Args.of x0 x1 x2 x3 x4 x5).Fin) (b : Fin 8) (c : Fin 64) (l : Fin 128) (g : Fin 2) (e : Fin 6) (p : Fin 64) :
    val_main_v71 (F := Ideal) x0 x1 x2 x3 x4 (ix6 b c l g e p)
      = ∑ s : Fin 128, ((∑ n : Fin 128, (Args.of x0 x1 x2 x3 x4 x5).act b (128 * c.val + l.val) (outCol (cc g e p) n)
          * (Args.of x0 x1 x2 x3 x4 x5).act b (128 * c.val + s.val) (inCol (cc g e p) n))
        * ((if s ≤ l then sp ((Args.of x0 x1 x2 x3 x4 x5).logit b (128 * c.val + s.val) (gh g e))
            * Real.exp ((Args.of x0 x1 x2 x3 x4 x5).run b c.val (gh g e) l - (Args.of x0 x1 x2 x3 x4 x5).run b c.val (gh g e) s) else 0 : ℝ) : EReal))
        * (Args.of x0 x1 x2 x3 x4 x5).act b (128 * c.val + s.val) (col (cc g e p)) := by
  rw [diag_read]
  refine Finset.sum_congr rfl fun s _ => ?_
  rw [masked_read, xdt_apply x0 x1 x2 x3 x4 x5 hA, scores_apply x0 x1 x2 x3 x4 x5 b c l s g e p, decay_apply x0 x1 x2 x3 x4 x5 hA]
  exact masked_step _ _ _ _ _

theorem inc_apply (hA : (Args.of x0 x1 x2 x3 x4 x5).Fin) (b : Fin 8) (c : Fin 64) (g : Fin 2) (e : Fin 6) (p : Fin 64) (n : Fin 128) :
    val_main_v80 (F := Ideal) x0 x1 x2 x3 x4 (ix6 b c g e p n) = (Args.of x0 x1 x2 x3 x4 x5).inc b c.val (cc g e p) n := by
  rw [inc_read]
  unfold Args.inc
  rw [head_cc]
  refine Finset.sum_congr rfl fun l _ => ?_
  rw [toEnd_apply x0 x1 x2 x3 x4 x5 hA, xdt_apply x0 x1 x2 x3 x4 x5 hA, bm_apply x0 x1 x2 x3 x4 x5 b c l g e p n, EReal.coe_mul]
  ac_rfl

theorem state_apply (hA : (Args.of x0 x1 x2 x3 x4 x5).Fin) (b : Fin 8) (c : Fin 64) (g : Fin 2) (e : Fin 6) (p : Fin 64) (n : Fin 128) :
    val_main_v99 (F := Ideal) x0 x1 x2 x3 x4 (ix6 b c g e p n) = (Args.of x0 x1 x2 x3 x4 x5).state b c.val (cc g e p) n := by
  rw [state_read, state_masked, head_cc]
  refine Finset.sum_congr rfl fun k _ => ?_
  rw [inc_apply x0 x1 x2 x3 x4 x5 hA, between_apply x0 x1 x2 x3 x4 x5 hA]
  rfl

theorem off_apply (hA : (Args.of x0 x1 x2 x3 x4 x5).Fin) (b : Fin 8) (c : Fin 64) (l : Fin 128) (g : Fin 2) (e : Fin 6) (p : Fin 64) :
    val_main_v106 (F := Ideal) x0 x1 x2 x3 x4 (ix6 b c l g e p)
      = (∑ n : Fin 128, (Args.of x0 x1 x2 x3 x4 x5).act b (128 * c.val + l.val) (outCol (cc g e p) n)
          * (Args.of x0 x1 x2 x3 x4 x5).state b c.val (cc g e p) n)
        * ((Real.exp ((Args.of x0 x1 x2 x3 x4 x5).run b c.val (gh g e) l) : ℝ) : EReal) := by
  rw [off_read, fromStart_apply x0 x1 x2 x3 x4 x5 hA]
  congr 1
  refine Finset.sum_congr rfl fun n _ => ?_
  rw [state_apply x0 x1 x2 x3 x4 x5 hA, cm_apply x0 x1 x2 x3 x4 x5 b c l g e p n, mul_comm]

theorem heads_apply (hA : (Args.of x0 x1 x2 x3 x4 x5).Fin) (b : Fin 8) (c : Fin 64) (l : Fin 128) (g : Fin 2) (e : Fin 6) (p : Fin 64) :
    val_main_v113 (F := Ideal) x0 x1 x2 x3 x4 x5 (ix6 b c l g e p) = (Args.of x0 x1 x2 x3 x4 x5).out b c.val l (cc g e p) := by
  rw [heads_read, diag_apply x0 x1 x2 x3 x4 x5 hA, off_apply x0 x1 x2 x3 x4 x5 hA, xs_apply x0 x1 x2 x3 x4 x5]
  unfold Args.out
  rw [head_cc]
  rfl

theorem out_apply (hA : (Args.of x0 x1 x2 x3 x4 x5).Fin) (b : Fin 8) (t : Fin 8192) (j : Fin 768) :
    val_main_v114 (F := Ideal) x0 x1 x2 x3 x4 x5 (ix3 b t j)
      = (Args.of x0 x1 x2 x3 x4 x5).out b (t.val / 128) ⟨t.val % 128, by omega⟩ j := by
  rw [rows_read, heads_apply x0 x1 x2 x3 x4 x5 hA]
  congr 1
  apply Fin.ext
  show (j.val / 384 * 6 + j.val / 64 % 6) * 64 + j.val % 64 = j.val
  omega

end Cert.ReferenceIdeal.Read
-- ==== Proof.Finite.lean ====
module

public import proofs.«01_k».proof.Pre_finite_decays
public import proofs.«01_k».proof.Proof.Spec
public import Idealize.ShloMosaic.Lib.ReduceAll
public import Idealize.ShloMosaic.Lib.Pointwise

/-! The precondition says that the step sizes' logits, their biases and the rates' logarithms are real. -/

@[expose] public section

noncomputable section

namespace Cert.Pre_finite_decays.Hand

open Idealize.ShloMosaic Cert.Pre_finite_decays Ssd

theorem both {a b : BitVec 1} (h : IntOp.andi a b = 1#1) : a = 1#1 ∧ b = 1#1 := by
  revert h
  unfold IntOp.andi
  revert a b
  decide

/-- A number whose absolute value lies below infinity is real. -/
theorem real_of_lt (x : EReal) (h : BitVec.ofBool (decide (FloatOps.absf (F := Ideal) (φ := .f32) x < Ideal.ofBits FTy.f32 0x7F800000#32)) = 1#1) :
    x = (x.toReal : EReal) := by
  have hd : (max x (-x) : EReal) < ⊤ := by
    by_contra hn
    refine absurd h ?_
    have e : ¬ (FloatOps.absf (F := Ideal) (φ := .f32) x < Ideal.ofBits FTy.f32 0x7F800000#32) := by
      rw [Ideal.absf_def, show Ideal.ofBits FTy.f32 0x7F800000#32 = ⊤ by simp [Ideal.ofBits, Ideal.ieee]]
      exact hn
    rw [decide_eq_false e]
    decide
  refine (EReal.coe_toReal (fun e => ?_) (fun e => ?_)).symm
  · rw [e] at hd
    simp at hd
  · rw [e] at hd
    simp at hd

variable [Facts]

theorem fin_of_pre (x0 : FVec Ideal S8x8192x1408 .f32) (x1 : FVec Ideal S4x1280 .f32) (x2 : FVec Ideal S1280 .f32)
    (x3 x4 x5 : FVec Ideal S12 .f32) (h : fn (F := Ideal) x0 x1 x2 x3 x4 x5 = fun _ => 1#1) : (Args.of x0 x1 x2 x3 x4 x5).Fin := by
  have e := congrFun h ix0
  dsimp only [fn] at e
  obtain ⟨e, ea⟩ := both e
  obtain ⟨ex, eb⟩ := both e
  have hs : Subsingleton S_.Idx := ⟨fun a b => funext fun k => k.elim0⟩
  refine ⟨fun b t h => ?_, fun h => ?_, fun h => ?_⟩
  · have q := Host.reduce_andi_all _ _ _ _ ix0 ex (ix3 b t h)
    pointwise at q
    exact real_of_lt _ q
  · have q := Host.reduce_andi_all _ _ _ _ ix0 eb (ix1 h)
    pointwise at q
    exact real_of_lt _ q
  · have q := Host.reduce_andi_all _ _ _ _ ix0 ea (ix1 h)
    pointwise at q
    exact real_of_lt _ q

end Cert.Pre_finite_decays.Hand
-- ==== Proof.Result.lean ====
module

public import proofs.«01_k».proof.Proof.Blocks
public import proofs.«01_k».proof.Proof.RefScan
public import proofs.«01_k».proof.Proof.Finite

/-! The scan's run and the reference's, at the same arguments, end with the same array. -/

@[expose] public section

noncomputable section

namespace Ssd

open Idealize.ShloMosaic Idealize.SL.Sem

/-- The reference's array is the scan's. -/
theorem reference_result (x0 : FVec Ideal Cert.ReferenceIdeal.S8x8192x1408 .f32) (x1 : FVec Ideal Cert.ReferenceIdeal.S4x1280 .f32)
    (x2 : FVec Ideal Cert.ReferenceIdeal.S1280 .f32) (x3 x4 x5 : FVec Ideal Cert.ReferenceIdeal.S12 .f32)
    (hA : (Args.of x0 x1 x2 x3 x4 x5).Fin) :
    Cert.ReferenceIdeal.Read.val_main_v114 (F := Ideal) x0 x1 x2 x3 x4 x5
      = Cert.KernelIdeal.Hand.result (Args.of x0 x1 x2 x3 x4 x5) := by
  funext i
  rw [eq_ix3 i]
  exact Cert.ReferenceIdeal.Read.out_apply x0 x1 x2 x3 x4 x5 hA (i 0) (i 1) (i 2)

section Kernel

open Cert.KernelIdeal Cert.KernelIdeal.Gen Cert.KernelIdeal.Hand

/-- The scan's run: its result is the scan's array, its arguments stay. -/
theorem kernel_run (m : (ℓ : Loc nD τ sig) → Buf (Elt Ideal) ℓ) (g : Dev nD → PrngReg) (hA : ∀ c, (args m c).Fin) :
    θ_run (defs (F := Ideal)) (onTc (τ := τ) (main (F := Ideal))) ⟨m, fun _ => 0, g⟩ (fun r => ∀ c : Dev nD,
      r.2.mem ((c.tc : Thread nD τ).loc main_v8) = result (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have h1 := frame (F := Ideal) m g
  have h2 := run_main (F := Ideal) m g
  refine (θ_run defs _ _).mono (fun r h => ?_) (Idealize.ShloMosaic.θ_run_and h1 h2)
  intro c
  exact ⟨((h.2.1 c).1 7).trans (out_eq m c (hA c)), h.1.1 c⟩

end Kernel

section Reference

open Cert.ReferenceIdeal

/-- The reference's run, its counters included. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => (h c).2, Idealize.ShloMosaic.sem_eq_zero_of_no_sems (by decide) r.2⟩)
    (Cert.ReferenceIdeal.Value.run (F := Ideal) m g)

end Reference

end Ssd
-- ==== Proof.MergeSpec.lean ====
module

public import Idealize.ShloMosaic.Lib.Pointwise

/-! One row of the merge: the branches' rows gated, projected, mixed and added to the input row. -/

@[expose] public section

noncomputable section

namespace Merge

open Idealize.ShloMosaic

/-- The layer's weights. -/
structure Weights where
  nw : Fin 1024 → EReal
  win : Fin 1024 → Fin 8716 → EReal
  gw : Fin 512 → Fin 512 → EReal
  gb : Fin 512 → EReal
  sn : Fin 768 → EReal
  pa : Fin 512 → Fin 1024 → EReal
  pb : Fin 256 → Fin 1024 → EReal
  pc : Fin 768 → Fin 1024 → EReal
  wo : Fin 1024 → Fin 1024 → EReal

/-- One row: the layer's input and the three branches' outputs. -/
structure Row where
  x : Fin 1024 → EReal
  ya : Fin 512 → EReal
  yb : Fin 256 → EReal
  yc : Fin 768 → EReal

/-- The weights' arrays read at their coordinates. -/
def Weights.of (nw : FVec Ideal ⟨1, ![1024]⟩ .f32) (win : FVec Ideal ⟨2, ![1024, 8716]⟩ .f32) (gw : FVec Ideal ⟨2, ![512, 512]⟩ .f32)
    (gb : FVec Ideal ⟨1, ![512]⟩ .f32) (sn : FVec Ideal ⟨1, ![768]⟩ .f32) (pa : FVec Ideal ⟨2, ![512, 1024]⟩ .f32)
    (pb : FVec Ideal ⟨2, ![256, 1024]⟩ .f32) (pc : FVec Ideal ⟨2, ![768, 1024]⟩ .f32) (wo : FVec Ideal ⟨2, ![1024, 1024]⟩ .f32) :
    Weights where
  nw j := nw (ix1 j)
  win k j := win (ix2 k j)
  gw k j := gw (ix2 k j)
  gb j := gb (ix1 j)
  sn j := sn (ix1 j)
  pa k j := pa (ix2 k j)
  pb k j := pb (ix2 k j)
  pc k j := pc (ix2 k j)
  wo k j := wo (ix2 k j)

/-- The arrays' row of a sequence's position. -/
def Row.of (x : FVec Ideal ⟨3, ![8, 8192, 1024]⟩ .f32) (ya : FVec Ideal ⟨3, ![8, 8192, 512]⟩ .f32) (yb : FVec Ideal ⟨3, ![8, 8192, 256]⟩ .f32)
    (yc : FVec Ideal ⟨3, ![8, 8192, 768]⟩ .f32) (p : Fin 8) (q : Fin 8192) : Row where
  x j := x (ix3 p q j)
  ya j := ya (ix3 p q j)
  yb j := yb (ix3 p q j)
  yc j := yc (ix3 p q j)

def gate (v : EReal) : EReal := Ideal.div 1 (1 + Ideal.exp (0 - v))

def silu (v : EReal) : EReal := v * gate v

def gelu (v : EReal) : EReal :=
  v * (Ideal.ofBits .f32 0x3F000000#32
    * (1 + Ideal.tanh (Ideal.ofBits .f32 0x3F4C422A#32 * (v + Ideal.ofBits .f32 0x3D372713#32 * (v * v * v)))))

/-- The factor of a row's normalisation, by the row's length. -/
def scale {n : ℕ} (len : EReal) (f : Fin n → EReal) : EReal :=
  Ideal.rsqrt (Ideal.div (∑ k, f k * f k) len + Ideal.ofBits .f32 0x358637BD#32)

variable (w : Weights) (r : Row)

/-- The normalised input row. -/
def h (j : Fin 1024) : EReal := r.x j * scale (Ideal.ofBits .f32 0x44800000#32) r.x * w.nw j

/-- The projected row. -/
def z (c : Fin 8716) : EReal := ∑ k, h w r k * w.win k c

def ga (j : Fin 512) : EReal := gelu (r.ya j)

def a (j : Fin 512) : EReal :=
  ga r j * gate (∑ k, ga r k * w.gw k j + w.gb j) * silu (z w r ⟨512 + j.val, by omega⟩)

def b (j : Fin 256) : EReal := r.yb j * silu (z w r ⟨3328 + j.val, by omega⟩)

def s (j : Fin 768) : EReal := r.yc j * silu (z w r ⟨4876 + j.val, by omega⟩)

def c (j : Fin 768) : EReal := s w r j * scale (Ideal.ofBits .f32 0x44400000#32) (s w r) * w.sn j

/-- The three branches' rows, each projected to the layer's width and gated. -/
def mix (j : Fin 1024) : EReal :=
  gate (z w r ⟨5644 + j.val, by omega⟩) * ∑ k, a w r k * w.pa k j
  + gate (z w r ⟨6668 + j.val, by omega⟩) * ∑ k, b w r k * w.pb k j
  + gate (z w r ⟨7692 + j.val, by omega⟩) * ∑ k, c w r k * w.pc k j

/-- The layer's output row. -/
def out (j : Fin 1024) : EReal := r.x j + ∑ k, mix w r k * w.wo k j

/-- The output array: the rows of every sequence, one after another. -/
def result (w : Weights) (row : Fin 8 → Fin 8192 → Row) : FVec Ideal ⟨2, ![65536, 1024]⟩ .f32 := fun i =>
  out w (row ⟨(i 0).val / 8192, Nat.div_lt_of_lt_mul (i 0).isLt⟩ ⟨(i 0).val % 8192, Nat.mod_lt _ (by omega)⟩) (i 1)

end Merge
-- ==== Proof.MergeHost.lean ====
module

public import proofs.«01_k».proof.Proof.Gen.Kernel2Ideal.Frame
public import proofs.«01_k».proof.Proof.MergeSpec
public import Idealize.ShloMosaic.Lib.Pipeline.ValueKit
public import Idealize.ShloMosaic.Lib.Pipeline.Covers

/-! The arrays the merge reads, as the host leaves them, in terms of its arguments. -/

@[expose] public section

noncomputable section

namespace Cert.Kernel2Ideal.Hand

open Idealize.ShloMosaic Cert.Kernel2Ideal Cert.Kernel2Ideal.Gen

variable (m : (ℓ : Loc nD τ sig) → Buf (Elt Ideal) ℓ)

theorem x_apply (c : Dev nD) (R : Fin 65536) (j : Fin 1024) :
    (V m c main_v10 : FVec Ideal S65536x1024 .f32) (ix2 R j) = (m ((c.tc : Thread nD τ).loc main_arg0)) (ix3 ⟨R.val / 8192, by omega⟩ ⟨R.val % 8192, by omega⟩ j) := by
  simp only [V, hostOps0]
  entry_read
  pointwise

theorem nw_apply (c : Dev nD) (j : Fin 1024) :
    (V m c main_v11 : FVec Ideal S1x1024 .f32) (ix2 0 j) = (m ((c.tc : Thread nD τ).loc main_arg1)) (ix1 j) := by
  simp only [V, hostOps0]
  entry_read
  pointwise

theorem yc_apply (c : Dev nD) (R : Fin 65536) (j : Fin 768) :
    (V m c main_v12 : FVec Ideal S65536x768 .f32) (ix2 R j) = (m ((c.tc : Thread nD τ).loc main_arg5)) (ix3 ⟨R.val / 8192, by omega⟩ ⟨R.val % 8192, by omega⟩ j) := by
  simp only [V, hostOps0]
  entry_read
  pointwise

theorem gw_apply (c : Dev nD) (k j : Fin 512) :
    (V m c main_v13 : FVec Ideal S512x512 .bf16) (ix2 k j) = (m ((c.tc : Thread nD τ).loc main_arg6)) (ix2 k j) := by
  simp only [V, hostOps0]
  entry_read
  pointwise

theorem gb_apply (c : Dev nD) (j : Fin 512) :
    (V m c main_v14 : FVec Ideal S1x512 .f32) (ix2 0 j) = (m ((c.tc : Thread nD τ).loc main_arg7)) (ix1 j) := by
  simp only [V, hostOps0]
  entry_read
  pointwise

theorem sn_apply (c : Dev nD) (j : Fin 768) :
    (V m c main_v15 : FVec Ideal S1x768 .f32) (ix2 0 j) = (m ((c.tc : Thread nD τ).loc main_arg8)) (ix1 j) := by
  simp only [V, hostOps0]
  entry_read
  pointwise

theorem pa_apply (c : Dev nD) (k : Fin 512) (j : Fin 1024) :
    (V m c main_v16 : FVec Ideal S512x1024 .bf16) (ix2 k j) = (m ((c.tc : Thread nD τ).loc main_arg9)) (ix2 k j) := by
  simp only [V, hostOps0]
  entry_read
  pointwise

theorem pb_apply (c : Dev nD) (k : Fin 256) (j : Fin 1024) :
    (V m c main_v17 : FVec Ideal S256x1024 .bf16) (ix2 k j) = (m ((c.tc : Thread nD τ).loc main_arg10)) (ix2 k j) := by
  simp only [V, hostOps0]
  entry_read
  pointwise

theorem pc_apply (c : Dev nD) (k : Fin 768) (j : Fin 1024) :
    (V m c main_v18 : FVec Ideal S768x1024 .bf16) (ix2 k j) = (m ((c.tc : Thread nD τ).loc main_arg11)) (ix2 k j) := by
  simp only [V, hostOps0]
  entry_read
  pointwise

theorem wo_apply (c : Dev nD) (k : Fin 1024) (j : Fin 1024) :
    (V m c main_v19 : FVec Ideal S1024x1024 .bf16) (ix2 k j) = (m ((c.tc : Thread nD τ).loc main_arg12)) (ix2 k j) := by
  simp only [V, hostOps0]
  entry_read
  pointwise

/-- The gates' columns of the layer's first matrix, joined. -/
theorem joined (c : Dev nD) : (V m c main_v4 : FVec Ideal S1024x4608 .bf16)
    = concatenate S1024x4608 1 [⟨S1024x512, (V m c main_v1 : FVec Ideal S1024x512 .bf16)⟩,
        ⟨S1024x256, (V m c main_v2 : FVec Ideal S1024x256 .bf16)⟩, ⟨S1024x3840, (V m c main_v3 : FVec Ideal S1024x3840 .bf16)⟩]
        concatenates_S1024x512_S1024x256_S1024x3840_S1024x4608_d1 := rfl

/-- Three matrices joined by columns, read at a column. -/
theorem joined_apply (u : FVec Ideal S1024x512 .bf16) (v : FVec Ideal S1024x256 .bf16) (x : FVec Ideal S1024x3840 .bf16)
    (k : Fin 1024) (j : Fin 4608) :
    concatenate S1024x4608 1 [⟨S1024x512, u⟩, ⟨S1024x256, v⟩, ⟨S1024x3840, x⟩]
        concatenates_S1024x512_S1024x256_S1024x3840_S1024x4608_d1 (ix2 k j)
      = if h : j.val < 512 then u (ix2 k ⟨j.val, h⟩)
        else if h' : j.val - 512 < 256 then v (ix2 k ⟨j.val - 512, h'⟩)
        else x (ix2 k ⟨j.val - 512 - 256, by omega⟩) := by
  pointwise

theorem va_apply (c : Dev nD) (k : Fin 1024) (j : Fin 512) :
    (V m c main_v1 : FVec Ideal S1024x512 .bf16) (ix2 k j) = (m ((c.tc : Thread nD τ).loc main_arg2)) (ix2 k ⟨512 + j.val, by omega⟩) := by
  simp only [V, hostOps0]
  entry_read
  pointwise

theorem vb_apply (c : Dev nD) (k : Fin 1024) (j : Fin 256) :
    (V m c main_v2 : FVec Ideal S1024x256 .bf16) (ix2 k j) = (m ((c.tc : Thread nD τ).loc main_arg2)) (ix2 k ⟨3328 + j.val, by omega⟩) := by
  simp only [V, hostOps0]
  entry_read
  pointwise

theorem vc_apply (c : Dev nD) (k : Fin 1024) (j : Fin 3840) :
    (V m c main_v3 : FVec Ideal S1024x3840 .bf16) (ix2 k j) = (m ((c.tc : Thread nD τ).loc main_arg2)) (ix2 k ⟨4876 + j.val, by omega⟩) := by
  simp only [V, hostOps0]
  entry_read
  pointwise

theorem za_apply (c : Dev nD) (k : Fin 1024) (j : Fin 512) :
    (V m c main_v4 : FVec Ideal S1024x4608 .bf16) (ix2 k ⟨j.val, by omega⟩)
      = (m ((c.tc : Thread nD τ).loc main_arg2)) (ix2 k ⟨512 + j.val, by omega⟩) := by
  rw [joined, joined_apply]
  rw [dif_pos j.isLt]
  exact va_apply m c k j

theorem zb_apply (c : Dev nD) (k : Fin 1024) (j : Fin 256) :
    (V m c main_v4 : FVec Ideal S1024x4608 .bf16) (ix2 k ⟨512 + j.val, by omega⟩)
      = (m ((c.tc : Thread nD τ).loc main_arg2)) (ix2 k ⟨3328 + j.val, by omega⟩) := by
  rw [joined, joined_apply]
  rw [dif_neg (by show ¬ 512 + j.val < 512; omega), dif_pos (by show 512 + j.val - 512 < 256; omega)]
  refine Eq.trans (congrArg _ (congrArg (ix2 k) (Fin.ext ?_))) (vb_apply m c k j)
  show 512 + j.val - 512 = j.val
  omega

theorem zc_apply (c : Dev nD) (k : Fin 1024) (j : Fin 3840) :
    (V m c main_v4 : FVec Ideal S1024x4608 .bf16) (ix2 k ⟨768 + j.val, by omega⟩)
      = (m ((c.tc : Thread nD τ).loc main_arg2)) (ix2 k ⟨4876 + j.val, by omega⟩) := by
  rw [joined, joined_apply]
  rw [dif_neg (by show ¬ 768 + j.val < 512; omega), dif_neg (by show ¬ 768 + j.val - 512 < 256; omega)]
  refine Eq.trans (congrArg _ (congrArg (ix2 k) (Fin.ext ?_))) (vc_apply m c k j)
  show 768 + j.val - 512 - 256 = j.val
  omega

theorem ya_apply (c : Dev nD) (q : Fin 4) (R : Fin 65536) (l : Fin 128) :
    (V m c main_v7 : FVec Ideal S4x65536x128 .f32) (ix3 q R l) = (m ((c.tc : Thread nD τ).loc main_arg3)) (ix3 ⟨R.val / 1024 % 8, by omega⟩ ⟨R.val / 8192 * 1024 + R.val % 1024, by omega⟩ ⟨q.val * 128 + l.val, by omega⟩) := by
  simp only [V, hostOps0]
  entry_read
  pointwise

theorem yb_apply (c : Dev nD) (q : Fin 2) (R : Fin 65536) (l : Fin 128) :
    (V m c main_v9 : FVec Ideal S2x65536x128 .f32) (ix3 q R l) = (m ((c.tc : Thread nD τ).loc main_arg4)) (ix3 ⟨R.val / 8192, by omega⟩ ⟨R.val % 8192, by omega⟩ ⟨q.val * 128 + l.val, by omega⟩) := by
  simp only [V, hostOps0]
  entry_read
  pointwise

end Cert.Kernel2Ideal.Hand
-- ==== Proof.MergeCells.lean ====
module

public import proofs.«01_k».proof.Proof.Gen.Kernel2Ideal.Skeleton
public import proofs.«01_k».proof.Proof.MergeSpec

/-! The merge's vector expressions read at an entry. -/

@[expose] public section

noncomputable section

namespace Cert.Kernel2Ideal.Hand

open Idealize.ShloMosaic Cert.Kernel2Ideal Cert.Kernel2Ideal.Gen

variable {w : Merge.Weights} {r : Merge.Row} {i : Fin 512}

theorem norm_apply (x : FVec Ideal S512x1024 .f32) (n : FVec Ideal S1x1024 .f32)
    (hx : ∀ j, x (ix2 i j) = r.x j) (hn : ∀ j, n (ix2 0 j) = w.nw j) (j : Fin 1024) :
    k0_pay3 (F := Ideal) x n (ix2 i j) = Merge.h w r j := by
  have e : k0_pay2 (F := Ideal) x = x := by
    funext y
    unfold k0_pay2
    pointwise
  unfold k0_pay3
  pointwise
  simp only [e, hx, hn]
  rfl

/-- The four lane tiles of the first branch's row. -/
theorem lanes4_apply (u0 u1 u2 u3 : FVec Ideal S1x512x128 .f32)
    (h0 : ∀ l : Fin 128, u0 (ix3 0 i l) = r.ya ⟨l.val, by omega⟩)
    (h1 : ∀ l : Fin 128, u1 (ix3 0 i l) = r.ya ⟨128 + l.val, by omega⟩)
    (h2 : ∀ l : Fin 128, u2 (ix3 0 i l) = r.ya ⟨256 + l.val, by omega⟩)
    (h3 : ∀ l : Fin 128, u3 (ix3 0 i l) = r.ya ⟨384 + l.val, by omega⟩) (j : Fin 512) :
    k0_pay4 (F := Ideal) u0 u1 u2 u3 (ix2 i j) = r.ya j := by
  unfold k0_pay4
  pointwise
  by_cases c0 : j.val < 128
  · rw [dif_pos c0]
    exact h0 _
  rw [dif_neg c0]
  by_cases c1 : j.val - 128 < 128
  · rw [dif_pos c1]
    refine (h1 _).trans (congrArg r.ya (Fin.ext ?_))
    show 128 + (j.val - 128) = j.val
    omega
  rw [dif_neg c1]
  by_cases c2 : j.val - 128 - 128 < 128
  · rw [dif_pos c2]
    refine (h2 _).trans (congrArg r.ya (Fin.ext ?_))
    show 256 + (j.val - 128 - 128) = j.val
    omega
  · rw [dif_neg c2]
    refine (h3 _).trans (congrArg r.ya (Fin.ext ?_))
    show 384 + (j.val - 128 - 128 - 128) = j.val
    omega

theorem gelu_apply (u0 u1 u2 u3 : FVec Ideal S1x512x128 .f32) (j : Fin 512)
    (h : k0_pay4 (F := Ideal) u0 u1 u2 u3 (ix2 i j) = r.ya j) :
    (k0_pay5 (F := Ideal) u0 u1 u2 u3 (ix2 i j) * (1 + k0_pay6 (F := Ideal) u0 u1 u2 u3 (ix2 i j)) : EReal) = Merge.ga r j := by
  have e5 : k0_pay5 (F := Ideal) u0 u1 u2 u3 (ix2 i j) = Ideal.ofBits .f32 0x3F000000#32 * r.ya j := by
    unfold k0_pay5
    pointwise
    rw [h]
  have e6 : k0_pay6 (F := Ideal) u0 u1 u2 u3 (ix2 i j)
      = Ideal.tanh (Ideal.ofBits .f32 0x3F4C422A#32 * (r.ya j + Ideal.ofBits .f32 0x3D372713#32 * (r.ya j * r.ya j * r.ya j))) := by
    unfold k0_pay6
    pointwise
    rw [h]
  rw [e5, e6]
  unfold Merge.ga Merge.gelu
  rw [mul_comm (Ideal.ofBits .f32 0x3F000000#32) (r.ya j), mul_assoc]

section

variable (H : FVec Ideal S512x1024 .bf16) (hH : ∀ k, H (ix2 i k) = Merge.h w r k)
include hH

theorem a_apply (g t : FVec Ideal S512x512 .f32) (gw : FVec Ideal S512x512 .bf16) (gb : FVec Ideal S1x512 .f32)
    (wz : FVec Ideal S1024x512 .bf16)
    (hg : ∀ j, (g (ix2 i j) * (1 + t (ix2 i j)) : EReal) = Merge.ga r j)
    (hw : ∀ k j, gw (ix2 k j) = w.gw k j) (hb : ∀ j, gb (ix2 0 j) = w.gb j)
    (hz : ∀ k (j : Fin 512), wz (ix2 k j) = w.win k ⟨512 + j.val, by omega⟩) (j : Fin 512) :
    k0_pay7 (F := Ideal) H g t (Scalar.ofBits .f32 0x3F800000#32) gw gb wz (ix2 i j) = Merge.a w r j := by
  have one : (Scalar.ofBits .f32 0x3F800000#32 : Ideal .f32) = (1 : EReal) := Ideal.ofBits_one_f32
  unfold k0_pay7
  pointwise
  simp only [one, hg, hw, hb, hz, hH]
  rfl

theorem gate1_apply (wz : FVec Ideal S1024x1024 .bf16)
    (hz : ∀ k (j : Fin 1024), wz (ix2 k j) = w.win k ⟨6668 + j.val, by omega⟩) (j : Fin 1024) :
    k0_pay11 (F := Ideal) H wz (ix2 i j) = Merge.gate (Merge.z w r ⟨6668 + j.val, by omega⟩) := by
  unfold k0_pay11
  pointwise
  simp only [hz, hH]
  rfl

theorem gate2_apply (wz : FVec Ideal S1024x1024 .bf16)
    (hz : ∀ k (j : Fin 1024), wz (ix2 k j) = w.win k ⟨7692 + j.val, by omega⟩) (j : Fin 1024) :
    k0_pay16 (F := Ideal) H wz (ix2 i j) = Merge.gate (Merge.z w r ⟨7692 + j.val, by omega⟩) := by
  unfold k0_pay16
  pointwise
  simp only [hz, hH]
  rfl

theorem first_apply (A : FVec Ideal S512x512 .f32) (wz : FVec Ideal S1024x1024 .bf16) (pa : FVec Ideal S512x1024 .bf16)
    (hA : ∀ k, A (ix2 i k) = Merge.a w r k)
    (hz : ∀ k (j : Fin 1024), wz (ix2 k j) = w.win k ⟨5644 + j.val, by omega⟩)
    (hp : ∀ k j, pa (ix2 k j) = w.pa k j) (j : Fin 1024) :
    k0_pay10 (F := Ideal) A (k0_pay8 (F := Ideal) H wz) (k0_pay9 (F := Ideal)) pa (ix2 i j)
      = Merge.gate (Merge.z w r ⟨5644 + j.val, by omega⟩) * ∑ k, Merge.a w r k * w.pa k j := by
  have e8 : k0_pay8 (F := Ideal) H wz (ix2 i j) = 1 + Ideal.exp (0 - Merge.z w r ⟨5644 + j.val, by omega⟩) := by
    unfold k0_pay8
    pointwise
    simp only [hz, hH]
    rfl
  have e9 : k0_pay9 (F := Ideal) (ix2 i j) = (1 : EReal) := by
    unfold k0_pay9
    pointwise
  unfold k0_pay10
  pointwise
  simp only [e8, e9, hA, hp]
  rfl

theorem b_apply (u0 u1 : FVec Ideal S1x512x128 .f32) (wz : FVec Ideal S1024x256 .bf16)
    (h0 : ∀ l : Fin 128, u0 (ix3 0 i l) = r.yb ⟨l.val, by omega⟩)
    (h1 : ∀ l : Fin 128, u1 (ix3 0 i l) = r.yb ⟨128 + l.val, by omega⟩)
    (hz : ∀ k (j : Fin 256), wz (ix2 k j) = w.win k ⟨3328 + j.val, by omega⟩) (j : Fin 256) :
    k0_pay12 (F := Ideal) H u0 u1 wz (ix2 i j) = Merge.b w r j := by
  unfold k0_pay12
  pointwise
  simp only [hz, hH]
  unfold Merge.b
  refine congrArg (· * Merge.silu (Merge.z w r ⟨3328 + j.val, _⟩)) ?_
  by_cases c0 : j.val < 128
  · rw [dif_pos c0]
    exact h0 _
  · rw [dif_neg c0]
    refine (h1 _).trans (congrArg r.yb (Fin.ext ?_))
    show 128 + (j.val - 128) = j.val
    omega

theorem c_apply (y : FVec Ideal S512x768 .f32) (wz : FVec Ideal S1024x768 .bf16) (sn : FVec Ideal S1x768 .f32)
    (hy : ∀ j, y (ix2 i j) = r.yc j)
    (hz : ∀ k (j : Fin 768), wz (ix2 k j) = w.win k ⟨4876 + j.val, by omega⟩)
    (hs : ∀ j, sn (ix2 0 j) = w.sn j) (j : Fin 768) :
    k0_pay15 (F := Ideal) H y wz sn (ix2 i j) = Merge.c w r j := by
  unfold k0_pay15
  pointwise
  simp only [hz, hH, hy, hs]
  rfl

end

theorem two_apply (f g : FVec Ideal S512x1024 .f32) (B : FVec Ideal S512x256 .bf16) (pb : FVec Ideal S256x1024 .bf16) (j : Fin 1024)
    (hB : ∀ k, B (ix2 i k) = Merge.b w r k) (hp : ∀ k j, pb (ix2 k j) = w.pb k j) :
    k0_pay14 (F := Ideal) f g B (k0_pay13 (F := Ideal) pb) (constant S512x1024 .f32 0x00000000#32) (ix2 i j)
      = f (ix2 i j) + g (ix2 i j) * ∑ k, Merge.b w r k * w.pb k j := by
  unfold k0_pay14 k0_pay13
  pointwise
  simp only [hB, hp]

theorem out_apply (x f g : FVec Ideal S512x1024 .f32) (C : FVec Ideal S512x768 .f32) (pc : FVec Ideal S768x1024 .bf16)
    (wo : FVec Ideal S1024x1024 .bf16) (j : Fin 1024) (hx : x (ix2 i j) = r.x j)
    (hm : ∀ j, f (ix2 i j) + g (ix2 i j) * ∑ k, Merge.c w r k * w.pc k j = Merge.mix w r j)
    (hC : ∀ k, C (ix2 i k) = Merge.c w r k) (hp : ∀ k j, pc (ix2 k j) = w.pc k j) (ho : ∀ k j, wo (ix2 k j) = w.wo k j) :
    k0_pay1 (F := Ideal) x f C g pc wo (ix2 i j) = Merge.out w r j := by
  unfold k0_pay1
  pointwise
  simp only [hC, hp, ho, hm, hx]
  rfl

end Cert.Kernel2Ideal.Hand
-- ==== Proof.MergeBlocks.lean ====
module

public import proofs.«01_k».proof.Proof.MergeHost
public import proofs.«01_k».proof.Proof.MergeCells

/-! The merge's blocks: each window's block in terms of the array behind it. -/

@[expose] public section

noncomputable section

namespace Cert.Kernel2Ideal.Hand

open Idealize.ShloMosaic Cert.Kernel2Ideal Cert.Kernel2Ideal.Gen

variable (m : (ℓ : Loc nD τ sig) → Buf (Elt Ideal) ℓ)

theorem emb1 (t : Fin cfg0.N) (y) : ((cfg0.win 1).blk t).view.emb y = y := by
  have h : (win0_1.index t 0 : ℕ) = 0 ∧ (win0_1.index t 1 : ℕ) = 0 := ⟨rfl, rfl⟩
  blk_ext [h]

theorem iblk1 (c : Dev nD) (t : Fin cfg0.N) (y) : iblk m c 1 t y = V m c main_v11 y := by
  unfold iblk
  exact congrArg (V m c main_v11) (emb1 t y)

theorem emb2 (t : Fin cfg0.N) (y) : ((cfg0.win 2).blk t).view.emb y = y := by
  have h : (win0_2.index t 0 : ℕ) = 0 ∧ (win0_2.index t 1 : ℕ) = 0 := ⟨rfl, rfl⟩
  blk_ext [h]

theorem iblk2 (c : Dev nD) (t : Fin cfg0.N) (y) : iblk m c 2 t y = V m c main_v4 y := by
  unfold iblk
  exact congrArg (V m c main_v4) (emb2 t y)

theorem emb6 (t : Fin cfg0.N) (y) : ((cfg0.win 6).blk t).view.emb y = y := by
  have h : (win0_6.index t 0 : ℕ) = 0 ∧ (win0_6.index t 1 : ℕ) = 0 := ⟨rfl, rfl⟩
  blk_ext [h]

theorem iblk6 (c : Dev nD) (t : Fin cfg0.N) (y) : iblk m c 6 t y = V m c main_v13 y := by
  unfold iblk
  exact congrArg (V m c main_v13) (emb6 t y)

theorem emb7 (t : Fin cfg0.N) (y) : ((cfg0.win 7).blk t).view.emb y = y := by
  have h : (win0_7.index t 0 : ℕ) = 0 ∧ (win0_7.index t 1 : ℕ) = 0 := ⟨rfl, rfl⟩
  blk_ext [h]

theorem iblk7 (c : Dev nD) (t : Fin cfg0.N) (y) : iblk m c 7 t y = V m c main_v14 y := by
  unfold iblk
  exact congrArg (V m c main_v14) (emb7 t y)

theorem emb8 (t : Fin cfg0.N) (y) : ((cfg0.win 8).blk t).view.emb y = y := by
  have h : (win0_8.index t 0 : ℕ) = 0 ∧ (win0_8.index t 1 : ℕ) = 0 := ⟨rfl, rfl⟩
  blk_ext [h]

theorem iblk8 (c : Dev nD) (t : Fin cfg0.N) (y) : iblk m c 8 t y = V m c main_v15 y := by
  unfold iblk
  exact congrArg (V m c main_v15) (emb8 t y)

theorem emb9 (t : Fin cfg0.N) (y) : ((cfg0.win 9).blk t).view.emb y = y := by
  have h : (win0_9.index t 0 : ℕ) = 0 ∧ (win0_9.index t 1 : ℕ) = 0 := ⟨rfl, rfl⟩
  blk_ext [h]

theorem iblk9 (c : Dev nD) (t : Fin cfg0.N) (y) : iblk m c 9 t y = V m c main_v16 y := by
  unfold iblk
  exact congrArg (V m c main_v16) (emb9 t y)

theorem emb10 (t : Fin cfg0.N) (y) : ((cfg0.win 10).blk t).view.emb y = y := by
  have h : (win0_10.index t 0 : ℕ) = 0 ∧ (win0_10.index t 1 : ℕ) = 0 := ⟨rfl, rfl⟩
  blk_ext [h]

theorem iblk10 (c : Dev nD) (t : Fin cfg0.N) (y) : iblk m c 10 t y = V m c main_v17 y := by
  unfold iblk
  exact congrArg (V m c main_v17) (emb10 t y)

theorem emb11 (t : Fin cfg0.N) (y) : ((cfg0.win 11).blk t).view.emb y = y := by
  have h : (win0_11.index t 0 : ℕ) = 0 ∧ (win0_11.index t 1 : ℕ) = 0 := ⟨rfl, rfl⟩
  blk_ext [h]

theorem iblk11 (c : Dev nD) (t : Fin cfg0.N) (y) : iblk m c 11 t y = V m c main_v18 y := by
  unfold iblk
  exact congrArg (V m c main_v18) (emb11 t y)

theorem emb12 (t : Fin cfg0.N) (y) : ((cfg0.win 12).blk t).view.emb y = y := by
  have h : (win0_12.index t 0 : ℕ) = 0 ∧ (win0_12.index t 1 : ℕ) = 0 := ⟨rfl, rfl⟩
  blk_ext [h]

theorem iblk12 (c : Dev nD) (t : Fin cfg0.N) (y) : iblk m c 12 t y = V m c main_v19 y := by
  unfold iblk
  exact congrArg (V m c main_v19) (emb12 t y)

theorem idx0 : ∀ t : Fin cfg0.N, (win0_0.index t 0 : ℕ) = t.val ∧ (win0_0.index t 1 : ℕ) = 0 := by
  decide +kernel

theorem idx5 : ∀ t : Fin cfg0.N, (win0_5.index t 0 : ℕ) = t.val ∧ (win0_5.index t 1 : ℕ) = 0 := by
  decide +kernel

theorem idx13 : ∀ t : Fin cfg0.N, (win0_13.index t 0 : ℕ) = t.val ∧ (win0_13.index t 1 : ℕ) = 0 := by
  decide +kernel

theorem idx3 : ∀ t : Fin cfg0.N, (win0_3.index t 0 : ℕ) = 0 ∧ (win0_3.index t 1 : ℕ) = (t.val % 16 / 2 * 8 + t.val / 16) * 2 + t.val % 2
    ∧ (win0_3.index t 2 : ℕ) = 0 := by
  decide +kernel

theorem idx4 : ∀ t : Fin cfg0.N, (win0_4.index t 0 : ℕ) = 0 ∧ (win0_4.index t 1 : ℕ) = t.val ∧ (win0_4.index t 2 : ℕ) = 0 := by
  decide +kernel

theorem iblk0 (c : Dev nD) (t : Fin cfg0.N) (i : Fin 512) (j : Fin 1024) :
    iblk m c 0 t (ix2 i j) = V m c main_v10 (ix2 ⟨512 * t.val + i.val, by have h := t.isLt; change t.val < 128 at h; omega⟩ j) := by
  have ht : t.val < 128 := t.isLt
  unfold iblk
  refine congrArg (V m c main_v10) ?_
  blk_ext [idx0 t]

theorem iblk5 (c : Dev nD) (t : Fin cfg0.N) (i : Fin 512) (j : Fin 768) :
    iblk m c 5 t (ix2 i j) = V m c main_v12 (ix2 ⟨512 * t.val + i.val, by have h := t.isLt; change t.val < 128 at h; omega⟩ j) := by
  have ht : t.val < 128 := t.isLt
  unfold iblk
  refine congrArg (V m c main_v12) ?_
  blk_ext [idx5 t]

theorem iblk4 (c : Dev nD) (t : Fin cfg0.N) (q : Fin 2) (i : Fin 512) (l : Fin 128) :
    iblk m c 4 t (ix3 q i l) = V m c main_v9 (ix3 q ⟨512 * t.val + i.val, by have h := t.isLt; change t.val < 128 at h; omega⟩ l) := by
  have ht : t.val < 128 := t.isLt
  unfold iblk
  refine congrArg (V m c main_v9) ?_
  blk_ext [idx4 t]

theorem iblk3 (c : Dev nD) (t : Fin cfg0.N) (q : Fin 4) (i : Fin 512) (l : Fin 128) :
    iblk m c 3 t (ix3 q i l) = V m c main_v7
      (ix3 q ⟨512 * ((t.val % 16 / 2 * 8 + t.val / 16) * 2 + t.val % 2) + i.val, by have h := t.isLt; change t.val < 128 at h; omega⟩ l) := by
  have ht : t.val < 128 := t.isLt
  unfold iblk
  refine congrArg (V m c main_v7) ?_
  blk_ext [idx3 t]

end Cert.Kernel2Ideal.Hand
-- ==== Proof.MergeRows.lean ====
module

public import proofs.«01_k».proof.Proof.MergeBlocks

/-! The merge's output: every row its body leaves, and the array they make. -/

@[expose] public section

noncomputable section

namespace Cert.Kernel2Ideal.Hand

open Idealize.ShloMosaic Cert.Kernel2Ideal Cert.Kernel2Ideal.Gen

variable (m : (ℓ : Loc nD τ sig) → Buf (Elt Ideal) ℓ)

theorem ld8 (x : Vec Ideal S1024x4608 .bf16) (k : Fin 1024) (j : Fin 512) :
    View.ld (Val := Elt Ideal) (e' := .bf16) x r0_8 (ix2 k j) = x (ix2 k ⟨j.val, by omega⟩) := by
  refine congrArg x (funext fun a => ?_)
  match a with
  | ⟨0, _⟩ => exact Fin.ext (by show 0 + 1 * k.val = k.val; omega)
  | ⟨1, _⟩ => exact Fin.ext (by show 0 + 1 * j.val = j.val; omega)

theorem ld12 (x : Vec Ideal S1024x4608 .bf16) (k : Fin 1024) (j : Fin 256) :
    View.ld (Val := Elt Ideal) (e' := .bf16) x r0_12 (ix2 k j) = x (ix2 k ⟨512 + j.val, by omega⟩) := by
  refine congrArg x (funext fun a => ?_)
  match a with
  | ⟨0, _⟩ => exact Fin.ext (by show 0 + 1 * k.val = k.val; omega)
  | ⟨1, _⟩ => exact Fin.ext (by show 512 + 1 * j.val = 512 + j.val; omega)

theorem ld16 (x : Vec Ideal S1024x4608 .bf16) (k : Fin 1024) (j : Fin 768) :
    View.ld (Val := Elt Ideal) (e' := .bf16) x r0_16 (ix2 k j) = x (ix2 k ⟨768 + j.val, by omega⟩) := by
  refine congrArg x (funext fun a => ?_)
  match a with
  | ⟨0, _⟩ => exact Fin.ext (by show 0 + 1 * k.val = k.val; omega)
  | ⟨1, _⟩ => exact Fin.ext (by show 768 + 1 * j.val = 768 + j.val; omega)

theorem ld9 (x : Vec Ideal S1024x4608 .bf16) (k : Fin 1024) (j : Fin 1024) :
    View.ld (Val := Elt Ideal) (e' := .bf16) x r0_9 (ix2 k j) = x (ix2 k ⟨1536 + j.val, by omega⟩) := by
  refine congrArg x (funext fun a => ?_)
  match a with
  | ⟨0, _⟩ => exact Fin.ext (by show 0 + 1 * k.val = k.val; omega)
  | ⟨1, _⟩ => exact Fin.ext (by show 1536 + 1 * j.val = 1536 + j.val; omega)

theorem ld13 (x : Vec Ideal S1024x4608 .bf16) (k : Fin 1024) (j : Fin 1024) :
    View.ld (Val := Elt Ideal) (e' := .bf16) x r0_13 (ix2 k j) = x (ix2 k ⟨2560 + j.val, by omega⟩) := by
  refine congrArg x (funext fun a => ?_)
  match a with
  | ⟨0, _⟩ => exact Fin.ext (by show 0 + 1 * k.val = k.val; omega)
  | ⟨1, _⟩ => exact Fin.ext (by show 2560 + 1 * j.val = 2560 + j.val; omega)

theorem ld18 (x : Vec Ideal S1024x4608 .bf16) (k : Fin 1024) (j : Fin 1024) :
    View.ld (Val := Elt Ideal) (e' := .bf16) x r0_18 (ix2 k j) = x (ix2 k ⟨3584 + j.val, by omega⟩) := by
  refine congrArg x (funext fun a => ?_)
  match a with
  | ⟨0, _⟩ => exact Fin.ext (by show 0 + 1 * k.val = k.val; omega)
  | ⟨1, _⟩ => exact Fin.ext (by show 3584 + 1 * j.val = 3584 + j.val; omega)

theorem ld2 (x : Vec Ideal S4x512x128 .f32) (i : Fin 512) (l : Fin 128) :
    View.ld (Val := Elt Ideal) (e' := .f32) x r0_2 (ix3 0 i l) = x (ix3 0 i l) := by
  refine congrArg x (funext fun a => ?_)
  match a with
  | ⟨0, _⟩ => rfl
  | ⟨1, _⟩ => exact Fin.ext (by show 0 + 1 * i.val = i.val; omega)
  | ⟨2, _⟩ => exact Fin.ext (by show 0 + 1 * l.val = l.val; omega)

theorem ld3 (x : Vec Ideal S4x512x128 .f32) (i : Fin 512) (l : Fin 128) :
    View.ld (Val := Elt Ideal) (e' := .f32) x r0_3 (ix3 0 i l) = x (ix3 1 i l) := by
  refine congrArg x (funext fun a => ?_)
  match a with
  | ⟨0, _⟩ => rfl
  | ⟨1, _⟩ => exact Fin.ext (by show 0 + 1 * i.val = i.val; omega)
  | ⟨2, _⟩ => exact Fin.ext (by show 0 + 1 * l.val = l.val; omega)

theorem ld4 (x : Vec Ideal S4x512x128 .f32) (i : Fin 512) (l : Fin 128) :
    View.ld (Val := Elt Ideal) (e' := .f32) x r0_4 (ix3 0 i l) = x (ix3 2 i l) := by
  refine congrArg x (funext fun a => ?_)
  match a with
  | ⟨0, _⟩ => rfl
  | ⟨1, _⟩ => exact Fin.ext (by show 0 + 1 * i.val = i.val; omega)
  | ⟨2, _⟩ => exact Fin.ext (by show 0 + 1 * l.val = l.val; omega)

theorem ld5 (x : Vec Ideal S4x512x128 .f32) (i : Fin 512) (l : Fin 128) :
    View.ld (Val := Elt Ideal) (e' := .f32) x r0_5 (ix3 0 i l) = x (ix3 3 i l) := by
  refine congrArg x (funext fun a => ?_)
  match a with
  | ⟨0, _⟩ => rfl
  | ⟨1, _⟩ => exact Fin.ext (by show 0 + 1 * i.val = i.val; omega)
  | ⟨2, _⟩ => exact Fin.ext (by show 0 + 1 * l.val = l.val; omega)

theorem ld10 (x : Vec Ideal S2x512x128 .f32) (i : Fin 512) (l : Fin 128) :
    View.ld (Val := Elt Ideal) (e' := .f32) x r0_10 (ix3 0 i l) = x (ix3 0 i l) := by
  refine congrArg x (funext fun a => ?_)
  match a with
  | ⟨0, _⟩ => rfl
  | ⟨1, _⟩ => exact Fin.ext (by show 0 + 1 * i.val = i.val; omega)
  | ⟨2, _⟩ => exact Fin.ext (by show 0 + 1 * l.val = l.val; omega)

theorem ld11 (x : Vec Ideal S2x512x128 .f32) (i : Fin 512) (l : Fin 128) :
    View.ld (Val := Elt Ideal) (e' := .f32) x r0_11 (ix3 0 i l) = x (ix3 1 i l) := by
  refine congrArg x (funext fun a => ?_)
  match a with
  | ⟨0, _⟩ => rfl
  | ⟨1, _⟩ => exact Fin.ext (by show 0 + 1 * i.val = i.val; omega)
  | ⟨2, _⟩ => exact Fin.ext (by show 0 + 1 * l.val = l.val; omega)

theorem ld1 (x : Vec Ideal S1x1024 .f32) : View.ld (Val := Elt Ideal) (e' := .f32) x r0_1 = x :=
  View.ld_unit_lit _ x (by decide)

theorem ld6 (x : Vec Ideal S512x512 .bf16) : View.ld (Val := Elt Ideal) (e' := .bf16) x r0_6 = x :=
  View.ld_unit_lit _ x (by decide)

theorem ld7 (x : Vec Ideal S1x512 .f32) : View.ld (Val := Elt Ideal) (e' := .f32) x r0_7 = x :=
  View.ld_unit_lit _ x (by decide)

theorem ld14 (x : Vec Ideal S256x1024 .bf16) : View.ld (Val := Elt Ideal) (e' := .bf16) x r0_14 = x :=
  View.ld_unit_lit _ x (by decide)

theorem ld15 (x : Vec Ideal S512x768 .f32) : View.ld (Val := Elt Ideal) (e' := .f32) x r0_15 = x :=
  View.ld_unit_lit _ x (by decide)

theorem ld17 (x : Vec Ideal S1x768 .f32) : View.ld (Val := Elt Ideal) (e' := .f32) x r0_17 = x :=
  View.ld_unit_lit _ x (by decide)

theorem ld19 (x : Vec Ideal S768x1024 .bf16) : View.ld (Val := Elt Ideal) (e' := .bf16) x r0_19 = x :=
  View.ld_unit_lit _ x (by decide)

theorem ld20 (x : Vec Ideal S1024x1024 .bf16) : View.ld (Val := Elt Ideal) (e' := .bf16) x r0_20 = x :=
  View.ld_unit_lit _ x (by decide)

theorem ld0 (x : Vec Ideal S512x1024 .f32) : View.ld (Val := Elt Ideal) (e' := .f32) x r0_0 = x :=
  View.ld_unit_lit _ x (by decide)

theorem ld0' (x : Vec Ideal S512x1024 .bf16) : View.ld (Val := Elt Ideal) (e' := .bf16) x r0_0 = x :=
  View.ld_unit_lit _ x (by decide)

/-- What a row of the blocks holds, as the merge's row and weights. -/
structure RowIs (w : Merge.Weights) (r : Merge.Row) (i : Fin 512) (x0 : Vec Ideal S512x1024 .f32) (x1 : Vec Ideal S1x1024 .f32)
    (x2 : Vec Ideal S1024x4608 .bf16) (x3 : Vec Ideal S4x512x128 .f32) (x4 : Vec Ideal S2x512x128 .f32) (x5 : Vec Ideal S512x768 .f32)
    (x6 : Vec Ideal S512x512 .bf16) (x7 : Vec Ideal S1x512 .f32) (x8 : Vec Ideal S1x768 .f32) (x9 : Vec Ideal S512x1024 .bf16)
    (x10 : Vec Ideal S256x1024 .bf16) (x11 : Vec Ideal S768x1024 .bf16) (x12 : Vec Ideal S1024x1024 .bf16) : Prop where
  x : ∀ j, x0 (ix2 i j) = r.x j
  nw : ∀ j, x1 (ix2 0 j) = w.nw j
  za : ∀ k (j : Fin 512), x2 (ix2 k ⟨j.val, by omega⟩) = w.win k ⟨512 + j.val, by omega⟩
  zb : ∀ k (j : Fin 256), x2 (ix2 k ⟨512 + j.val, by omega⟩) = w.win k ⟨3328 + j.val, by omega⟩
  zc : ∀ k (j : Fin 3840), x2 (ix2 k ⟨768 + j.val, by omega⟩) = w.win k ⟨4876 + j.val, by omega⟩
  ya : ∀ (q : Fin 4) (l : Fin 128), x3 (ix3 q i l) = r.ya ⟨q.val * 128 + l.val, by omega⟩
  yb : ∀ (q : Fin 2) (l : Fin 128), x4 (ix3 q i l) = r.yb ⟨q.val * 128 + l.val, by omega⟩
  yc : ∀ j, x5 (ix2 i j) = r.yc j
  gw : ∀ k j, x6 (ix2 k j) = w.gw k j
  gb : ∀ j, x7 (ix2 0 j) = w.gb j
  sn : ∀ j, x8 (ix2 0 j) = w.sn j
  pa : ∀ k j, x9 (ix2 k j) = w.pa k j
  pb : ∀ k j, x10 (ix2 k j) = w.pb k j
  pc : ∀ k j, x11 (ix2 k j) = w.pc k j
  wo : ∀ k j, x12 (ix2 k j) = w.wo k j

section

variable {w : Merge.Weights} {r : Merge.Row} {i : Fin 512} {x0 : Vec Ideal S512x1024 .f32} {x1 : Vec Ideal S1x1024 .f32}
    {x2 : Vec Ideal S1024x4608 .bf16} {x3 : Vec Ideal S4x512x128 .f32} {x4 : Vec Ideal S2x512x128 .f32} {x5 : Vec Ideal S512x768 .f32}
    {x6 : Vec Ideal S512x512 .bf16} {x7 : Vec Ideal S1x512 .f32} {x8 : Vec Ideal S1x768 .f32} {x9 : Vec Ideal S512x1024 .bf16}
    {x10 : Vec Ideal S256x1024 .bf16} {x11 : Vec Ideal S768x1024 .bf16} {x12 : Vec Ideal S1024x1024 .bf16}

theorem RowIs.gateCol (h : RowIs w r i x0 x1 x2 x3 x4 x5 x6 x7 x8 x9 x10 x11 x12) (d e : ℕ) (hd : 768 ≤ d) (he : e = d + 4108) (n : ℕ)
    (hn : d + n ≤ 4608) (k : Fin 1024) (j : Fin n) :
    x2 (ix2 k ⟨d + j.val, by omega⟩) = w.win k ⟨e + j.val, by omega⟩ := by
  subst he
  have := h.zc k ⟨d - 768 + j.val, by omega⟩
  refine Eq.trans (congrArg x2 (congrArg (ix2 k) (Fin.ext ?_))) (this.trans (congrArg (w.win k) (Fin.ext ?_)))
  · show d + j.val = 768 + (d - 768 + j.val); omega
  · show 4876 + (d - 768 + j.val) = d + 4108 + j.val; omega

/-- What the body leaves of a row is the merge's output row. -/
theorem RowIs.out (h : RowIs w r i x0 x1 x2 x3 x4 x5 x6 x7 x8 x9 x10 x11 x12) (j : Fin 1024) :
    out0_13 (F := Ideal) x0 x1 x2 x3 x4 x5 x6 x7 x8 x9 x10 x11 x12 (ix2 i j) = Merge.out w r j := by
  have hH : ∀ k, k0_pay17 (F := Ideal) x0 x1 x2 x3 x4 x5 x6 x7 x8 x9 x10 x11 x12 (ix2 i k) = Merge.h w r k := fun k => by
    unfold k0_pay17
    rw [ld0, ld1]
    exact norm_apply x0 x1 h.x h.nw k
  unfold out0_13
  generalize k0_pay17 (F := Ideal) x0 x1 x2 x3 x4 x5 x6 x7 x8 x9 x10 x11 x12 = H at hH
  refine (congrFun (View.canon_cons_unit_lit _ _ _ (by decide)) _).trans ?_
  rw [ld0, ld0', ld6, ld7, ld14, ld15, ld17, ld19, ld20]
  have ex : k0_pay2 (F := Ideal) x0 = x0 := by
    funext y
    unfold k0_pay2
    pointwise
  rw [ex]
  have hl : ∀ k, k0_pay4 (F := Ideal) (View.ld x3 r0_2) (View.ld x3 r0_3) (View.ld x3 r0_4) (View.ld x3 r0_5) (ix2 i k) = r.ya k :=
    lanes4_apply _ _ _ _
      (fun l => (ld2 x3 i l).trans ((h.ya 0 l).trans (congrArg r.ya (Fin.ext (by show 0 * 128 + l.val = l.val; omega)))))
      (fun l => (ld3 x3 i l).trans ((h.ya 1 l).trans (congrArg r.ya (Fin.ext (by show 1 * 128 + l.val = 128 + l.val; omega)))))
      (fun l => (ld4 x3 i l).trans ((h.ya 2 l).trans (congrArg r.ya (Fin.ext (by show 2 * 128 + l.val = 256 + l.val; omega)))))
      (fun l => (ld5 x3 i l).trans ((h.ya 3 l).trans (congrArg r.ya (Fin.ext (by show 3 * 128 + l.val = 384 + l.val; omega)))))
  have hA := a_apply H hH (k0_pay5 (F := Ideal) (View.ld x3 r0_2) (View.ld x3 r0_3) (View.ld x3 r0_4) (View.ld x3 r0_5))
    (k0_pay6 (F := Ideal) (View.ld x3 r0_2) (View.ld x3 r0_3) (View.ld x3 r0_4) (View.ld x3 r0_5)) x6 x7 (View.ld x2 r0_8)
    (fun k => gelu_apply _ _ _ _ k (hl k)) h.gw h.gb (fun k j => (ld8 x2 k j).trans (h.za k j))
  have h1 := fun j => first_apply H hH _ (View.ld x2 r0_9) x9 hA
    (fun k j => (ld9 x2 k j).trans (h.gateCol 1536 5644 (by omega) rfl 1024 (by omega) k j)) h.pa j
  have h2 := fun j => gate1_apply H hH (View.ld x2 r0_13)
    (fun k j => (ld13 x2 k j).trans (h.gateCol 2560 6668 (by omega) rfl 1024 (by omega) k j)) j
  have h3 := fun j => gate2_apply H hH (View.ld x2 r0_18)
    (fun k j => (ld18 x2 k j).trans (h.gateCol 3584 7692 (by omega) rfl 1024 (by omega) k j)) j
  have hB := b_apply H hH (View.ld x4 r0_10) (View.ld x4 r0_11) (View.ld x2 r0_12)
    (fun l => (ld10 x4 i l).trans ((h.yb 0 l).trans (congrArg r.yb (Fin.ext (by show 0 * 128 + l.val = l.val; omega)))))
    (fun l => (ld11 x4 i l).trans ((h.yb 1 l).trans (congrArg r.yb (Fin.ext (by show 1 * 128 + l.val = 128 + l.val; omega)))))
    (fun k j => (ld12 x2 k j).trans (h.zb k j))
  have hC := c_apply H hH x5 (View.ld x2 r0_16) x8 h.yc
    (fun k j => (ld16 x2 k j).trans (h.gateCol 768 4876 (by omega) rfl 768 (by omega) k j)) h.sn
  refine out_apply _ _ _ _ _ _ j (h.x j) (fun j => ?_) hC h.pc h.wo
  rw [two_apply _ _ _ _ j hB h.pb, h1, h2, h3]
  rfl

end

/-- The program's weights. -/
def weights (c : Dev nD) : Merge.Weights :=
  Merge.Weights.of (m ((c.tc : Thread nD τ).loc main_arg1)) (m ((c.tc : Thread nD τ).loc main_arg2))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12))

/-- The program's row of a sequence's position. -/
def row (c : Dev nD) : Fin 8 → Fin 8192 → Merge.Row :=
  Merge.Row.of (m ((c.tc : Thread nD τ).loc main_arg0)) (m ((c.tc : Thread nD τ).loc main_arg3))
    (m ((c.tc : Thread nD τ).loc main_arg4)) (m ((c.tc : Thread nD τ).loc main_arg5))

/-- A point's row of the merge: its position in its sequence. -/
def pos (t : Fin cfg0.N) (i : Fin 512) : Fin 8192 :=
  ⟨512 * (t.val % 16) + i.val, by omega⟩

def sq (t : Fin cfg0.N) : Fin 8 := ⟨t.val / 16, by have h := t.isLt; change t.val < 128 at h; omega⟩

theorem rowIs (c : Dev nD) (t : Fin cfg0.N) (i : Fin 512) :
    RowIs (weights m c) (row m c (sq t) (pos t i)) i (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t) (iblk m c 12 t) where
  x j := by
    have ht : t.val < 128 := t.isLt
    refine (iblk0 m c t i j).trans ((x_apply m c _ j).trans (congrArg _ (congrArg₂ (fun p q => ix3 p q j) (Fin.ext ?_) (Fin.ext ?_))))
    · show (512 * t.val + i.val) / 8192 = t.val / 16; omega
    · show (512 * t.val + i.val) % 8192 = 512 * (t.val % 16) + i.val; omega
  nw j := (iblk1 m c t (ix2 0 j)).trans (nw_apply m c j)
  za k j := (iblk2 m c t _).trans (za_apply m c k j)
  zb k j := (iblk2 m c t _).trans (zb_apply m c k j)
  zc k j := (iblk2 m c t _).trans (zc_apply m c k j)
  ya q l := by
    have ht : t.val < 128 := t.isLt
    refine (iblk3 m c t q i l).trans ((ya_apply m c q _ l).trans (congrArg _ (congrArg₂ (fun p q' => ix3 p q' _) (Fin.ext ?_) (Fin.ext ?_))))
    · show (512 * ((t.val % 16 / 2 * 8 + t.val / 16) * 2 + t.val % 2) + i.val) / 1024 % 8 = t.val / 16; omega
    · show (512 * ((t.val % 16 / 2 * 8 + t.val / 16) * 2 + t.val % 2) + i.val) / 8192 * 1024
          + (512 * ((t.val % 16 / 2 * 8 + t.val / 16) * 2 + t.val % 2) + i.val) % 1024 = 512 * (t.val % 16) + i.val
      omega
  yb q l := by
    have ht : t.val < 128 := t.isLt
    refine (iblk4 m c t q i l).trans ((yb_apply m c q _ l).trans (congrArg _ (congrArg₂ (fun p q' => ix3 p q' _) (Fin.ext ?_) (Fin.ext ?_))))
    · show (512 * t.val + i.val) / 8192 = t.val / 16; omega
    · show (512 * t.val + i.val) % 8192 = 512 * (t.val % 16) + i.val; omega
  yc j := by
    have ht : t.val < 128 := t.isLt
    refine (iblk5 m c t i j).trans ((yc_apply m c _ j).trans (congrArg _ (congrArg₂ (fun p q => ix3 p q j) (Fin.ext ?_) (Fin.ext ?_))))
    · show (512 * t.val + i.val) / 8192 = t.val / 16; omega
    · show (512 * t.val + i.val) % 8192 = 512 * (t.val % 16) + i.val; omega
  gw k j := (iblk6 m c t _).trans (gw_apply m c k j)
  gb j := (iblk7 m c t _).trans (gb_apply m c j)
  sn j := (iblk8 m c t _).trans (sn_apply m c j)
  pa k j := (iblk9 m c t _).trans (pa_apply m c k j)
  pb k j := (iblk10 m c t _).trans (pb_apply m c k j)
  pc k j := (iblk11 m c t _).trans (pc_apply m c k j)
  wo k j := (iblk12 m c t _).trans (wo_apply m c k j)

/-- The merge's output array. -/
theorem out_eq (c : Dev nD) : (dats m 0 c).arrAt 13 cfg0.N = Merge.result (weights m c) (row m c) := by
  refine (dats m 0 c).arrAt_eq_of_covers 13 _ (by decide +kernel) fun t hf y => ?_
  have ht : t.val < 128 := t.isLt
  blk_simp
  rw [after0_13]
  idx_vars y
  have e : (((View.whole main_v20).slice (win0_13.rect t)).emb (ix2 y0 y1)) = ix2 ⟨512 * t.val + y0.val, by omega⟩ y1 := by
    blk_ext [idx13 t]
  rw [e]
  refine ((rowIs m c t y0).out y1).trans ?_
  show _ = Merge.out (weights m c) (row m c ⟨(512 * t.val + y0.val) / 8192, _⟩ ⟨(512 * t.val + y0.val) % 8192, _⟩) y1
  have e1 : sq t = ⟨(512 * t.val + y0.val) / 8192, by omega⟩ := Fin.ext (by show t.val / 16 = (512 * t.val + y0.val) / 8192; omega)
  have e2 : pos t y0 = ⟨(512 * t.val + y0.val) % 8192, by omega⟩ :=
    Fin.ext (by show 512 * (t.val % 16) + y0.val = (512 * t.val + y0.val) % 8192; omega)
  rw [e1, e2]

end Cert.Kernel2Ideal.Hand
-- ==== Proof.MergeRef.lean ====
module

public import proofs.«01_k».proof.Proof.Gen.Reference2Ideal.Read
public import proofs.«01_k».proof.Proof.MergeSpec
public import Idealize.ShloMosaic.Lib.Pointwise
public import Idealize.ShloMosaic.Lib.IdealHost

/-! The reference's stages read at their coordinates, one stage in terms of the stages before it. -/

@[expose] public section

noncomputable section

namespace Cert.Reference2Ideal.Read

open Idealize.ShloMosaic Cert.Reference2Ideal Cert.Reference2Ideal.Gen

/-- The logistic with the sign written as a negation. -/
theorem gate_neg (v : EReal) : Ideal.div 1 (1 + Ideal.exp (-v)) = Merge.gate v := by
  unfold Merge.gate
  rw [sub_eq_add_neg, zero_add]

section

variable (x0 : FVec Ideal S8x8192x1024 .f32) (x1 : FVec Ideal S1024 .f32) (x2 : FVec Ideal S1024x8716 .f32)
  (x3 : FVec Ideal S8x8192x512 .f32) (x4 : FVec Ideal S8x8192x256 .f32) (x5 : FVec Ideal S8x8192x768 .f32)
  (x6 : FVec Ideal S512x512 .f32) (x7 : FVec Ideal S512 .f32) (x8 : FVec Ideal S768 .f32) (x9 : FVec Ideal S512x1024 .f32)
  (x10 : FVec Ideal S256x1024 .f32) (x11 : FVec Ideal S768x1024 .f32) (x12 : FVec Ideal S1024x1024 .f32)
  (p : Fin 8) (q : Fin 8192)

theorem h_apply (j : Fin 1024) : (val_main_v12 (F := Ideal) x0 x1 (ix3 p q j) : EReal)
    = Merge.h (Merge.Weights.of x1 x2 x6 x7 x8 x9 x10 x11 x12) (Merge.Row.of x0 x3 x4 x5 p q) j := by
  unfold val_main_v12 val_main_v11 val_main_v10 val_main_v9 val_main_v8 val_main_v7 val_main_v6 val_main_v5 val_main_cst_1 val_main_v4 val_main_v3 val_main_cst_0 val_main_v2 val_main_v1 val_main_cst val_main_v0
  pointwise
  rfl

theorem z14 (j : Fin 512) : (val_main_v14 (F := Ideal) x0 x1 x2 (ix3 p q j) : EReal)
    = Merge.z (Merge.Weights.of x1 x2 x6 x7 x8 x9 x10 x11 x12) (Merge.Row.of x0 x3 x4 x5 p q) ⟨512 + j.val, by omega⟩ := by
  have hh := h_apply x0 x1 x2 x3 x4 x5 x6 x7 x8 x9 x10 x11 x12 p q
  unfold val_main_v14 val_main_v13
  generalize val_main_v12 (F := Ideal) x0 x1 = u at hh
  pointwise
  simp only [hh]
  rfl

theorem z15 (j : Fin 256) : (val_main_v15 (F := Ideal) x0 x1 x2 (ix3 p q j) : EReal)
    = Merge.z (Merge.Weights.of x1 x2 x6 x7 x8 x9 x10 x11 x12) (Merge.Row.of x0 x3 x4 x5 p q) ⟨3328 + j.val, by omega⟩ := by
  have hh := h_apply x0 x1 x2 x3 x4 x5 x6 x7 x8 x9 x10 x11 x12 p q
  unfold val_main_v15 val_main_v13
  generalize val_main_v12 (F := Ideal) x0 x1 = u at hh
  pointwise
  simp only [hh]
  rfl

theorem z16 (j : Fin 768) : (val_main_v16 (F := Ideal) x0 x1 x2 (ix3 p q j) : EReal)
    = Merge.z (Merge.Weights.of x1 x2 x6 x7 x8 x9 x10 x11 x12) (Merge.Row.of x0 x3 x4 x5 p q) ⟨4876 + j.val, by omega⟩ := by
  have hh := h_apply x0 x1 x2 x3 x4 x5 x6 x7 x8 x9 x10 x11 x12 p q
  unfold val_main_v16 val_main_v13
  generalize val_main_v12 (F := Ideal) x0 x1 = u at hh
  pointwise
  simp only [hh]
  rfl

theorem z17 (j : Fin 3072) : (val_main_v17 (F := Ideal) x0 x1 x2 (ix3 p q j) : EReal)
    = Merge.z (Merge.Weights.of x1 x2 x6 x7 x8 x9 x10 x11 x12) (Merge.Row.of x0 x3 x4 x5 p q) ⟨5644 + j.val, by omega⟩ := by
  have hh := h_apply x0 x1 x2 x3 x4 x5 x6 x7 x8 x9 x10 x11 x12 p q
  unfold val_main_v17 val_main_v13
  generalize val_main_v12 (F := Ideal) x0 x1 = u at hh
  pointwise
  simp only [hh]
  rfl

theorem ga_apply (j : Fin 512) : (val_main_v30 (F := Ideal) x3 (ix3 p q j) : EReal)
    = Merge.ga (Merge.Row.of x0 x3 x4 x5 p q) j := by
  unfold val_main_v30 val_main_v29 val_main_v28 val_main_cst_5 val_main_v27 val_main_v26 val_main_cst_4 val_main_v25 val_main_v24 val_main_v23 val_main_cst_3 val_main_v22 val_main_v21 val_main_v20 val_main_cst_2 val_main_v19 val_main_v18
  pointwise
  rfl

theorem silu14 (j : Fin 512) : (val_main_v42 (F := Ideal) x0 x1 x2 (ix3 p q j) : EReal)
    = Merge.silu (Merge.z (Merge.Weights.of x1 x2 x6 x7 x8 x9 x10 x11 x12) (Merge.Row.of x0 x3 x4 x5 p q) ⟨512 + j.val, by omega⟩) := by
  rw [← z14 x0 x1 x2 x3 x4 x5 x6 x7 x8 x9 x10 x11 x12 p q j]
  unfold val_main_v42 val_main_call0_v5 val_main_call0_v4 val_main_call0_cst_0 val_main_call0_v3 val_main_call0_v2 val_main_call0_cst val_main_call0_v1 val_main_call0_v0
  generalize val_main_v14 (F := Ideal) x0 x1 x2 = u
  pointwise
  rw [gate_neg]
  rfl

theorem silu15 (j : Fin 256) : (val_main_v44 (F := Ideal) x0 x1 x2 (ix3 p q j) : EReal)
    = Merge.silu (Merge.z (Merge.Weights.of x1 x2 x6 x7 x8 x9 x10 x11 x12) (Merge.Row.of x0 x3 x4 x5 p q) ⟨3328 + j.val, by omega⟩) := by
  rw [← z15 x0 x1 x2 x3 x4 x5 x6 x7 x8 x9 x10 x11 x12 p q j]
  unfold val_main_v44 val_main_call1_v5 val_main_call1_v4 val_main_call1_cst_0 val_main_call1_v3 val_main_call1_v2 val_main_call1_cst val_main_call1_v1 val_main_call1_v0
  generalize val_main_v15 (F := Ideal) x0 x1 x2 = u
  pointwise
  rw [gate_neg]
  rfl

theorem silu16 (j : Fin 768) : (val_main_v46 (F := Ideal) x0 x1 x2 (ix3 p q j) : EReal)
    = Merge.silu (Merge.z (Merge.Weights.of x1 x2 x6 x7 x8 x9 x10 x11 x12) (Merge.Row.of x0 x3 x4 x5 p q) ⟨4876 + j.val, by omega⟩) := by
  rw [← z16 x0 x1 x2 x3 x4 x5 x6 x7 x8 x9 x10 x11 x12 p q j]
  unfold val_main_v46 val_main_call2_v5 val_main_call2_v4 val_main_call2_cst_0 val_main_call2_v3 val_main_call2_v2 val_main_call2_cst val_main_call2_v1 val_main_call2_v0
  generalize val_main_v16 (F := Ideal) x0 x1 x2 = u
  pointwise
  rw [gate_neg]
  rfl

theorem glu_apply (j : Fin 512) : (val_main_v41 (F := Ideal) x3 x6 x7 (ix3 p q j) : EReal)
    = Merge.ga (Merge.Row.of x0 x3 x4 x5 p q) j * Merge.gate (∑ k, Merge.ga (Merge.Row.of x0 x3 x4 x5 p q) k * x6 (ix2 k j) + x7 (ix1 j)) := by
  have hg := ga_apply x0 x3 x4 x5 p q
  unfold val_main_v41 val_main_v40 val_main_v39 val_main_cst_7 val_main_v38 val_main_v37 val_main_cst_6 val_main_v36 val_main_v35 val_main_v34 val_main_v33 val_main_v32 val_main_v31
  generalize val_main_v30 (F := Ideal) x3 = u at hg
  pointwise
  simp only [hg, gate_neg]

theorem a_apply (j : Fin 512) : (val_main_v43 (F := Ideal) x0 x1 x2 x3 x6 x7 (ix3 p q j) : EReal) = Merge.a (Merge.Weights.of x1 x2 x6 x7 x8 x9 x10 x11 x12) (Merge.Row.of x0 x3 x4 x5 p q) j := by
  rw [val_main_v43_apply, Ideal.mulf_def, glu_apply x0 x3 x4 x5 x6 x7 p q j, silu14 x0 x1 x2 x3 x4 x5 x6 x7 x8 x9 x10 x11 x12 p q j]
  rfl

theorem b_apply (j : Fin 256) : (val_main_v45 (F := Ideal) x0 x1 x2 x4 (ix3 p q j) : EReal) = Merge.b (Merge.Weights.of x1 x2 x6 x7 x8 x9 x10 x11 x12) (Merge.Row.of x0 x3 x4 x5 p q) j := by
  rw [val_main_v45_apply, Ideal.mulf_def, silu15 x0 x1 x2 x3 x4 x5 x6 x7 x8 x9 x10 x11 x12 p q j]
  rfl

theorem s_apply (j : Fin 768) : (val_main_v47 (F := Ideal) x0 x1 x2 x5 (ix3 p q j) : EReal) = Merge.s (Merge.Weights.of x1 x2 x6 x7 x8 x9 x10 x11 x12) (Merge.Row.of x0 x3 x4 x5 p q) j := by
  rw [val_main_v47_apply, Ideal.mulf_def, silu16 x0 x1 x2 x3 x4 x5 x6 x7 x8 x9 x10 x11 x12 p q j]
  rfl

theorem c_apply (j : Fin 768) : (val_main_v60 (F := Ideal) x0 x1 x2 x5 x8 (ix3 p q j) : EReal) = Merge.c (Merge.Weights.of x1 x2 x6 x7 x8 x9 x10 x11 x12) (Merge.Row.of x0 x3 x4 x5 p q) j := by
  have hs := s_apply x0 x1 x2 x3 x4 x5 x6 x7 x8 x9 x10 x11 x12 p q
  unfold val_main_v60 val_main_v59 val_main_v58 val_main_v57 val_main_v56 val_main_v55 val_main_v54 val_main_v53 val_main_cst_10 val_main_v52 val_main_v51 val_main_cst_9 val_main_v50 val_main_v49 val_main_cst_8 val_main_v48
  generalize val_main_v47 (F := Ideal) x0 x1 x2 x5 = u at hs
  pointwise
  simp only [hs]
  rfl

theorem gate0 (j : Fin 1024) : (val_main_v69 (F := Ideal) x0 x1 x2 (ix3 p q j) : EReal)
    = Merge.gate (Merge.z (Merge.Weights.of x1 x2 x6 x7 x8 x9 x10 x11 x12) (Merge.Row.of x0 x3 x4 x5 p q) ⟨5644 + j.val, by omega⟩) := by
  have hz := z17 x0 x1 x2 x3 x4 x5 x6 x7 x8 x9 x10 x11 x12 p q
  unfold val_main_v69 val_main_v68 val_main_v67 val_main_v66 val_main_v65 val_main_cst_12 val_main_v64 val_main_v63 val_main_cst_11 val_main_v62 val_main_v61
  generalize val_main_v17 (F := Ideal) x0 x1 x2 = u at hz
  pointwise
  rw [gate_neg, hz]

theorem gate1 (j : Fin 1024) : (val_main_v73 (F := Ideal) x0 x1 x2 (ix3 p q j) : EReal)
    = Merge.gate (Merge.z (Merge.Weights.of x1 x2 x6 x7 x8 x9 x10 x11 x12) (Merge.Row.of x0 x3 x4 x5 p q) ⟨6668 + j.val, by omega⟩) := by
  have hz := z17 x0 x1 x2 x3 x4 x5 x6 x7 x8 x9 x10 x11 x12 p q
  unfold val_main_v73 val_main_v72 val_main_v67 val_main_v66 val_main_v65 val_main_cst_12 val_main_v64 val_main_v63 val_main_cst_11 val_main_v62 val_main_v61
  generalize val_main_v17 (F := Ideal) x0 x1 x2 = u at hz
  pointwise
  rw [gate_neg, hz]
  refine congrArg (fun c => Merge.gate (Merge.z _ _ c)) (Fin.ext ?_)
  show 5644 + (1024 + j.val) = 6668 + j.val
  omega

theorem gate2 (j : Fin 1024) : (val_main_v78 (F := Ideal) x0 x1 x2 (ix3 p q j) : EReal)
    = Merge.gate (Merge.z (Merge.Weights.of x1 x2 x6 x7 x8 x9 x10 x11 x12) (Merge.Row.of x0 x3 x4 x5 p q) ⟨7692 + j.val, by omega⟩) := by
  have hz := z17 x0 x1 x2 x3 x4 x5 x6 x7 x8 x9 x10 x11 x12 p q
  unfold val_main_v78 val_main_v77 val_main_v67 val_main_v66 val_main_v65 val_main_cst_12 val_main_v64 val_main_v63 val_main_cst_11 val_main_v62 val_main_v61
  generalize val_main_v17 (F := Ideal) x0 x1 x2 = u at hz
  pointwise
  rw [gate_neg, hz]
  refine congrArg (fun c => Merge.gate (Merge.z _ _ c)) (Fin.ext ?_)
  show 5644 + (2048 + j.val) = 7692 + j.val
  omega

theorem pa_apply (j : Fin 1024) : (val_main_v70 (F := Ideal) x0 x1 x2 x3 x6 x7 x9 (ix3 p q j) : EReal)
    = ∑ k, Merge.a (Merge.Weights.of x1 x2 x6 x7 x8 x9 x10 x11 x12) (Merge.Row.of x0 x3 x4 x5 p q) k * x9 (ix2 k j) := by
  have h := a_apply x0 x1 x2 x3 x4 x5 x6 x7 x8 x9 x10 x11 x12 p q
  unfold val_main_v70
  generalize val_main_v43 (F := Ideal) x0 x1 x2 x3 x6 x7 = u at h
  pointwise
  simp only [h]

theorem pb_apply (j : Fin 1024) : (val_main_v74 (F := Ideal) x0 x1 x2 x4 x10 (ix3 p q j) : EReal)
    = ∑ k, Merge.b (Merge.Weights.of x1 x2 x6 x7 x8 x9 x10 x11 x12) (Merge.Row.of x0 x3 x4 x5 p q) k * x10 (ix2 k j) := by
  have h := b_apply x0 x1 x2 x3 x4 x5 x6 x7 x8 x9 x10 x11 x12 p q
  unfold val_main_v74
  generalize val_main_v45 (F := Ideal) x0 x1 x2 x4 = u at h
  pointwise
  simp only [h]

theorem pc_apply (j : Fin 1024) : (val_main_v79 (F := Ideal) x0 x1 x2 x5 x8 x11 (ix3 p q j) : EReal)
    = ∑ k, Merge.c (Merge.Weights.of x1 x2 x6 x7 x8 x9 x10 x11 x12) (Merge.Row.of x0 x3 x4 x5 p q) k * x11 (ix2 k j) := by
  have h := c_apply x0 x1 x2 x3 x4 x5 x6 x7 x8 x9 x10 x11 x12 p q
  unfold val_main_v79
  generalize val_main_v60 (F := Ideal) x0 x1 x2 x5 x8 = u at h
  pointwise
  simp only [h]

theorem mix_apply (j : Fin 1024) : (val_main_v81 (F := Ideal) x0 x1 x2 x3 x4 x5 x6 x7 x8 x9 x10 x11 (ix3 p q j) : EReal) = Merge.mix (Merge.Weights.of x1 x2 x6 x7 x8 x9 x10 x11 x12) (Merge.Row.of x0 x3 x4 x5 p q) j := by
  rw [val_main_v81_apply, val_main_v80_apply, val_main_v76_apply, val_main_v75_apply, val_main_v71_apply]
  simp only [Ideal.addf_def, Ideal.mulf_def]
  rw [gate0 x0 x1 x2 x3 x4 x5 x6 x7 x8 x9 x10 x11 x12 p q j, gate1 x0 x1 x2 x3 x4 x5 x6 x7 x8 x9 x10 x11 x12 p q j, gate2 x0 x1 x2 x3 x4 x5 x6 x7 x8 x9 x10 x11 x12 p q j, pa_apply x0 x1 x2 x3 x4 x5 x6 x7 x8 x9 x10 x11 x12 p q j, pb_apply x0 x1 x2 x3 x4 x5 x6 x7 x8 x9 x10 x11 x12 p q j, pc_apply x0 x1 x2 x3 x4 x5 x6 x7 x8 x9 x10 x11 x12 p q j]
  rfl

theorem dot_apply (j : Fin 1024) : (val_main_v82 (F := Ideal) x0 x1 x2 x3 x4 x5 x6 x7 x8 x9 x10 x11 x12 (ix3 p q j) : EReal)
    = ∑ k, Merge.mix (Merge.Weights.of x1 x2 x6 x7 x8 x9 x10 x11 x12) (Merge.Row.of x0 x3 x4 x5 p q) k * x12 (ix2 k j) := by
  have h := mix_apply x0 x1 x2 x3 x4 x5 x6 x7 x8 x9 x10 x11 x12 p q
  unfold val_main_v82
  generalize val_main_v81 (F := Ideal) x0 x1 x2 x3 x4 x5 x6 x7 x8 x9 x10 x11 = u at h
  pointwise
  simp only [h]

theorem out_apply (j : Fin 1024) : (val_main_v83 (F := Ideal) x0 x1 x2 x3 x4 x5 x6 x7 x8 x9 x10 x11 x12 (ix3 p q j) : EReal) = Merge.out (Merge.Weights.of x1 x2 x6 x7 x8 x9 x10 x11 x12) (Merge.Row.of x0 x3 x4 x5 p q) j := by
  rw [val_main_v83_apply, Ideal.addf_def, dot_apply x0 x1 x2 x3 x4 x5 x6 x7 x8 x9 x10 x11 x12 p q j]
  rfl

end

/-- The reference's array is the merge's. -/
theorem merged (x0 : FVec Ideal S8x8192x1024 .f32) (x1 : FVec Ideal S1024 .f32) (x2 : FVec Ideal S1024x8716 .f32)
    (x3 : FVec Ideal S8x8192x512 .f32) (x4 : FVec Ideal S8x8192x256 .f32) (x5 : FVec Ideal S8x8192x768 .f32)
    (x6 : FVec Ideal S512x512 .f32) (x7 : FVec Ideal S512 .f32) (x8 : FVec Ideal S768 .f32) (x9 : FVec Ideal S512x1024 .f32)
    (x10 : FVec Ideal S256x1024 .f32) (x11 : FVec Ideal S768x1024 .f32) (x12 : FVec Ideal S1024x1024 .f32) :
    val_main_v84 (F := Ideal) x0 x1 x2 x3 x4 x5 x6 x7 x8 x9 x10 x11 x12 = Merge.result (Merge.Weights.of x1 x2 x6 x7 x8 x9 x10 x11 x12) (Merge.Row.of x0 x3 x4 x5) := by
  funext y
  rw [eq_ix2 y]
  unfold val_main_v84
  have h := out_apply x0 x1 x2 x3 x4 x5 x6 x7 x8 x9 x10 x11 x12
  generalize val_main_v83 (F := Ideal) x0 x1 x2 x3 x4 x5 x6 x7 x8 x9 x10 x11 x12 = u at h
  pointwise
  exact h _ _ _

end Cert.Reference2Ideal.Read
-- ==== Proof.InprojSpec.lean ====
module

public import proofs.«01_k».proof.Proof.MergeSpec
public import proofs.«01_k».proof.Proof.Real

/-! One row of the input projection: the normalised row times the layer's first matrix, with the queries and the keys
normalised head by head. -/

@[expose] public section

noncomputable section

namespace Inproj

open Idealize.ShloMosaic

/-- The weights: the row's gain, the matrix, the queries' and the keys' gains. -/
structure Weights where
  nw : Fin 1024 → EReal
  win : Fin 1024 → Fin 8716 → EReal
  qw : Fin 64 → EReal
  kw : Fin 64 → EReal

/-- The weights' arrays read at their coordinates. -/
def Weights.of (nw : FVec Ideal ⟨1, ![1024]⟩ .f32) (win : FVec Ideal ⟨2, ![1024, 8716]⟩ .f32) (qw kw : FVec Ideal ⟨1, ![64]⟩ .f32) :
    Weights where
  nw j := nw (ix1 j)
  win k j := win (ix2 k j)
  qw j := qw (ix1 j)
  kw j := kw (ix1 j)

/-- The row of a sequence's position. -/
def row (x : FVec Ideal ⟨3, ![8, 8192, 1024]⟩ .f32) (p : Fin 8) (q : Fin 8192) (j : Fin 1024) : EReal := x (ix3 p q j)

def sixtyFour : EReal := Ideal.ofBits .f32 0x42800000#32

/-- The factor of the queries: the inverse root of a head's width, in base two. -/
def factor : EReal := Ideal.ofBits .f32 0x3E38AA3B#32

variable (w : Weights) (x : Fin 1024 → EReal)

/-- The normalised row. -/
def h (j : Fin 1024) : EReal := x j * Merge.scale (Ideal.ofBits .f32 0x44800000#32) x * w.nw j

/-- The projected row. -/
def z (c : Fin 8716) : EReal := ∑ k, h w x k * w.win k c

/-- Twelve heads of the projected row from a column on, each normalised over its sixty-four entries. -/
def normed (o : ℕ) (ho : o + 768 ≤ 8716) (j : Fin 768) : EReal :=
  z w x ⟨o + j.val, by omega⟩
    * Merge.scale sixtyFour (fun d : Fin 64 => z w x ⟨o + (j.val / 64 * 64 + d.val), by omega⟩)

def u (j : Fin 512) : EReal := z w x ⟨j.val, by omega⟩

def q (j : Fin 768) : EReal := normed w x 1024 (by omega) j * w.qw ⟨j.val % 64, by omega⟩ * factor

def k (j : Fin 768) : EReal := normed w x 1792 (by omega) j * w.kw ⟨j.val % 64, by omega⟩

def v (j : Fin 768) : EReal := z w x ⟨2560 + j.val, by omega⟩

def d (j : Fin 1292) : EReal := z w x ⟨3584 + j.val, by omega⟩

/-- A result's array: one of the rows above, at every position of every sequence. -/
def result {n : ℕ} (f : Weights → (Fin 1024 → EReal) → Fin n → EReal) (w : Weights) (x : FVec Ideal ⟨3, ![8, 8192, 1024]⟩ .f32) :
    FVec Ideal ⟨3, ![8, 8192, n]⟩ .f32 := fun i => f w (row x (i 0) (i 1)) (i 2)

theorem sixtyFour_eq : sixtyFour = ((64 : ℝ) : EReal) := by
  simp [sixtyFour, Ideal.ofBits, Ideal.ieee]
  rw [← EReal.coe_mul]
  norm_num

/-- The table that averages over blocks of sixty-four: one sixty-fourth inside a block, zero outside. -/
def table (a b : Fin 256) : EReal := Ideal.div (if a.val / 64 = b.val / 64 then 1 else 0) sixtyFour

/-- A row times the table is the mean over the column's block. -/
theorem mean (f : Fin 256 → EReal) (c : Fin 256) :
    ∑ a, f a * table a c = Ideal.div (∑ e : Fin 64, f ⟨c.val / 64 * 64 + e.val, by omega⟩) sixtyFour := by
  have hc : c.val / 64 < 4 := by omega
  unfold table
  rw [sixtyFour_eq]
  simp only [Ideal.div_coe (by norm_num : (64 : ℝ) ≠ 0)]
  rw [mul_comm (Finset.sum _ _), Ssd.mul_sum _ _ (by norm_num)]
  rw [← Equiv.sum_comp (finProdFinEquiv (m := 4) (n := 64)) (fun a : Fin 256 => f a * ((if a.val / 64 = c.val / 64 then (1 : EReal) else 0) * ((1 / 64 : ℝ) : EReal)))]
  rw [Fintype.sum_prod_type, Finset.sum_eq_single (⟨c.val / 64, hc⟩ : Fin 4)]
  · refine Finset.sum_congr rfl fun e _ => ?_
    have e1 : (finProdFinEquiv ((⟨c.val / 64, hc⟩ : Fin 4), e) : Fin (4 * 64)) = (⟨c.val / 64 * 64 + e.val, by omega⟩ : Fin 256) :=
      Fin.ext (by show e.val + 64 * (c.val / 64) = c.val / 64 * 64 + e.val; omega)
    rw [e1, if_pos (by show (c.val / 64 * 64 + e.val) / 64 = c.val / 64; omega), one_mul, mul_comm]
  · intro b _ hb
    refine Finset.sum_eq_zero fun e _ => ?_
    rw [if_neg, zero_mul, mul_zero]
    intro hh
    apply hb
    refine Fin.ext ?_
    have : (e.val + 64 * b.val) / 64 = c.val / 64 := hh
    show b.val = c.val / 64
    omega
  · intro hn
    exact absurd (Finset.mem_univ _) hn

/-- The same, the row in two halves. -/
theorem mean_halves (f : Fin 256 → EReal) (c : Fin 256) :
    ∑ a : Fin 128, f ⟨a.val, by omega⟩ * table ⟨a.val, by omega⟩ c + ∑ a : Fin 128, f ⟨128 + a.val, by omega⟩ * table ⟨128 + a.val, by omega⟩ c
      = Ideal.div (∑ e : Fin 64, f ⟨c.val / 64 * 64 + e.val, by omega⟩) sixtyFour := by
  rw [← mean]
  exact (Fin.sum_univ_add (fun a : Fin (128 + 128) => f a * table a c)).symm

end Inproj
-- ==== Proof.InprojHost.lean ====
module

public import proofs.«01_k».proof.Proof.Gen.Kernel3Ideal.Frame
public import proofs.«01_k».proof.Proof.InprojSpec
public import Idealize.ShloMosaic.Lib.Pipeline.ValueKit
public import Idealize.ShloMosaic.Lib.Pipeline.Covers

/-! The arrays the projection reads, as the host leaves them, in terms of its arguments. -/

@[expose] public section

noncomputable section

namespace Cert.Kernel3Ideal.Hand

open Idealize.ShloMosaic Cert.Kernel3Ideal Cert.Kernel3Ideal.Gen

variable (m : (ℓ : Loc nD τ sig) → Buf (Elt Ideal) ℓ)

/-- The program's weights. -/
def weights (c : Dev nD) : Inproj.Weights :=
  Inproj.Weights.of (m ((c.tc : Thread nD τ).loc main_arg1)) (m ((c.tc : Thread nD τ).loc main_arg2))
    (m ((c.tc : Thread nD τ).loc main_arg3)) (m ((c.tc : Thread nD τ).loc main_arg4))

/-- The program's input. -/
def input (c : Dev nD) : FVec Ideal S8x8192x1024 .f32 := m ((c.tc : Thread nD τ).loc main_arg0)

theorem x_apply (c : Dev nD) (R : Fin 65536) (j : Fin 1024) :
    (V m c main_v26 : FVec Ideal S65536x1024 .f32) (ix2 R j)
      = Inproj.row (input m c) ⟨R.val / 8192, by omega⟩ ⟨R.val % 8192, by omega⟩ j := by
  show _ = (m ((c.tc : Thread nD τ).loc main_arg0)) (ix3 ⟨R.val / 8192, by omega⟩ ⟨R.val % 8192, by omega⟩ j)
  simp only [V, V0, hostOps0, List.flatten_cons, List.flatten_nil, List.append_nil]
  entry_read
  pointwise

theorem nw_apply (c : Dev nD) (j : Fin 1024) :
    (V m c main_v27 : FVec Ideal S1x1024 .f32) (ix2 0 j) = (weights m c).nw j := by
  show _ = (m ((c.tc : Thread nD τ).loc main_arg1)) (ix1 j)
  simp only [V, V0, hostOps0, List.flatten_cons, List.flatten_nil, List.append_nil]
  entry_read
  pointwise

theorem qw_apply (c : Dev nD) (j : Fin 768) :
    (V m c main_v28 : FVec Ideal S1x768 .f32) (ix2 0 j) = (weights m c).qw ⟨j.val % 64, by omega⟩ * Inproj.factor := by
  show _ = HMul.hMul (α := EReal) (β := EReal) (γ := EReal) (m ((c.tc : Thread nD τ).loc main_arg3) (ix1 ⟨j.val % 64, by omega⟩))
    (Ideal.ofBits .f32 0x3E38AA3B#32)
  simp only [V, V0, hostOps0, List.flatten_cons, List.flatten_nil, List.append_nil]
  entry_read
  pointwise

theorem kw_apply (c : Dev nD) (j : Fin 768) :
    (V m c main_v29 : FVec Ideal S1x768 .f32) (ix2 0 j) = (weights m c).kw ⟨j.val % 64, by omega⟩ := by
  show _ = (m ((c.tc : Thread nD τ).loc main_arg4)) (ix1 ⟨j.val % 64, by omega⟩)
  simp only [V, V0, hostOps0, List.flatten_cons, List.flatten_nil, List.append_nil]
  entry_read
  pointwise

/-- The table of blocks of sixty-four. -/
theorem table_apply (c : Dev nD) (a b : Fin 256) :
    (V m c main_v25 : FVec Ideal S256x256 .bf16) (ix2 a b) = Inproj.table a b := by
  simp only [V, V0, hostOps0, List.flatten_cons, List.flatten_nil, List.append_nil]
  entry_read
  pointwise
  have key : ∀ p q : Fin 4, IntOp.cmpi .eq (BitVec.ofNat 32 p.val) (BitVec.ofNat 32 q.val) = if p = q then 1#1 else 0#1 := by decide
  refine congrArg (Ideal.div · (Ideal.ofBits .f32 1115684864#32)) ?_
  have h := key ⟨a.val / 64, by omega⟩ ⟨b.val / 64, by omega⟩
  simp only [Fin.mk.injEq] at h
  rw [h]
  by_cases e : a.val / 64 = b.val / 64
  · rw [if_pos e, if_pos e]
    show ((((1#1 : BitVec 1).toNat : ℝ) : EReal)) = 1
    norm_num
  · rw [if_neg e, if_neg e]
    show ((((0#1 : BitVec 1).toNat : ℝ) : EReal)) = 0
    norm_num

set_option maxRecDepth 100000 in
/-- The kept columns of the layer's first matrix, joined. -/
theorem joined (c : Dev nD) : (V m c main_v5 : FVec Ideal S1024x4224 .bf16)
    = concatenate S1024x4224 1 [⟨S1024x512, (V m c main_v1 : FVec Ideal S1024x512 .bf16)⟩,
        ⟨S1024x2304, (V m c main_v2 : FVec Ideal S1024x2304 .bf16)⟩, ⟨S1024x1292, (V m c main_v3 : FVec Ideal S1024x1292 .bf16)⟩,
        ⟨S1024x116, (V m c main_v4 : FVec Ideal S1024x116 .bf16)⟩]
        concatenates_S1024x512_S1024x2304_S1024x1292_S1024x116_S1024x4224_d1 := by
  simp only [V, V0, hostOps0, List.flatten_cons, List.flatten_nil, List.append_nil]
  after_results_simp
  rfl

/-- Four matrices joined by columns, read at a column. -/
theorem joined_apply (u : FVec Ideal S1024x512 .bf16) (v : FVec Ideal S1024x2304 .bf16) (x : FVec Ideal S1024x1292 .bf16)
    (y : FVec Ideal S1024x116 .bf16) (k : Fin 1024) (j : Fin 4224) :
    concatenate S1024x4224 1 [⟨S1024x512, u⟩, ⟨S1024x2304, v⟩, ⟨S1024x1292, x⟩, ⟨S1024x116, y⟩]
        concatenates_S1024x512_S1024x2304_S1024x1292_S1024x116_S1024x4224_d1 (ix2 k j)
      = if h : j.val < 512 then u (ix2 k ⟨j.val, h⟩)
        else if h' : j.val - 512 < 2304 then v (ix2 k ⟨j.val - 512, h'⟩)
        else if h'' : j.val - 512 - 2304 < 1292 then x (ix2 k ⟨j.val - 512 - 2304, h''⟩)
        else y (ix2 k ⟨j.val - 512 - 2304 - 1292, by omega⟩) := by
  pointwise

theorem va_apply (c : Dev nD) (k : Fin 1024) (j : Fin 512) :
    (V m c main_v1 : FVec Ideal S1024x512 .bf16) (ix2 k j) = (weights m c).win k ⟨j.val, by omega⟩ := by
  show _ = (m ((c.tc : Thread nD τ).loc main_arg2)) (ix2 k ⟨j.val, by omega⟩)
  simp only [V, V0, hostOps0, List.flatten_cons, List.flatten_nil, List.append_nil]
  entry_read
  pointwise

theorem vb_apply (c : Dev nD) (k : Fin 1024) (j : Fin 2304) :
    (V m c main_v2 : FVec Ideal S1024x2304 .bf16) (ix2 k j) = (weights m c).win k ⟨1024 + j.val, by omega⟩ := by
  show _ = (m ((c.tc : Thread nD τ).loc main_arg2)) (ix2 k ⟨1024 + j.val, by omega⟩)
  simp only [V, V0, hostOps0, List.flatten_cons, List.flatten_nil, List.append_nil]
  entry_read
  pointwise

theorem vc_apply (c : Dev nD) (k : Fin 1024) (j : Fin 1292) :
    (V m c main_v3 : FVec Ideal S1024x1292 .bf16) (ix2 k j) = (weights m c).win k ⟨3584 + j.val, by omega⟩ := by
  show _ = (m ((c.tc : Thread nD τ).loc main_arg2)) (ix2 k ⟨3584 + j.val, by omega⟩)
  simp only [V, V0, hostOps0, List.flatten_cons, List.flatten_nil, List.append_nil]
  entry_read
  pointwise

/-- The joined matrix. -/
def joinedArray (c : Dev nD) : FVec Ideal S1024x4224 .bf16 := V m c main_v5

theorem first_apply (c : Dev nD) (k : Fin 1024) (j : ℕ) (hj : j < 512) :
    joinedArray m c (ix2 k ⟨j, by omega⟩) = (weights m c).win k ⟨j, by omega⟩ := by
  unfold joinedArray
  rw [joined, joined_apply]
  rw [dif_pos hj]
  exact va_apply m c k _

theorem second_apply (c : Dev nD) (k : Fin 1024) (j : ℕ) (h0 : 512 ≤ j) (hj : j < 2816) :
    joinedArray m c (ix2 k ⟨j, by omega⟩) = (weights m c).win k ⟨512 + j, by omega⟩ := by
  unfold joinedArray
  rw [joined, joined_apply]
  rw [dif_neg (by show ¬ j < 512; omega), dif_pos (by show j - 512 < 2304; omega)]
  refine (vb_apply m c k _).trans (congrArg ((weights m c).win k) (Fin.ext ?_))
  show 1024 + (j - 512) = 512 + j
  omega

theorem third_apply (c : Dev nD) (k : Fin 1024) (j : ℕ) (h0 : 2816 ≤ j) (hj : j < 4108) :
    joinedArray m c (ix2 k ⟨j, by omega⟩) = (weights m c).win k ⟨768 + j, by omega⟩ := by
  unfold joinedArray
  rw [joined, joined_apply]
  rw [dif_neg (by show ¬ j < 512; omega), dif_neg (by show ¬ j - 512 < 2304; omega), dif_pos (by show j - 512 - 2304 < 1292; omega)]
  refine (vc_apply m c k _).trans (congrArg ((weights m c).win k) (Fin.ext ?_))
  show 3584 + (j - 512 - 2304) = 768 + j
  omega

end Cert.Kernel3Ideal.Hand
-- ==== Proof.InprojCells.lean ====
module

public import proofs.«01_k».proof.Proof.Gen.Kernel3Ideal.Skeleton
public import proofs.«01_k».proof.Proof.InprojSpec

/-! The projection's vector expressions read at an entry. -/

@[expose] public section

noncomputable section

namespace Cert.Kernel3Ideal.Hand

open Idealize.ShloMosaic Cert.Kernel3Ideal Cert.Kernel3Ideal.Gen

variable {w : Inproj.Weights} {r : Fin 1024 → EReal} {i : Fin 512}

theorem norm_apply (x : FVec Ideal S512x1024 .f32) (n : FVec Ideal S1x1024 .f32)
    (hx : ∀ j, x (ix2 i j) = r j) (hn : ∀ j, n (ix2 0 j) = w.nw j) (j : Fin 1024) :
    k0_pay4 (F := Ideal) x n (ix2 i j) = Inproj.h w r j := by
  unfold k0_pay4
  pointwise
  simp only [hx, hn]
  rfl

section

variable (H : FVec Ideal S512x1024 .bf16) (hH : ∀ k, H (ix2 i k) = Inproj.h w r k)
include hH

/-- A block of the matrix's columns, from one of the full matrix on. -/
theorem lo_apply (W : FVec Ideal S1024x256 .bf16) (o : ℕ) (ho : o + 256 ≤ 8716)
    (hW : ∀ k (j : Fin 256), W (ix2 k j) = w.win k ⟨o + j.val, by omega⟩) (l : Fin 128) :
    k0_pay12 (F := Ideal) H W (ix3 0 i l) = Inproj.z w r ⟨o + l.val, by omega⟩ := by
  unfold k0_pay12 k0_pay11
  pointwise
  simp only [hH, hW]
  rfl

theorem hi_apply (W : FVec Ideal S1024x256 .bf16) (o : ℕ) (ho : o + 256 ≤ 8716)
    (hW : ∀ k (j : Fin 256), W (ix2 k j) = w.win k ⟨o + j.val, by omega⟩) (l : Fin 128) :
    k0_pay13 (F := Ideal) H W (ix3 0 i l) = Inproj.z w r ⟨o + (128 + l.val), by omega⟩ := by
  unfold k0_pay13 k0_pay11
  pointwise
  simp only [hH, hW]
  rfl

theorem wide_apply (W : FVec Ideal S1024x256 .bf16) (l : Fin 256) :
    k0_pay40 (F := Ideal) H W (ix2 i l) = ∑ k, Inproj.h w r k * W (ix2 k l) := by
  unfold k0_pay40
  pointwise
  simp only [hH]

theorem last_apply (W : FVec Ideal S1024x128 .bf16) (l : Fin 128) :
    k0_pay45 (F := Ideal) H W (ix2 i l) = ∑ k, Inproj.h w r k * W (ix2 k l) := by
  unfold k0_pay45
  pointwise
  simp only [hH]

end

section

variable (T : Fin 256 → EReal) (O : FVec Ideal S256x256 .bf16) (hO : ∀ a b, O (ix2 a b) = Inproj.table a b)
  (t0 t1 : FVec Ideal S1x512x128 .f32)
  (h0 : ∀ l : Fin 128, t0 (ix3 0 i l) = T ⟨l.val, by omega⟩) (h1 : ∀ l : Fin 128, t1 (ix3 0 i l) = T ⟨128 + l.val, by omega⟩)
  (g : FVec Ideal S1x256 .f32)
include hO h0 h1

/-- Two lane tiles normalised over blocks of sixty-four lanes. -/
theorem pair_apply (c : Fin 256) : k0_pay1 (F := Ideal) (k0_pay46 (F := Ideal) O) t0 t1 g (ix2 i c)
    = T c * Merge.scale Inproj.sixtyFour (fun e : Fin 64 => T ⟨c.val / 64 * 64 + e.val, by omega⟩) * g (ix2 0 c) := by
  have hT : ∀ c : Fin 256, (if h : c.val < 128 then t0 (ix3 0 i ⟨c.val, h⟩) else t1 (ix3 0 i ⟨c.val - 128, by omega⟩)) = T c := by
    intro c
    by_cases hc : c.val < 128
    · rw [dif_pos hc]
      exact h0 _
    · rw [dif_neg hc]
      refine (h1 _).trans (congrArg T (Fin.ext ?_))
      show 128 + (c.val - 128) = c.val
      omega
  unfold k0_pay1 k0_pay46
  pointwise
  simp only [hT]
  simp only [hO, h0, h1]
  rw [Inproj.mean_halves (fun a => T a * T a)]
  rfl

theorem pairLo_apply (l : Fin 128) : k0_pay2 (F := Ideal) (k0_pay46 (F := Ideal) O) t0 t1 g (ix3 0 i l)
    = T ⟨l.val, by omega⟩ * Merge.scale Inproj.sixtyFour (fun e : Fin 64 => T ⟨l.val / 64 * 64 + e.val, by omega⟩)
      * g (ix2 0 ⟨l.val, by omega⟩) := by
  have h := pair_apply T O hO t0 t1 h0 h1 g
  unfold k0_pay2
  generalize k0_pay1 (F := Ideal) (k0_pay46 (F := Ideal) O) t0 t1 g = u at h
  pointwise
  exact h _

theorem pairHi_apply (l : Fin 128) : k0_pay3 (F := Ideal) (k0_pay46 (F := Ideal) O) t0 t1 g (ix3 0 i l)
    = T ⟨128 + l.val, by omega⟩ * Merge.scale Inproj.sixtyFour (fun e : Fin 64 => T ⟨(128 + l.val) / 64 * 64 + e.val, by omega⟩)
      * g (ix2 0 ⟨128 + l.val, by omega⟩) := by
  have h := pair_apply T O hO t0 t1 h0 h1 g
  unfold k0_pay3
  generalize k0_pay1 (F := Ideal) (k0_pay46 (F := Ideal) O) t0 t1 g = u at h
  pointwise
  exact h _

end

section

variable (H : FVec Ideal S512x1024 .bf16) (hH : ∀ k, H (ix2 i k) = Inproj.h w r k) (O : FVec Ideal S256x256 .bf16)
  (hO : ∀ a b, O (ix2 a b) = Inproj.table a b) (W : FVec Ideal S1024x256 .bf16) (g : FVec Ideal S1x256 .f32)
  (o : ℕ) (ho : o + 768 ≤ 8716) (b : ℕ) (hb : b < 3)
include hH hO

/-- Four heads, the first two and the last two, normalised and scaled by the gain. -/
theorem headsLo_apply (hW : ∀ k (j : Fin 256), W (ix2 k j) = w.win k ⟨o + 256 * b + j.val, by omega⟩) (l : Fin 128) :
    k0_pay2 (F := Ideal) (k0_pay46 (F := Ideal) O) (k0_pay12 (F := Ideal) H W) (k0_pay13 (F := Ideal) H W) g (ix3 0 i l)
      = Inproj.normed w r o ho ⟨256 * b + l.val, by omega⟩ * g (ix2 0 ⟨l.val, by omega⟩) := by
  have h0 := lo_apply H hH W (o + 256 * b) (by omega) hW
  have h1 := hi_apply H hH W (o + 256 * b) (by omega) hW
  have e1 : Inproj.z w r ⟨o + 256 * b + l.val, by omega⟩ = Inproj.z w r ⟨o + (256 * b + l.val), by omega⟩ :=
    congrArg (Inproj.z w r) (Fin.ext (by show o + 256 * b + l.val = o + (256 * b + l.val); omega))
  have e2 : (fun e : Fin 64 => Inproj.z w r ⟨o + 256 * b + (l.val / 64 * 64 + e.val), by omega⟩)
      = fun e : Fin 64 => Inproj.z w r ⟨o + ((256 * b + l.val) / 64 * 64 + e.val), by omega⟩ :=
    funext fun e => congrArg (Inproj.z w r) (Fin.ext (by
      show o + 256 * b + (l.val / 64 * 64 + e.val) = o + ((256 * b + l.val) / 64 * 64 + e.val); omega))
  have h := pairLo_apply (fun j : Fin 256 => Inproj.z w r ⟨o + 256 * b + j.val, by omega⟩) O hO _ _ h0 h1 g l
  dsimp only at h
  rw [e1, e2] at h
  exact h

theorem headsHi_apply (hW : ∀ k (j : Fin 256), W (ix2 k j) = w.win k ⟨o + 256 * b + j.val, by omega⟩) (l : Fin 128) :
    k0_pay3 (F := Ideal) (k0_pay46 (F := Ideal) O) (k0_pay12 (F := Ideal) H W) (k0_pay13 (F := Ideal) H W) g (ix3 0 i l)
      = Inproj.normed w r o ho ⟨256 * b + (128 + l.val), by omega⟩ * g (ix2 0 ⟨128 + l.val, by omega⟩) := by
  have h0 := lo_apply H hH W (o + 256 * b) (by omega) hW
  have h1 := hi_apply H hH W (o + 256 * b) (by omega) hW
  have e1 : Inproj.z w r ⟨o + 256 * b + (128 + l.val), by omega⟩ = Inproj.z w r ⟨o + (256 * b + (128 + l.val)), by omega⟩ :=
    congrArg (Inproj.z w r) (Fin.ext (by show o + 256 * b + (128 + l.val) = o + (256 * b + (128 + l.val)); omega))
  have e2 : (fun e : Fin 64 => Inproj.z w r ⟨o + 256 * b + ((128 + l.val) / 64 * 64 + e.val), by omega⟩)
      = fun e : Fin 64 => Inproj.z w r ⟨o + ((256 * b + (128 + l.val)) / 64 * 64 + e.val), by omega⟩ :=
    funext fun e => congrArg (Inproj.z w r) (Fin.ext (by
      show o + 256 * b + ((128 + l.val) / 64 * 64 + e.val) = o + ((256 * b + (128 + l.val)) / 64 * 64 + e.val); omega))
  have h := pairHi_apply (fun j : Fin 256 => Inproj.z w r ⟨o + 256 * b + j.val, by omega⟩) O hO _ _ h0 h1 g l
  dsimp only at h
  rw [e1, e2] at h
  exact h

end

end Cert.Kernel3Ideal.Hand
-- ==== Proof.InprojBlocks.lean ====
module

public import proofs.«01_k».proof.Proof.InprojHost
public import proofs.«01_k».proof.Proof.InprojCells

/-! The projection's blocks: each window's block in terms of the array behind it, and the rectangles loaded from it. -/

@[expose] public section

noncomputable section

namespace Cert.Kernel3Ideal.Hand

open Idealize.ShloMosaic Cert.Kernel3Ideal Cert.Kernel3Ideal.Gen

variable (m : (ℓ : Loc nD τ sig) → Buf (Elt Ideal) ℓ)

theorem emb1 (t : Fin cfg0.N) (y) : ((cfg0.win 1).blk t).view.emb y = y := by
  have h : (win0_1.index t 0 : ℕ) = 0 ∧ (win0_1.index t 1 : ℕ) = 0 := ⟨rfl, rfl⟩
  blk_ext [h]

theorem iblk1 (c : Dev nD) (t : Fin cfg0.N) (y) : iblk m c 1 t y = V m c main_v27 y := by
  unfold iblk
  exact congrArg (V m c main_v27) (emb1 t y)

theorem emb2 (t : Fin cfg0.N) (y) : ((cfg0.win 2).blk t).view.emb y = y := by
  have h : (win0_2.index t 0 : ℕ) = 0 ∧ (win0_2.index t 1 : ℕ) = 0 := ⟨rfl, rfl⟩
  blk_ext [h]

set_option maxRecDepth 10000 in
theorem iblk2 (c : Dev nD) (t : Fin cfg0.N) (y) : iblk m c 2 t y = joinedArray m c y := by
  unfold iblk
  exact congrArg (V m c main_v5) (emb2 t y)

theorem emb3 (t : Fin cfg0.N) (y) : ((cfg0.win 3).blk t).view.emb y = y := by
  have h : (win0_3.index t 0 : ℕ) = 0 ∧ (win0_3.index t 1 : ℕ) = 0 := ⟨rfl, rfl⟩
  blk_ext [h]

theorem iblk3 (c : Dev nD) (t : Fin cfg0.N) (y) : iblk m c 3 t y = V m c main_v28 y := by
  unfold iblk
  exact congrArg (V m c main_v28) (emb3 t y)

theorem emb4 (t : Fin cfg0.N) (y) : ((cfg0.win 4).blk t).view.emb y = y := by
  have h : (win0_4.index t 0 : ℕ) = 0 ∧ (win0_4.index t 1 : ℕ) = 0 := ⟨rfl, rfl⟩
  blk_ext [h]

theorem iblk4 (c : Dev nD) (t : Fin cfg0.N) (y) : iblk m c 4 t y = V m c main_v29 y := by
  unfold iblk
  exact congrArg (V m c main_v29) (emb4 t y)

theorem emb5 (t : Fin cfg0.N) (y) : ((cfg0.win 5).blk t).view.emb y = y := by
  have h : (win0_5.index t 0 : ℕ) = 0 ∧ (win0_5.index t 1 : ℕ) = 0 := ⟨rfl, rfl⟩
  blk_ext [h]

theorem iblk5 (c : Dev nD) (t : Fin cfg0.N) (y) : iblk m c 5 t y = V m c main_v25 y := by
  unfold iblk
  exact congrArg (V m c main_v25) (emb5 t y)

theorem idx0 : ∀ t : Fin cfg0.N, (win0_0.index t 0 : ℕ) = t.val ∧ (win0_0.index t 1 : ℕ) = 0 := by
  decide +kernel

theorem idx6 : ∀ t : Fin cfg0.N, (win0_6.index t 0 : ℕ) = 0 ∧ (win0_6.index t 1 : ℕ) = (t.val % 16 / 2 * 8 + t.val / 16) * 2 + t.val % 2
    ∧ (win0_6.index t 2 : ℕ) = 0 := by
  decide +kernel

theorem idx7 : ∀ t : Fin cfg0.N, (win0_7.index t 0 : ℕ) = 0 ∧ (win0_7.index t 1 : ℕ) = t.val ∧ (win0_7.index t 2 : ℕ) = 0 := by
  decide +kernel

theorem idx8 : ∀ t : Fin cfg0.N, (win0_8.index t 0 : ℕ) = 0 ∧ (win0_8.index t 1 : ℕ) = t.val ∧ (win0_8.index t 2 : ℕ) = 0 := by
  decide +kernel

theorem idx9 : ∀ t : Fin cfg0.N, (win0_9.index t 0 : ℕ) = 0 ∧ (win0_9.index t 1 : ℕ) = t.val ∧ (win0_9.index t 2 : ℕ) = 0 := by
  decide +kernel

theorem idx10 : ∀ t : Fin cfg0.N, (win0_10.index t 0 : ℕ) = t.val ∧ (win0_10.index t 1 : ℕ) = 0 := by
  decide +kernel

theorem iblk0 (c : Dev nD) (t : Fin cfg0.N) (i : Fin 512) (j : Fin 1024) :
    iblk m c 0 t (ix2 i j) = V m c main_v26 (ix2 ⟨512 * t.val + i.val, by have h := t.isLt; change t.val < 128 at h; omega⟩ j) := by
  unfold iblk
  refine congrArg (V m c main_v26) ?_
  blk_ext [idx0 t]

/-- A band of columns of a matrix with a thousand rows. -/
theorem ld_columns (s : ℕ) (x : Vec Ideal S1024x4224 .bf16) (o : ℕ)
    (inb : ∀ a, (![0, o] : Fin 2 → ℕ) a + (![1024, s] : Fin 2 → ℕ) a ≤ S1024x4224.size a) (ho : o + s ≤ 4224) (k : Fin 1024) (j : Fin s) :
    View.ld (Val := Elt Ideal) (e' := .bf16) x (Rect.unit (s := S1024x4224) ![0, o] ![1024, s] inb) (ix2 k j : (⟨2, ![1024, s]⟩ : Shape).Idx)
      = x (ix2 k ⟨o + j.val, by omega⟩) := by
  refine congrArg x (funext fun a => ?_)
  match a with
  | ⟨0, _⟩ => exact Fin.ext (by show 0 + 1 * k.val = k.val; omega)
  | ⟨1, _⟩ => exact Fin.ext (by show o + 1 * j.val = o + j.val; omega)

/-- A band of a row. -/
theorem ld_lanes (x : Vec Ideal S1x768 .f32) (o : ℕ)
    (inb : ∀ a, (![0, o] : Fin 2 → ℕ) a + (![1, 256] : Fin 2 → ℕ) a ≤ S1x768.size a) (ho : o + 256 ≤ 768) (j : Fin 256) :
    View.ld (Val := Elt Ideal) (e' := .f32) x (Rect.unit (s := S1x768) ![0, o] ![1, 256] inb) (ix2 0 j : S1x256.Idx)
      = x (ix2 0 ⟨o + j.val, by omega⟩) := by
  refine congrArg x (funext fun a => ?_)
  match a with
  | ⟨0, _⟩ => exact Fin.ext (by show 0 + 1 * 0 = 0; omega)
  | ⟨1, _⟩ => exact Fin.ext (by show o + 1 * j.val = o + j.val; omega)

end Cert.Kernel3Ideal.Hand
-- ==== Proof.InprojTiles.lean ====
module

public import proofs.«01_k».proof.Proof.Gen.Kernel3Ideal.Frame
public import proofs.«01_k».proof.Proof.InprojSpec
public import Idealize.ShloMosaic.Lib.Pipeline.ValueKit
public import Idealize.ShloMosaic.Lib.Pipeline.ReadBack

/-! Blocks written lane tile by lane tile, the last write of each tile standing. -/

@[expose] public section

noncomputable section

namespace Cert.Kernel3Ideal.Hand

open Idealize.ShloMosaic Cert.Kernel3Ideal Cert.Kernel3Ideal.Gen

/-- A block's entries by their coordinates. -/
def flat6 (G : Fin 6 → Fin 512 → Fin 128 → EReal) (y : S6x512x128.Idx) : Elt Ideal .f32 := G (y 0) (y 1) (y 2)

/-- Six tiles, whatever was written before. -/
theorem six_tiles (P5 P4 P3 P2 P1 P0 : FVec Ideal S1x512x128 .f32) (L : List (View.Piece (Elt Ideal) S6x512x128 .f32))
    (G : Fin 6 → Fin 512 → Fin 128 → EReal)
    (h5 : ∀ i l, P5 (ix3 0 i l) = G 5 i l) (h4 : ∀ i l, P4 (ix3 0 i l) = G 4 i l) (h3 : ∀ i l, P3 (ix3 0 i l) = G 3 i l)
    (h2 : ∀ i l, P2 (ix3 0 i l) = G 2 i l) (h1 : ∀ i l, P1 (ix3 0 i l) = G 1 i l) (h0 : ∀ i l, P0 (ix3 0 i l) = G 0 i l)
    (y0 : Fin 6) (y1 : Fin 512) (y2 : Fin 128) :
    View.canon (⟨Rect.unit ![5, 0, 0] ![1, 512, 128] inb_S6x512x128_S1x512x128_5_0_0, P5⟩
      :: ⟨Rect.unit ![4, 0, 0] ![1, 512, 128] inb_S6x512x128_S1x512x128_4_0_0, P4⟩
      :: ⟨Rect.unit ![3, 0, 0] ![1, 512, 128] inb_S6x512x128_S1x512x128_3_0_0, P3⟩
      :: ⟨Rect.unit ![2, 0, 0] ![1, 512, 128] inb_S6x512x128_S1x512x128_2_0_0, P2⟩
      :: ⟨Rect.unit ![1, 0, 0] ![1, 512, 128] inb_S6x512x128_S1x512x128_1_0_0, P1⟩
      :: ⟨Rect.unit ![0, 0, 0] ![1, 512, 128] inb_S6x512x128_S1x512x128_0_0_0, P0⟩ :: L) (ix3 y0 y1 y2) = G y0 y1 y2 := by
  have key : ∀ (P : FVec Ideal S1x512x128 .f32) (n : ℕ) (hn : n < 6) (h : ∀ i l, P (ix3 0 i l) = G ⟨n, hn⟩ i l)
      (inb : ∀ a, (![n, 0, 0] : Fin 3 → ℕ) a + (![1, 512, 128] : Fin 3 → ℕ) a ≤ S6x512x128.size a)
      (x : (Rect.unit (s := S6x512x128) ![n, 0, 0] ![1, 512, 128] inb).shape.Idx),
      P x = flat6 G ((Rect.unit (s := S6x512x128) ![n, 0, 0] ![1, 512, 128] inb).emb x) := by
    intro P n hn h inb x
    have e : x = (ix3 (0 : Fin 1) (x 1 : Fin 512) (x 2 : Fin 128) : S1x512x128.Idx) := by
      funext a
      match a with
      | ⟨0, _⟩ => exact Fin.ext (by have : ((x 0 : Fin 1) : ℕ) < 1 := (x 0).isLt; show ((x 0 : Fin 1) : ℕ) = 0; omega)
      | ⟨1, _⟩ => rfl
      | ⟨2, _⟩ => rfl
    have h0 : (((x 0 : Fin 1) : ℕ)) = 0 := by have : ((x 0 : Fin 1) : ℕ) < 1 := (x 0).isLt; omega
    refine (congrArg P e).trans ((h _ _).trans ?_)
    refine congr (congr (congrArg G (Fin.ext ?_)) (Fin.ext ?_)) (Fin.ext ?_)
    · show n = n + 1 * ((x 0 : Fin 1) : ℕ); omega
    · show ((x 1 : Fin 512) : ℕ) = 0 + 1 * ((x 1 : Fin 512) : ℕ); omega
    · show ((x 2 : Fin 128) : ℕ) = 0 + 1 * ((x 2 : Fin 128) : ℕ); omega
  refine View.canon_append_of_piecesOf (flat6 G) L
    [⟨Rect.unit ![5, 0, 0] ![1, 512, 128] inb_S6x512x128_S1x512x128_5_0_0, P5⟩,
     ⟨Rect.unit ![4, 0, 0] ![1, 512, 128] inb_S6x512x128_S1x512x128_4_0_0, P4⟩,
     ⟨Rect.unit ![3, 0, 0] ![1, 512, 128] inb_S6x512x128_S1x512x128_3_0_0, P3⟩,
     ⟨Rect.unit ![2, 0, 0] ![1, 512, 128] inb_S6x512x128_S1x512x128_2_0_0, P2⟩,
     ⟨Rect.unit ![1, 0, 0] ![1, 512, 128] inb_S6x512x128_S1x512x128_1_0_0, P1⟩,
     ⟨Rect.unit ![0, 0, 0] ![1, 512, 128] inb_S6x512x128_S1x512x128_0_0_0, P0⟩]
    ⟨key P5 5 (by omega) h5 inb_S6x512x128_S1x512x128_5_0_0, key P4 4 (by omega) h4 inb_S6x512x128_S1x512x128_4_0_0, key P3 3 (by omega) h3 inb_S6x512x128_S1x512x128_3_0_0, key P2 2 (by omega) h2 inb_S6x512x128_S1x512x128_2_0_0, key P1 1 (by omega) h1 inb_S6x512x128_S1x512x128_1_0_0, key P0 0 (by omega) h0 inb_S6x512x128_S1x512x128_0_0_0,
      trivial⟩
    (ix3 y0 y1 y2) (View.cover_of_tiled_head _ _ _ rfl _)

/-- A block's entries by their coordinates. -/
def flat4 (G : Fin 4 → Fin 512 → Fin 128 → EReal) (y : S4x512x128.Idx) : Elt Ideal .f32 := G (y 0) (y 1) (y 2)

/-- Four tiles, whatever was written before. -/
theorem four_tiles (P3 P2 P1 P0 : FVec Ideal S1x512x128 .f32) (L : List (View.Piece (Elt Ideal) S4x512x128 .f32))
    (G : Fin 4 → Fin 512 → Fin 128 → EReal)
    (h3 : ∀ i l, P3 (ix3 0 i l) = G 3 i l)
    (h2 : ∀ i l, P2 (ix3 0 i l) = G 2 i l) (h1 : ∀ i l, P1 (ix3 0 i l) = G 1 i l) (h0 : ∀ i l, P0 (ix3 0 i l) = G 0 i l)
    (y0 : Fin 4) (y1 : Fin 512) (y2 : Fin 128) :
    View.canon (⟨Rect.unit ![3, 0, 0] ![1, 512, 128] inb_S4x512x128_S1x512x128_3_0_0, P3⟩
      :: ⟨Rect.unit ![2, 0, 0] ![1, 512, 128] inb_S4x512x128_S1x512x128_2_0_0, P2⟩
      :: ⟨Rect.unit ![1, 0, 0] ![1, 512, 128] inb_S4x512x128_S1x512x128_1_0_0, P1⟩
      :: ⟨Rect.unit ![0, 0, 0] ![1, 512, 128] inb_S4x512x128_S1x512x128_0_0_0, P0⟩ :: L) (ix3 y0 y1 y2) = G y0 y1 y2 := by
  have key : ∀ (P : FVec Ideal S1x512x128 .f32) (n : ℕ) (hn : n < 4) (h : ∀ i l, P (ix3 0 i l) = G ⟨n, hn⟩ i l)
      (inb : ∀ a, (![n, 0, 0] : Fin 3 → ℕ) a + (![1, 512, 128] : Fin 3 → ℕ) a ≤ S4x512x128.size a)
      (x : (Rect.unit (s := S4x512x128) ![n, 0, 0] ![1, 512, 128] inb).shape.Idx),
      P x = flat4 G ((Rect.unit (s := S4x512x128) ![n, 0, 0] ![1, 512, 128] inb).emb x) := by
    intro P n hn h inb x
    have e : x = (ix3 (0 : Fin 1) (x 1 : Fin 512) (x 2 : Fin 128) : S1x512x128.Idx) := by
      funext a
      match a with
      | ⟨0, _⟩ => exact Fin.ext (by have : ((x 0 : Fin 1) : ℕ) < 1 := (x 0).isLt; show ((x 0 : Fin 1) : ℕ) = 0; omega)
      | ⟨1, _⟩ => rfl
      | ⟨2, _⟩ => rfl
    have h0 : (((x 0 : Fin 1) : ℕ)) = 0 := by have : ((x 0 : Fin 1) : ℕ) < 1 := (x 0).isLt; omega
    refine (congrArg P e).trans ((h _ _).trans ?_)
    refine congr (congr (congrArg G (Fin.ext ?_)) (Fin.ext ?_)) (Fin.ext ?_)
    · show n = n + 1 * ((x 0 : Fin 1) : ℕ); omega
    · show ((x 1 : Fin 512) : ℕ) = 0 + 1 * ((x 1 : Fin 512) : ℕ); omega
    · show ((x 2 : Fin 128) : ℕ) = 0 + 1 * ((x 2 : Fin 128) : ℕ); omega
  refine View.canon_append_of_piecesOf (flat4 G) L
    [⟨Rect.unit ![3, 0, 0] ![1, 512, 128] inb_S4x512x128_S1x512x128_3_0_0, P3⟩,
     ⟨Rect.unit ![2, 0, 0] ![1, 512, 128] inb_S4x512x128_S1x512x128_2_0_0, P2⟩,
     ⟨Rect.unit ![1, 0, 0] ![1, 512, 128] inb_S4x512x128_S1x512x128_1_0_0, P1⟩,
     ⟨Rect.unit ![0, 0, 0] ![1, 512, 128] inb_S4x512x128_S1x512x128_0_0_0, P0⟩]
    ⟨key P3 3 (by omega) h3 inb_S4x512x128_S1x512x128_3_0_0, key P2 2 (by omega) h2 inb_S4x512x128_S1x512x128_2_0_0, key P1 1 (by omega) h1 inb_S4x512x128_S1x512x128_1_0_0, key P0 0 (by omega) h0 inb_S4x512x128_S1x512x128_0_0_0,
      trivial⟩
    (ix3 y0 y1 y2) (View.cover_of_tiled_head _ _ _ rfl _)

end Cert.Kernel3Ideal.Hand
-- ==== Proof.InprojBands.lean ====
module

public import proofs.«01_k».proof.Proof.Gen.Kernel3Ideal.Frame
public import proofs.«01_k».proof.Proof.InprojSpec
public import Idealize.ShloMosaic.Lib.Pipeline.ValueKit
public import Idealize.ShloMosaic.Lib.Pipeline.ReadBack

/-! A block written band by band of lanes. -/

@[expose] public section

noncomputable section

namespace Cert.Kernel3Ideal.Hand

open Idealize.ShloMosaic Cert.Kernel3Ideal Cert.Kernel3Ideal.Gen

/-- A block's entries by their coordinates. -/
def flat2 (G : Fin 512 → Fin 1408 → EReal) (y : S512x1408.Idx) : Elt Ideal .f32 := G (y 0) (y 1)

theorem bands (P5 : FVec Ideal S512x128 .f32) (P4 P3 P2 P1 P0 : FVec Ideal S512x256 .f32) (G : Fin 512 → Fin 1408 → EReal)
    (h5 : ∀ i (l : Fin 128), P5 (ix2 i l) = G i ⟨1280 + l.val, by omega⟩)
    (h4 : ∀ i (l : Fin 256), P4 (ix2 i l) = G i ⟨1024 + l.val, by omega⟩)
    (h3 : ∀ i (l : Fin 256), P3 (ix2 i l) = G i ⟨768 + l.val, by omega⟩)
    (h2 : ∀ i (l : Fin 256), P2 (ix2 i l) = G i ⟨512 + l.val, by omega⟩)
    (h1 : ∀ i (l : Fin 256), P1 (ix2 i l) = G i ⟨256 + l.val, by omega⟩)
    (h0 : ∀ i (l : Fin 256), P0 (ix2 i l) = G i ⟨0 + l.val, by omega⟩)
    (y0 : Fin 512) (y1 : Fin 1408) :
    View.canon ([⟨Rect.unit ![0, 1280] ![512, 128] inb_S512x1408_S512x128_0_1280, P5⟩,
      ⟨Rect.unit ![0, 1024] ![512, 256] inb_S512x1408_S512x256_0_1024, P4⟩,
      ⟨Rect.unit ![0, 768] ![512, 256] inb_S512x1408_S512x256_0_768, P3⟩,
      ⟨Rect.unit ![0, 512] ![512, 256] inb_S512x1408_S512x256_0_512, P2⟩,
      ⟨Rect.unit ![0, 256] ![512, 256] inb_S512x1408_S512x256_0_256, P1⟩,
      ⟨Rect.unit ![0, 0] ![512, 256] inb_S512x1408_S512x256_0_0, P0⟩] :
        List (View.Piece (Elt Ideal) S512x1408 .f32)) (ix2 y0 y1) = G y0 y1 := by
  have key : ∀ (s n : ℕ) (hs : n + s ≤ 1408) (P : FVec Ideal ⟨2, ![512, s]⟩ .f32)
      (h : ∀ i (l : Fin s), P (ix2 i l) = G i ⟨n + l.val, by omega⟩)
      (inb : ∀ a, (![0, n] : Fin 2 → ℕ) a + (![512, s] : Fin 2 → ℕ) a ≤ S512x1408.size a)
      (x : (Rect.unit (s := S512x1408) ![0, n] ![512, s] inb).shape.Idx),
      P x = flat2 G ((Rect.unit (s := S512x1408) ![0, n] ![512, s] inb).emb x) := by
    intro s n hs P h inb x
    have e : x = (ix2 (x 0 : Fin 512) (x 1 : Fin s) : (⟨2, ![512, s]⟩ : Shape).Idx) := by
      funext a
      match a with
      | ⟨0, _⟩ => rfl
      | ⟨1, _⟩ => rfl
    refine (congrArg P e).trans ((h _ _).trans ?_)
    refine congr (congrArg G (Fin.ext ?_)) (Fin.ext ?_)
    · show ((x 0 : Fin 512) : ℕ) = 0 + 1 * ((x 0 : Fin 512) : ℕ); omega
    · show n + ((x 1 : Fin s) : ℕ) = n + 1 * ((x 1 : Fin s) : ℕ); omega
  refine View.canon_append_of_piecesOf (flat2 G) []
    [⟨Rect.unit ![0, 1280] ![512, 128] inb_S512x1408_S512x128_0_1280, P5⟩,
      ⟨Rect.unit ![0, 1024] ![512, 256] inb_S512x1408_S512x256_0_1024, P4⟩,
      ⟨Rect.unit ![0, 768] ![512, 256] inb_S512x1408_S512x256_0_768, P3⟩,
      ⟨Rect.unit ![0, 512] ![512, 256] inb_S512x1408_S512x256_0_512, P2⟩,
      ⟨Rect.unit ![0, 256] ![512, 256] inb_S512x1408_S512x256_0_256, P1⟩,
      ⟨Rect.unit ![0, 0] ![512, 256] inb_S512x1408_S512x256_0_0, P0⟩]
    ⟨key 128 1280 (by omega) P5 h5 inb_S512x1408_S512x128_0_1280, key 256 1024 (by omega) P4 h4 inb_S512x1408_S512x256_0_1024,
      key 256 768 (by omega) P3 h3 inb_S512x1408_S512x256_0_768, key 256 512 (by omega) P2 h2 inb_S512x1408_S512x256_0_512,
      key 256 256 (by omega) P1 h1 inb_S512x1408_S512x256_0_256, key 256 0 (by omega) P0 h0 inb_S512x1408_S512x256_0_0, trivial⟩
    (ix2 y0 y1) ?_
  have hm : ∀ (s n : ℕ) (inb : ∀ a, (![0, n] : Fin 2 → ℕ) a + (![512, s] : Fin 2 → ℕ) a ≤ S512x1408.size a)
      (h : n ≤ y1.val ∧ y1.val < n + s),
      (ix2 y0 y1 : S512x1408.Idx) ∈ (Rect.unit (s := S512x1408) ![0, n] ![512, s] inb).set := by
    intro s n inb h
    rw [Rect.mem_set_unit]
    intro a
    match a with
    | ⟨0, _⟩ => exact ⟨Nat.zero_le _, by show y0.val < 0 + 512; omega⟩
    | ⟨1, _⟩ => exact h
  by_cases c5 : 1280 ≤ y1.val
  · exact ⟨_, List.Mem.head _, hm 128 1280 inb_S512x1408_S512x128_0_1280 (by omega)⟩
  by_cases c4 : 1024 ≤ y1.val
  · exact ⟨_, .tail _ (.head _), hm 256 1024 inb_S512x1408_S512x256_0_1024 (by omega)⟩
  by_cases c3 : 768 ≤ y1.val
  · exact ⟨_, .tail _ (.tail _ (.head _)), hm 256 768 inb_S512x1408_S512x256_0_768 (by omega)⟩
  by_cases c2 : 512 ≤ y1.val
  · exact ⟨_, .tail _ (.tail _ (.tail _ (.head _))), hm 256 512 inb_S512x1408_S512x256_0_512 (by omega)⟩
  by_cases c1 : 256 ≤ y1.val
  · exact ⟨_, .tail _ (.tail _ (.tail _ (.tail _ (.head _)))), hm 256 256 inb_S512x1408_S512x256_0_256 (by omega)⟩
  · exact ⟨_, .tail _ (.tail _ (.tail _ (.tail _ (.tail _ (.head _))))), hm 256 0 inb_S512x1408_S512x256_0_0 (by omega)⟩

end Cert.Kernel3Ideal.Hand
-- ==== Proof.InprojRows.lean ====
module

public import proofs.«01_k».proof.Proof.InprojBlocks
public import proofs.«01_k».proof.Proof.InprojTiles
public import proofs.«01_k».proof.Proof.InprojBands

/-! The projection's five output arrays, entry by entry. -/

@[expose] public section

noncomputable section

namespace Cert.Kernel3Ideal.Hand

open Idealize.ShloMosaic Cert.Kernel3Ideal Cert.Kernel3Ideal.Gen

variable (m : (ℓ : Loc nD τ sig) → Buf (Elt Ideal) ℓ)

/-- The position and the sequence of a row of a block. -/
def pos (t : Fin cfg0.N) (i : Fin 512) : Fin 8192 :=
  ⟨512 * (t.val % 16) + i.val, by omega⟩

def sq (t : Fin cfg0.N) : Fin 8 := ⟨t.val / 16, by have h := t.isLt; change t.val < 128 at h; omega⟩

/-- The input's row behind row `i` of block `t`. -/
def rowAt (c : Dev nD) (t : Fin cfg0.N) (i : Fin 512) : Fin 1024 → EReal := Inproj.row (input m c) (sq t) (pos t i)

/-- The normalised block. -/
def hid (c : Dev nD) (t : Fin cfg0.N) : FVec Ideal S512x1024 .bf16 := k0_pay4 (F := Ideal) (iblk m c 0 t) (iblk m c 1 t)

theorem hid_apply (c : Dev nD) (t : Fin cfg0.N) (i : Fin 512) (k : Fin 1024) :
    hid m c t (ix2 i k) = Inproj.h (weights m c) (rowAt m c t i) k := by
  have ht : t.val < 128 := t.isLt
  unfold hid
  refine norm_apply (w := weights m c) (r := rowAt m c t i) (i := i) _ _ (fun j => ?_) (fun j => (iblk1 m c t _).trans (nw_apply m c j)) k
  refine (iblk0 m c t i j).trans ((x_apply m c _ j).trans ?_)
  refine congrFun (congrArg₂ (Inproj.row (input m c)) (Fin.ext ?_) (Fin.ext ?_)) j
  · show (512 * t.val + i.val) / 8192 = t.val / 16; omega
  · show (512 * t.val + i.val) % 8192 = 512 * (t.val % 16) + i.val; omega

theorem tab (c : Dev nD) (t : Fin cfg0.N) (a b : Fin 256) : iblk m c 5 t (ix2 a b) = Inproj.table a b :=
  (iblk5 m c t _).trans (table_apply m c a b)

/-- A band of the joined matrix's columns. -/
def cols (c : Dev nD) (t : Fin cfg0.N) (o : ℕ) (inb : ∀ a, (![0, o] : Fin 2 → ℕ) a + (![1024, 256] : Fin 2 → ℕ) a ≤ S1024x4224.size a) :
    FVec Ideal S1024x256 .bf16 :=
  View.ld (Val := Elt Ideal) (e' := .bf16) (iblk m c 2 t) (Rect.unit (s := S1024x4224) ![0, o] ![1024, 256] inb)

theorem cols_apply (c : Dev nD) (t : Fin cfg0.N) (o : ℕ) (inb) (ho : o + 256 ≤ 4224) (k : Fin 1024) (j : Fin 256) :
    cols m c t o inb (ix2 k j) = joinedArray m c (ix2 k ⟨o + j.val, by omega⟩) :=
  (ld_columns 256 (iblk m c 2 t) o inb ho k j).trans (iblk2 m c t _)

theorem cols_first (c : Dev nD) (t : Fin cfg0.N) (o : ℕ) (inb) (ho : o + 256 ≤ 512) (k : Fin 1024) (j : Fin 256) :
    cols m c t o inb (ix2 k j) = (weights m c).win k ⟨o + j.val, by omega⟩ :=
  (cols_apply m c t o inb (by omega) k j).trans (first_apply m c k (o + j.val) (by omega))

theorem cols_second (c : Dev nD) (t : Fin cfg0.N) (o : ℕ) (inb) (o' : ℕ) (h0 : 512 ≤ o) (ho : o + 256 ≤ 2816) (e : o' = 512 + o)
    (k : Fin 1024) (j : Fin 256) :
    cols m c t o inb (ix2 k j) = (weights m c).win k ⟨o' + j.val, by omega⟩ :=
  (cols_apply m c t o inb (by omega) k j).trans ((second_apply m c k (o + j.val) (by omega) (by omega)).trans
    (congrArg ((weights m c).win k) (Fin.ext (by show 512 + (o + j.val) = o' + j.val; omega))))

section

variable (c : Dev nD) (t : Fin cfg0.N) (i : Fin 512) (l : Fin 128)

theorem u_lo (o : ℕ) (inb) (ho : o + 256 ≤ 512) (a : Fin 512) (ha : o + l.val = a.val) :
    k0_pay12 (F := Ideal) (hid m c t) (cols m c t o inb) (ix3 0 i l) = Inproj.u (weights m c) (rowAt m c t i) a :=
  (lo_apply (w := weights m c) (r := rowAt m c t i) (i := i) (hid m c t) (hid_apply m c t i) _ o (by omega) (cols_first m c t o inb ho) l).trans
    (congrArg (Inproj.z (weights m c) (rowAt m c t i)) (Fin.ext ha))

theorem u_hi (o : ℕ) (inb) (ho : o + 256 ≤ 512) (a : Fin 512) (ha : o + (128 + l.val) = a.val) :
    k0_pay13 (F := Ideal) (hid m c t) (cols m c t o inb) (ix3 0 i l) = Inproj.u (weights m c) (rowAt m c t i) a :=
  (hi_apply (w := weights m c) (r := rowAt m c t i) (i := i) (hid m c t) (hid_apply m c t i) _ o (by omega) (cols_first m c t o inb ho) l).trans
    (congrArg (Inproj.z (weights m c) (rowAt m c t i)) (Fin.ext ha))

theorem v_lo (o : ℕ) (inb) (h0 : 2048 ≤ o) (ho : o + 256 ≤ 2816) (a : Fin 768) (ha : 512 + o + l.val = 2560 + a.val) :
    k0_pay12 (F := Ideal) (hid m c t) (cols m c t o inb) (ix3 0 i l) = Inproj.v (weights m c) (rowAt m c t i) a :=
  (lo_apply (w := weights m c) (r := rowAt m c t i) (i := i) (hid m c t) (hid_apply m c t i) _ (512 + o) (by omega)
      (cols_second m c t o inb (512 + o) (by omega) ho rfl) l).trans
    (congrArg (Inproj.z (weights m c) (rowAt m c t i)) (Fin.ext ha))

theorem v_hi (o : ℕ) (inb) (h0 : 2048 ≤ o) (ho : o + 256 ≤ 2816) (a : Fin 768) (ha : 512 + o + (128 + l.val) = 2560 + a.val) :
    k0_pay13 (F := Ideal) (hid m c t) (cols m c t o inb) (ix3 0 i l) = Inproj.v (weights m c) (rowAt m c t i) a :=
  (hi_apply (w := weights m c) (r := rowAt m c t i) (i := i) (hid m c t) (hid_apply m c t i) _ (512 + o) (by omega)
      (cols_second m c t o inb (512 + o) (by omega) ho rfl) l).trans
    (congrArg (Inproj.z (weights m c) (rowAt m c t i)) (Fin.ext ha))

/-- A band of the gains of `q`. -/
def qGain (c : Dev nD) (t : Fin cfg0.N) (o : ℕ) (inb : ∀ a, (![0, o] : Fin 2 → ℕ) a + (![1, 256] : Fin 2 → ℕ) a ≤ S1x768.size a) :
    FVec Ideal S1x256 .f32 :=
  View.ld (Val := Elt Ideal) (e' := .f32) (iblk m c 3 t) (Rect.unit (s := S1x768) ![0, o] ![1, 256] inb)

theorem qGain_apply (o : ℕ) (inb) (ho : o + 256 ≤ 768) (j : Fin 256) :
    qGain m c t o inb (ix2 0 j) = (V m c main_v28 : FVec Ideal S1x768 .f32) (ix2 0 ⟨o + j.val, by omega⟩) :=
  (ld_lanes (iblk m c 3 t) o inb ho j).trans (iblk3 m c t _)

theorem q_lo (b : ℕ) (hb : b < 3) (o : ℕ) (inb) (ho : 1024 + 256 * b = 512 + o) (inb') (a : Fin 768) (ha : 256 * b + l.val = a.val) :
    k0_pay2 (F := Ideal) (k0_pay46 (F := Ideal) (iblk m c 5 t)) (k0_pay12 (F := Ideal) (hid m c t) (cols m c t o inb))
        (k0_pay13 (F := Ideal) (hid m c t) (cols m c t o inb)) (qGain m c t (256 * b) inb') (ix3 0 i l)
      = Inproj.q (weights m c) (rowAt m c t i) a := by
  obtain ⟨a, ha'⟩ := a
  change 256 * b + l.val = a at ha
  subst ha
  refine (headsLo_apply (w := weights m c) (r := rowAt m c t i) (i := i) (hid m c t) (hid_apply m c t i) _ (tab m c t) _ _ 1024 (by omega) b hb
    (cols_second m c t o inb (1024 + 256 * b) (by omega) (by omega) ho) l).trans ?_
  rw [qGain_apply m c t (256 * b) inb' (by omega)]
  refine (congrArg (fun x => Inproj.normed (weights m c) (rowAt m c t i) 1024 (by omega) _ * x) (qw_apply m c _)).trans ?_
  exact (mul_assoc _ _ _).symm

theorem q_hi (b : ℕ) (hb : b < 3) (o : ℕ) (inb) (ho : 1024 + 256 * b = 512 + o) (inb') (a : Fin 768) (ha : 256 * b + (128 + l.val) = a.val) :
    k0_pay3 (F := Ideal) (k0_pay46 (F := Ideal) (iblk m c 5 t)) (k0_pay12 (F := Ideal) (hid m c t) (cols m c t o inb))
        (k0_pay13 (F := Ideal) (hid m c t) (cols m c t o inb)) (qGain m c t (256 * b) inb') (ix3 0 i l)
      = Inproj.q (weights m c) (rowAt m c t i) a := by
  obtain ⟨a, ha'⟩ := a
  change 256 * b + (128 + l.val) = a at ha
  subst ha
  refine (headsHi_apply (w := weights m c) (r := rowAt m c t i) (i := i) (hid m c t) (hid_apply m c t i) _ (tab m c t) _ _ 1024 (by omega) b hb
    (cols_second m c t o inb (1024 + 256 * b) (by omega) (by omega) ho) l).trans ?_
  rw [qGain_apply m c t (256 * b) inb' (by omega)]
  refine (congrArg (fun x => Inproj.normed (weights m c) (rowAt m c t i) 1024 (by omega) _ * x) (qw_apply m c _)).trans ?_
  exact (mul_assoc _ _ _).symm

/-- A band of the gains of `k`. -/
def kGain (c : Dev nD) (t : Fin cfg0.N) (o : ℕ) (inb : ∀ a, (![0, o] : Fin 2 → ℕ) a + (![1, 256] : Fin 2 → ℕ) a ≤ S1x768.size a) :
    FVec Ideal S1x256 .f32 :=
  View.ld (Val := Elt Ideal) (e' := .f32) (iblk m c 4 t) (Rect.unit (s := S1x768) ![0, o] ![1, 256] inb)

theorem kGain_apply (o : ℕ) (inb) (ho : o + 256 ≤ 768) (j : Fin 256) :
    kGain m c t o inb (ix2 0 j) = (V m c main_v29 : FVec Ideal S1x768 .f32) (ix2 0 ⟨o + j.val, by omega⟩) :=
  (ld_lanes (iblk m c 4 t) o inb ho j).trans (iblk4 m c t _)

theorem k_lo (b : ℕ) (hb : b < 3) (o : ℕ) (inb) (ho : 1792 + 256 * b = 512 + o) (inb') (a : Fin 768) (ha : 256 * b + l.val = a.val) :
    k0_pay2 (F := Ideal) (k0_pay46 (F := Ideal) (iblk m c 5 t)) (k0_pay12 (F := Ideal) (hid m c t) (cols m c t o inb))
        (k0_pay13 (F := Ideal) (hid m c t) (cols m c t o inb)) (kGain m c t (256 * b) inb') (ix3 0 i l)
      = Inproj.k (weights m c) (rowAt m c t i) a := by
  obtain ⟨a, ha'⟩ := a
  change 256 * b + l.val = a at ha
  subst ha
  refine (headsLo_apply (w := weights m c) (r := rowAt m c t i) (i := i) (hid m c t) (hid_apply m c t i) _ (tab m c t) _ _ 1792 (by omega) b hb
    (cols_second m c t o inb (1792 + 256 * b) (by omega) (by omega) ho) l).trans ?_
  rw [kGain_apply m c t (256 * b) inb' (by omega)]
  refine (congrArg (fun x => Inproj.normed (weights m c) (rowAt m c t i) 1792 (by omega) _ * x) (kw_apply m c _)).trans ?_
  exact rfl

theorem k_hi (b : ℕ) (hb : b < 3) (o : ℕ) (inb) (ho : 1792 + 256 * b = 512 + o) (inb') (a : Fin 768) (ha : 256 * b + (128 + l.val) = a.val) :
    k0_pay3 (F := Ideal) (k0_pay46 (F := Ideal) (iblk m c 5 t)) (k0_pay12 (F := Ideal) (hid m c t) (cols m c t o inb))
        (k0_pay13 (F := Ideal) (hid m c t) (cols m c t o inb)) (kGain m c t (256 * b) inb') (ix3 0 i l)
      = Inproj.k (weights m c) (rowAt m c t i) a := by
  obtain ⟨a, ha'⟩ := a
  change 256 * b + (128 + l.val) = a at ha
  subst ha
  refine (headsHi_apply (w := weights m c) (r := rowAt m c t i) (i := i) (hid m c t) (hid_apply m c t i) _ (tab m c t) _ _ 1792 (by omega) b hb
    (cols_second m c t o inb (1792 + 256 * b) (by omega) (by omega) ho) l).trans ?_
  rw [kGain_apply m c t (256 * b) inb' (by omega)]
  refine (congrArg (fun x => Inproj.normed (weights m c) (rowAt m c t i) 1792 (by omega) _ * x) (kw_apply m c _)).trans ?_
  exact rfl

end

/-- Where an entry of a four-tile array in its time order comes from. -/
def uAt (w : Inproj.Weights) (x : FVec Ideal S8x8192x1024 .f32) (a : Fin 4) (R : Fin 65536) (l : Fin 128) : EReal :=
  Inproj.u w (Inproj.row x ⟨R.val / 1024 % 8, by omega⟩ ⟨R.val / 8192 * 1024 + R.val % 1024, by omega⟩) ⟨a.val * 128 + l.val, by omega⟩

def uTiles (w : Inproj.Weights) (x : FVec Ideal S8x8192x1024 .f32) : FVec Ideal S4x65536x128 .f32 := fun i => uAt w x (i 0) (i 1) (i 2)

/-- Where an entry of a six-tile array comes from. -/
def tileAt (f : Inproj.Weights → (Fin 1024 → EReal) → Fin 768 → EReal) (w : Inproj.Weights) (x : FVec Ideal S8x8192x1024 .f32)
    (a : Fin 6) (R : Fin 65536) (l : Fin 128) : EReal :=
  f w (Inproj.row x ⟨R.val / 8192, by omega⟩ ⟨R.val % 8192, by omega⟩) ⟨a.val * 128 + l.val, by omega⟩

def tiles (f : Inproj.Weights → (Fin 1024 → EReal) → Fin 768 → EReal) (w : Inproj.Weights) (x : FVec Ideal S8x8192x1024 .f32) :
    FVec Ideal S6x65536x128 .f32 := fun i => tileAt f w x (i 0) (i 1) (i 2)

/-- The last array, before its padding is dropped. -/
def lastAt (c : Dev nD) (R : Fin 65536) (j : Fin 1408) : EReal :=
  ∑ k, Inproj.h (weights m c) (Inproj.row (input m c) ⟨R.val / 8192, by omega⟩ ⟨R.val % 8192, by omega⟩) k
    * joinedArray m c (ix2 k ⟨2816 + j.val, by omega⟩)

def last (c : Dev nD) : FVec Ideal S65536x1408 .f32 := fun i => lastAt m c (i 0) (i 1)

theorem rowAt_eq (c : Dev nD) (t : Fin cfg0.N) (i : Fin 512) (R : Fin 65536) (hR : R.val = 512 * t.val + i.val) :
    rowAt m c t i = Inproj.row (input m c) ⟨R.val / 8192, by omega⟩ ⟨R.val % 8192, by omega⟩ := by
  have ht : t.val < 128 := t.isLt
  refine congrArg₂ (Inproj.row (input m c)) (Fin.ext ?_) (Fin.ext ?_)
  · show t.val / 16 = R.val / 8192; omega
  · show 512 * (t.val % 16) + i.val = R.val % 8192; omega

theorem rowAt_time (c : Dev nD) (t : Fin cfg0.N) (i : Fin 512) (R : Fin 65536)
    (hR : R.val = 512 * ((t.val % 16 / 2 * 8 + t.val / 16) * 2 + t.val % 2) + i.val) :
    rowAt m c t i = Inproj.row (input m c) ⟨R.val / 1024 % 8, by omega⟩ ⟨R.val / 8192 * 1024 + R.val % 1024, by omega⟩ := by
  have ht : t.val < 128 := t.isLt
  refine congrArg₂ (Inproj.row (input m c)) (Fin.ext ?_) (Fin.ext ?_)
  · show t.val / 16 = R.val / 1024 % 8; omega
  · show 512 * (t.val % 16) + i.val = R.val / 8192 * 1024 + R.val % 1024; omega

/-- What block `t` leaves in the first output. -/
theorem after6 (c : Dev nD) (t : Fin cfg0.N) : (dats m 0 c).after 6 t = View.canon
    ([⟨Rect.unit ![3, 0, 0] ![1, 512, 128] inb_S4x512x128_S1x512x128_3_0_0,
        k0_pay13 (F := Ideal) (hid m c t) (cols m c t 256 inb_S1024x4224_S1024x256_0_256)⟩,
      ⟨Rect.unit ![2, 0, 0] ![1, 512, 128] inb_S4x512x128_S1x512x128_2_0_0,
        k0_pay12 (F := Ideal) (hid m c t) (cols m c t 256 inb_S1024x4224_S1024x256_0_256)⟩,
      ⟨Rect.unit ![1, 0, 0] ![1, 512, 128] inb_S4x512x128_S1x512x128_1_0_0,
        k0_pay13 (F := Ideal) (hid m c t) (cols m c t 0 inb_S1024x4224_S1024x256_0_0)⟩,
      ⟨Rect.unit ![0, 0, 0] ![1, 512, 128] inb_S4x512x128_S1x512x128_0_0_0,
        k0_pay12 (F := Ideal) (hid m c t) (cols m c t 0 inb_S1024x4224_S1024x256_0_0)⟩] :
      List (View.Piece (Elt Ideal) S4x512x128 .f32)) := by
  rw [after0_6]
  frame_out
  rfl

set_option maxRecDepth 20000 in
theorem out6_eq (c : Dev nD) : (dats m 0 c).arrAt 6 cfg0.N = uTiles (weights m c) (input m c) := by
  refine (dats m 0 c).arrAt_eq_of_covers 6 _ (by decide +kernel) fun t hf y => ?_
  have ht : t.val < 128 := t.isLt
  blk_simp
  rw [after6]
  idx_vars y
  have e : (((View.whole main_v30_0).slice (win0_6.rect t)).emb (ix3 y0 y1 y2))
      = ix3 y0 ⟨512 * ((t.val % 16 / 2 * 8 + t.val / 16) * 2 + t.val % 2) + y1.val, by omega⟩ y2 := by
    blk_ext [idx6 t]
  rw [e]
  refine (four_tiles _ _ _ _ [] (fun a i l => Inproj.u (weights m c) (rowAt m c t i) ⟨a.val * 128 + l.val, by omega⟩)
    (fun i l => u_hi m c t i l 256 _ (by omega) _ (by show 256 + (128 + l.val) = 3 * 128 + l.val; omega))
    (fun i l => u_lo m c t i l 256 _ (by omega) _ (by show 256 + l.val = 2 * 128 + l.val; omega))
    (fun i l => u_hi m c t i l 0 _ (by omega) _ (by show 0 + (128 + l.val) = 1 * 128 + l.val; omega))
    (fun i l => u_lo m c t i l 0 _ (by omega) _ (by show 0 + l.val = 0 * 128 + l.val; omega)) y0 y1 y2).trans ?_
  exact congrArg (fun r => Inproj.u (weights m c) r ⟨y0.val * 128 + y2.val, by omega⟩) (rowAt_time m c t y1 _ rfl)

theorem out7_eq (c : Dev nD) : (dats m 0 c).arrAt 7 cfg0.N = tiles Inproj.q (weights m c) (input m c) := by
  refine (dats m 0 c).arrAt_eq_of_covers 7 _ (by decide +kernel) fun t hf y => ?_
  have ht : t.val < 128 := t.isLt
  blk_simp
  rw [after0_7]
  frame_open
  simp (disch := decide) only [↓ View.readCov_skip, ↓ View.readCov_cons_toLoadRect]
  frame_out
  idx_vars y
  have e : (((View.whole main_v30_1).slice (win0_7.rect t)).emb (ix3 y0 y1 y2)) = ix3 y0 ⟨512 * t.val + y1.val, by omega⟩ y2 := by
    blk_ext [idx7 t]
  rw [e]
  refine (six_tiles _ _ _ _ _ _ _ (fun a i l => Inproj.q (weights m c) (rowAt m c t i) ⟨a.val * 128 + l.val, by omega⟩)
    (fun i l => q_hi m c t i l 2 (by omega) 1024 _ (by omega) _ _ (by show 256 * 2 + (128 + l.val) = 5 * 128 + l.val; omega))
    (fun i l => q_lo m c t i l 2 (by omega) 1024 _ (by omega) _ _ (by show 256 * 2 + l.val = 4 * 128 + l.val; omega))
    (fun i l => q_hi m c t i l 1 (by omega) 768 _ (by omega) _ _ (by show 256 * 1 + (128 + l.val) = 3 * 128 + l.val; omega))
    (fun i l => q_lo m c t i l 1 (by omega) 768 _ (by omega) _ _ (by show 256 * 1 + l.val = 2 * 128 + l.val; omega))
    (fun i l => q_hi m c t i l 0 (by omega) 512 _ (by omega) _ _ (by show 256 * 0 + (128 + l.val) = 1 * 128 + l.val; omega))
    (fun i l => q_lo m c t i l 0 (by omega) 512 _ (by omega) _ _ (by show 256 * 0 + l.val = 0 * 128 + l.val; omega)) y0 y1 y2).trans ?_
  exact congrArg (fun r => Inproj.q (weights m c) r ⟨y0.val * 128 + y2.val, by omega⟩) (rowAt_eq m c t y1 _ rfl)

theorem out8_eq (c : Dev nD) : (dats m 0 c).arrAt 8 cfg0.N = tiles Inproj.k (weights m c) (input m c) := by
  refine (dats m 0 c).arrAt_eq_of_covers 8 _ (by decide +kernel) fun t hf y => ?_
  have ht : t.val < 128 := t.isLt
  blk_simp
  rw [after0_8]
  frame_open
  simp (disch := decide) only [↓ View.readCov_skip, ↓ View.readCov_cons_toLoadRect]
  frame_out
  idx_vars y
  have e : (((View.whole main_v30_2).slice (win0_8.rect t)).emb (ix3 y0 y1 y2)) = ix3 y0 ⟨512 * t.val + y1.val, by omega⟩ y2 := by
    blk_ext [idx8 t]
  rw [e]
  refine (six_tiles _ _ _ _ _ _ _ (fun a i l => Inproj.k (weights m c) (rowAt m c t i) ⟨a.val * 128 + l.val, by omega⟩)
    (fun i l => k_hi m c t i l 2 (by omega) 1792 _ (by omega) _ _ (by show 256 * 2 + (128 + l.val) = 5 * 128 + l.val; omega))
    (fun i l => k_lo m c t i l 2 (by omega) 1792 _ (by omega) _ _ (by show 256 * 2 + l.val = 4 * 128 + l.val; omega))
    (fun i l => k_hi m c t i l 1 (by omega) 1536 _ (by omega) _ _ (by show 256 * 1 + (128 + l.val) = 3 * 128 + l.val; omega))
    (fun i l => k_lo m c t i l 1 (by omega) 1536 _ (by omega) _ _ (by show 256 * 1 + l.val = 2 * 128 + l.val; omega))
    (fun i l => k_hi m c t i l 0 (by omega) 1280 _ (by omega) _ _ (by show 256 * 0 + (128 + l.val) = 1 * 128 + l.val; omega))
    (fun i l => k_lo m c t i l 0 (by omega) 1280 _ (by omega) _ _ (by show 256 * 0 + l.val = 0 * 128 + l.val; omega)) y0 y1 y2).trans ?_
  exact congrArg (fun r => Inproj.k (weights m c) r ⟨y0.val * 128 + y2.val, by omega⟩) (rowAt_eq m c t y1 _ rfl)

set_option maxRecDepth 20000 in
theorem out9_eq (c : Dev nD) : (dats m 0 c).arrAt 9 cfg0.N = tiles Inproj.v (weights m c) (input m c) := by
  refine (dats m 0 c).arrAt_eq_of_covers 9 _ (by decide +kernel) fun t hf y => ?_
  have ht : t.val < 128 := t.isLt
  blk_simp
  rw [after0_9]
  frame_out
  idx_vars y
  have e : (((View.whole main_v30_3).slice (win0_9.rect t)).emb (ix3 y0 y1 y2)) = ix3 y0 ⟨512 * t.val + y1.val, by omega⟩ y2 := by
    blk_ext [idx9 t]
  rw [e]
  refine (six_tiles _ _ _ _ _ _ _ (fun a i l => Inproj.v (weights m c) (rowAt m c t i) ⟨a.val * 128 + l.val, by omega⟩)
    (fun i l => v_hi m c t i l 2560 _ (by omega) (by omega) _ (by show 512 + 2560 + (128 + l.val) = 2560 + (5 * 128 + l.val); omega))
    (fun i l => v_lo m c t i l 2560 _ (by omega) (by omega) _ (by show 512 + 2560 + l.val = 2560 + (4 * 128 + l.val); omega))
    (fun i l => v_hi m c t i l 2304 _ (by omega) (by omega) _ (by show 512 + 2304 + (128 + l.val) = 2560 + (3 * 128 + l.val); omega))
    (fun i l => v_lo m c t i l 2304 _ (by omega) (by omega) _ (by show 512 + 2304 + l.val = 2560 + (2 * 128 + l.val); omega))
    (fun i l => v_hi m c t i l 2048 _ (by omega) (by omega) _ (by show 512 + 2048 + (128 + l.val) = 2560 + (1 * 128 + l.val); omega))
    (fun i l => v_lo m c t i l 2048 _ (by omega) (by omega) _ (by show 512 + 2048 + l.val = 2560 + (0 * 128 + l.val); omega)) y0 y1 y2).trans ?_
  exact congrArg (fun r => Inproj.v (weights m c) r ⟨y0.val * 128 + y2.val, by omega⟩) (rowAt_eq m c t y1 _ rfl)

/-- A row against a band of columns. -/
theorem band_apply (c : Dev nD) (t : Fin cfg0.N) (i : Fin 512) (l : Fin 256) (o : ℕ) (inb) (ho : o + 256 ≤ 4224) (a : Fin 1408)
    (ha : o + l.val = 2816 + a.val) :
    k0_pay40 (F := Ideal) (hid m c t) (cols m c t o inb) (ix2 i l)
      = ∑ k, Inproj.h (weights m c) (rowAt m c t i) k * joinedArray m c (ix2 k ⟨2816 + a.val, by omega⟩) := by
  rw [wide_apply (w := weights m c) (r := rowAt m c t i) (hid m c t) (hid_apply m c t i)]
  refine Finset.sum_congr rfl fun k _ => congrArg (_ * ·) ((cols_apply m c t o inb ho k l).trans ?_)
  exact congrArg (joinedArray m c) (congrArg (ix2 k) (Fin.ext ha))

theorem end_apply (c : Dev nD) (t : Fin cfg0.N) (i : Fin 512) (l : Fin 128) (inb) (a : Fin 1408) (ha : 4096 + l.val = 2816 + a.val) :
    k0_pay45 (F := Ideal) (hid m c t) (View.ld (Val := Elt Ideal) (e' := .bf16) (iblk m c 2 t)
        (Rect.unit (s := S1024x4224) ![0, 4096] ![1024, 128] inb)) (ix2 i l)
      = ∑ k, Inproj.h (weights m c) (rowAt m c t i) k * joinedArray m c (ix2 k ⟨2816 + a.val, by omega⟩) := by
  rw [last_apply (w := weights m c) (r := rowAt m c t i) (hid m c t) (hid_apply m c t i)]
  refine Finset.sum_congr rfl fun k _ => congrArg (_ * ·) (((ld_columns 128 (iblk m c 2 t) 4096 inb (by omega) k l).trans (iblk2 m c t _)).trans ?_)
  exact congrArg (joinedArray m c) (congrArg (ix2 k) (Fin.ext ha))

set_option maxRecDepth 20000 in
theorem out10_eq (c : Dev nD) : (dats m 0 c).arrAt 10 cfg0.N = last m c := by
  refine (dats m 0 c).arrAt_eq_of_covers 10 _ (by decide +kernel) fun t hf y => ?_
  have ht : t.val < 128 := t.isLt
  blk_simp
  rw [after0_10]
  frame_out
  idx_vars y
  have e : (((View.whole main_v30_4).slice (win0_10.rect t)).emb (ix2 y0 y1)) = ix2 ⟨512 * t.val + y0.val, by omega⟩ y1 := by
    blk_ext [idx10 t]
  rw [e]
  refine (bands _ _ _ _ _ _ (fun i j => ∑ k, Inproj.h (weights m c) (rowAt m c t i) k * joinedArray m c (ix2 k ⟨2816 + j.val, by omega⟩))
    (fun i l => end_apply m c t i l _ _ (by show 4096 + l.val = 2816 + (1280 + l.val); omega))
    (fun i l => band_apply m c t i l 3840 _ (by omega) _ (by show 3840 + l.val = 2816 + (1024 + l.val); omega))
    (fun i l => band_apply m c t i l 3584 _ (by omega) _ (by show 3584 + l.val = 2816 + (768 + l.val); omega))
    (fun i l => band_apply m c t i l 3328 _ (by omega) _ (by show 3328 + l.val = 2816 + (512 + l.val); omega))
    (fun i l => band_apply m c t i l 3072 _ (by omega) _ (by show 3072 + l.val = 2816 + (256 + l.val); omega))
    (fun i l => band_apply m c t i l 2816 _ (by omega) _ (by show 2816 + l.val = 2816 + (0 + l.val); omega)) y0 y1).trans ?_
  exact congrArg (fun r => ∑ k, Inproj.h (weights m c) r k * joinedArray m c (ix2 k ⟨2816 + y1.val, by omega⟩)) (rowAt_eq m c t y0 _ rfl)

end Cert.Kernel3Ideal.Hand
-- ==== Proof.InprojOut.lean ====
module

public import proofs.«01_k».proof.Proof.InprojRows
public import Idealize.ShloMosaic.Lib.Claim
public import Idealize.ShloMosaic.Lib.Pipeline.Value

/-! The projection's results, after the host's lines behind the call. -/

@[expose] public section

noncomputable section

namespace Cert.Kernel3Ideal.Hand

open Idealize.ShloMosaic Cert.Kernel3Ideal Cert.Kernel3Ideal.Gen Idealize.SL.Sem

variable (m : (ℓ : Loc nD τ sig) → Buf (Elt Ideal) ℓ) (g : Dev nD → PrngReg)

/-- The memory as the call leaves it. -/
def left (c : Dev nD) : Valuation τ sig (Elt Ideal) :=
  Pipeline.withArrays (cfgs 0).spec c (V0 m c) fun w => (dats m 0 c).arrAt w (cfgs 0).N

/-- The memory as the lines behind it leave it. -/
def final (c : Dev nD) (b : Ref sig .tc) : Buf (Elt Ideal) ((c.tc : Thread nD τ).loc b) :=
  StableHlo.after (hostOps1 (F := Ideal)) (left m c) (Proc.devRef .tc b)

theorem final_eq (c : Dev nD) (b : Ref sig .tc) : Pipeline.afterTail₀ cfgs (dats m) 0 (V0 m) [hostOps1] c b = final m c b := by
  unfold Pipeline.afterTail₀ final left
  simp only [List.flatten_cons, List.flatten_nil, List.append_nil]

theorem distinct : Function.Injective (Pipeline.arrRef (cfgs 0).spec) := by decide

theorem left6 (c : Dev nD) : left m c (Proc.devRef .tc main_v30_0) = uTiles (weights m c) (input m c) :=
  (Pipeline.withArrays_arr (cfgs 0).spec distinct c (V0 m c) (fun w => (dats m 0 c).arrAt w (cfgs 0).N) 6).trans (out6_eq m c)

theorem left7 (c : Dev nD) : left m c (Proc.devRef .tc main_v30_1) = tiles Inproj.q (weights m c) (input m c) :=
  (Pipeline.withArrays_arr (cfgs 0).spec distinct c (V0 m c) (fun w => (dats m 0 c).arrAt w (cfgs 0).N) 7).trans (out7_eq m c)

theorem left8 (c : Dev nD) : left m c (Proc.devRef .tc main_v30_2) = tiles Inproj.k (weights m c) (input m c) :=
  (Pipeline.withArrays_arr (cfgs 0).spec distinct c (V0 m c) (fun w => (dats m 0 c).arrAt w (cfgs 0).N) 8).trans (out8_eq m c)

theorem left9 (c : Dev nD) : left m c (Proc.devRef .tc main_v30_3) = tiles Inproj.v (weights m c) (input m c) :=
  (Pipeline.withArrays_arr (cfgs 0).spec distinct c (V0 m c) (fun w => (dats m 0 c).arrAt w (cfgs 0).N) 9).trans (out9_eq m c)

theorem left10 (c : Dev nD) : left m c (Proc.devRef .tc main_v30_4) = last m c :=
  (Pipeline.withArrays_arr (cfgs 0).spec distinct c (V0 m c) (fun w => (dats m 0 c).arrAt w (cfgs 0).N) 10).trans (out10_eq m c)

theorem at_congr {n : ℕ} (f : Inproj.Weights → (Fin 1024 → EReal) → Fin n → EReal) (w : Inproj.Weights)
    (x : FVec Ideal S8x8192x1024 .f32) (p p' : Fin 8) (q q' : Fin 8192) (j j' : Fin n) (hp : p.val = p'.val) (hq : q.val = q'.val)
    (hj : j.val = j'.val) : f w (Inproj.row x p q) j = f w (Inproj.row x p' q') j' := by
  obtain rfl := Fin.ext hp
  obtain rfl := Fin.ext hq
  obtain rfl := Fin.ext hj
  rfl

theorem uAt_back (w : Inproj.Weights) (x : FVec Ideal S8x8192x1024 .f32) (p : Fin 8) (q : Fin 8192) (j : Fin 512) (a : Fin 4)
    (R : Fin 65536) (l : Fin 128) (ha : a.val = j.val / 128) (hR : R.val = q.val / 1024 * 8192 + p.val * 1024 + q.val % 1024)
    (hl : l.val = j.val % 128) : uAt w x a R l = Inproj.u w (Inproj.row x p q) j :=
  at_congr Inproj.u w x _ p _ q _ j (by show R.val / 1024 % 8 = p.val; omega) (by show R.val / 8192 * 1024 + R.val % 1024 = q.val; omega)
    (by show a.val * 128 + l.val = j.val; omega)

theorem tileAt_back (f : Inproj.Weights → (Fin 1024 → EReal) → Fin 768 → EReal) (w : Inproj.Weights)
    (x : FVec Ideal S8x8192x1024 .f32) (p : Fin 8) (q : Fin 8192) (j : Fin 768) (a : Fin 6)
    (R : Fin 65536) (l : Fin 128) (ha : a.val = j.val / 128) (hR : R.val = p.val * 8192 + q.val)
    (hl : l.val = j.val % 128) : tileAt f w x a R l = f w (Inproj.row x p q) j :=
  at_congr f w x _ p _ q _ j (by show R.val / 8192 = p.val; omega) (by show R.val % 8192 = q.val; omega)
    (by show a.val * 128 + l.val = j.val; omega)

theorem lastAt_back (c : Dev nD) (p : Fin 8) (q : Fin 8192) (j : Fin 1292) (R : Fin 65536) (l : Fin 1408)
    (hR : R.val = p.val * 8192 + q.val) (hl : l.val = j.val) :
    lastAt m c R l = Inproj.d (weights m c) (Inproj.row (input m c) p q) j := by
  have hp : (⟨R.val / 8192, by omega⟩ : Fin 8) = p := Fin.ext (by show R.val / 8192 = p.val; omega)
  have hq : (⟨R.val % 8192, by omega⟩ : Fin 8192) = q := Fin.ext (by show R.val % 8192 = q.val; omega)
  unfold lastAt
  rw [hp, hq]
  have hk : ∀ k, joinedArray m c (ix2 k ⟨2816 + l.val, by omega⟩) = (weights m c).win k ⟨3584 + j.val, by omega⟩ := fun k =>
    (third_apply m c k (2816 + l.val) (by omega) (by omega)).trans
      (congrArg ((weights m c).win k) (Fin.ext (by show 768 + (2816 + l.val) = 3584 + j.val; omega)))
  simp only [hk]
  rfl

/-- A result's entry, read in the array the call leaves. -/
theorem u_read (X : FVec Ideal S4x65536x128 .f32) (c : Dev nD) (hX : left m c (Proc.devRef .tc main_v30_0) = X) (p : Fin 8) (q : Fin 8192) (j : Fin 512) :
    (final m c main_v33 : FVec Ideal S8x8192x512 .f32) (ix3 p q j) = X (ix3 ⟨j.val / 128, by omega⟩ ⟨q.val / 1024 * 8192 + p.val * 1024 + q.val % 1024, by omega⟩ ⟨j.val % 128, by omega⟩) := by
  unfold final
  generalize left m c = L at hX
  simp only [hostOps1]
  entry_read
  pointwise
  exact congrFun hX _

theorem u_final (c : Dev nD) : final m c main_v33 = Inproj.result Inproj.u (weights m c) (input m c) := by
  funext y
  rw [eq_ix3 y]
  exact (u_read m _ c (left6 m c) _ _ _).trans (uAt_back _ _ _ _ _ _ _ _ rfl rfl rfl)

/-- A result's entry, read in the array the call leaves. -/
theorem q_read (X : FVec Ideal S6x65536x128 .f32) (c : Dev nD) (hX : left m c (Proc.devRef .tc main_v30_1) = X) (p : Fin 8) (q : Fin 8192) (j : Fin 768) :
    (final m c main_v35 : FVec Ideal S8x8192x768 .f32) (ix3 p q j) = X (ix3 ⟨j.val / 128, by omega⟩ ⟨p.val * 8192 + q.val, by omega⟩ ⟨j.val % 128, by omega⟩) := by
  unfold final
  generalize left m c = L at hX
  simp only [hostOps1]
  entry_read
  pointwise
  exact congrFun hX _

theorem q_final (c : Dev nD) : final m c main_v35 = Inproj.result Inproj.q (weights m c) (input m c) := by
  funext y
  rw [eq_ix3 y]
  exact (q_read m _ c (left7 m c) _ _ _).trans (tileAt_back Inproj.q _ _ _ _ _ _ _ _ rfl rfl rfl)

/-- A result's entry, read in the array the call leaves. -/
theorem k_read (X : FVec Ideal S6x65536x128 .f32) (c : Dev nD) (hX : left m c (Proc.devRef .tc main_v30_2) = X) (p : Fin 8) (q : Fin 8192) (j : Fin 768) :
    (final m c main_v37 : FVec Ideal S8x8192x768 .f32) (ix3 p q j) = X (ix3 ⟨j.val / 128, by omega⟩ ⟨p.val * 8192 + q.val, by omega⟩ ⟨j.val % 128, by omega⟩) := by
  unfold final
  generalize left m c = L at hX
  simp only [hostOps1]
  entry_read
  pointwise
  exact congrFun hX _

theorem k_final (c : Dev nD) : final m c main_v37 = Inproj.result Inproj.k (weights m c) (input m c) := by
  funext y
  rw [eq_ix3 y]
  exact (k_read m _ c (left8 m c) _ _ _).trans (tileAt_back Inproj.k _ _ _ _ _ _ _ _ rfl rfl rfl)

/-- A result's entry, read in the array the call leaves. -/
theorem v_read (X : FVec Ideal S6x65536x128 .f32) (c : Dev nD) (hX : left m c (Proc.devRef .tc main_v30_3) = X) (p : Fin 8) (q : Fin 8192) (j : Fin 768) :
    (final m c main_v39 : FVec Ideal S8x8192x768 .f32) (ix3 p q j) = X (ix3 ⟨j.val / 128, by omega⟩ ⟨p.val * 8192 + q.val, by omega⟩ ⟨j.val % 128, by omega⟩) := by
  unfold final
  generalize left m c = L at hX
  simp only [hostOps1]
  entry_read
  pointwise
  exact congrFun hX _

theorem v_final (c : Dev nD) : final m c main_v39 = Inproj.result Inproj.v (weights m c) (input m c) := by
  funext y
  rw [eq_ix3 y]
  exact (v_read m _ c (left9 m c) _ _ _).trans (tileAt_back Inproj.v _ _ _ _ _ _ _ _ rfl rfl rfl)

theorem slice_read (Y : FVec Ideal S8x8192x1408 .f32) (p : Fin 8) (q : Fin 8192) (j : Fin 1292) :
    extractStridedSlice S8x8192x1292 ![0, 0, 0] Y slices_S8x8192x1408_S8x8192x1292_0_0_0 (ix3 p q j) = Y (ix3 p q ⟨j.val, by omega⟩) := by
  pointwise

theorem cast_read (X : FVec Ideal S65536x1408 .f32) (p : Fin 8) (q : Fin 8192) (j : Fin 1408) :
    shapeCast S8x8192x1408 X shapeCasts_S65536x1408_S8x8192x1408 (ix3 p q j) = X (ix2 ⟨p.val * 8192 + q.val, by omega⟩ j) := by
  pointwise

/-- A result's entry, read in the array the call leaves. -/
theorem d_read (X : FVec Ideal S65536x1408 .f32) (c : Dev nD) (hX : left m c (Proc.devRef .tc main_v30_4) = X) (p : Fin 8) (q : Fin 8192) (j : Fin 1292) :
    (final m c main_v41 : FVec Ideal S8x8192x1292 .f32) (ix3 p q j) = X (ix2 ⟨p.val * 8192 + q.val, by omega⟩ ⟨j.val, by omega⟩) := by
  unfold final
  generalize left m c = L at hX
  simp only [hostOps1]
  entry_read
  refine (slice_read _ p q j).trans ((cast_read _ p q _).trans ?_)
  exact congrFun hX _

theorem d_final (c : Dev nD) : final m c main_v41 = Inproj.result Inproj.d (weights m c) (input m c) := by
  funext y
  rw [eq_ix3 y]
  exact (d_read m _ c (left10 m c) _ _ _).trans (lastAt_back m c _ _ _ _ _ rfl rfl)

/-- The kernel's run: its five results. -/
theorem run : θ_run defs (onTc (τ := τ) (main (F := Ideal))) ⟨m, fun _ => 0, g⟩ (fun r => ∀ c : Dev nD,
      (r.2.mem ((c.tc : Thread nD τ).loc main_v33) = Inproj.result Inproj.u (weights m c) (input m c)
      ∧ r.2.mem ((c.tc : Thread nD τ).loc main_v35) = Inproj.result Inproj.q (weights m c) (input m c)
      ∧ r.2.mem ((c.tc : Thread nD τ).loc main_v37) = Inproj.result Inproj.k (weights m c) (input m c)
      ∧ r.2.mem ((c.tc : Thread nD τ).loc main_v39) = Inproj.result Inproj.v (weights m c) (input m c)
      ∧ r.2.mem ((c.tc : Thread nD τ).loc main_v41) = Inproj.result Inproj.d (weights m c) (input m c))) := by
  run_from (Gen.run_main m g)
  · exact (final_eq m c _).trans (u_final m c)
  · exact (final_eq m c _).trans (q_final m c)
  · exact (final_eq m c _).trans (k_final m c)
  · exact (final_eq m c _).trans (v_final m c)
  · exact (final_eq m c _).trans (d_final m c)

end Cert.Kernel3Ideal.Hand
-- ==== Proof.InprojRef.lean ====
module

public import proofs.«01_k».proof.Proof.Gen.Reference3Ideal.Read
public import proofs.«01_k».proof.Proof.InprojSpec
public import Idealize.ShloMosaic.Lib.Pointwise
public import Idealize.ShloMosaic.Lib.IdealHost

/-! The reference's results read at their coordinates. -/

@[expose] public section

noncomputable section

namespace Cert.Reference3Ideal.Read

open Idealize.ShloMosaic Cert.Reference3Ideal Cert.Reference3Ideal.Gen

variable (x0 : FVec Ideal S8x8192x1024 .f32) (x1 : FVec Ideal S1024 .f32) (x2 : FVec Ideal S1024x8716 .f32)
  (x3 x4 : FVec Ideal S64 .f32)

theorem h_apply (p : Fin 8) (q : Fin 8192) (j : Fin 1024) : (val_main_v12 (F := Ideal) x0 x1 (ix3 p q j) : EReal)
    = Inproj.h (Inproj.Weights.of x1 x2 x3 x4) (Inproj.row x0 p q) j := by
  unfold val_main_v12 val_main_v11 val_main_v10 val_main_v9 val_main_v8 val_main_v7 val_main_v6 val_main_v5 val_main_cst_1 val_main_v4 val_main_v3 val_main_cst_0 val_main_v2 val_main_v1 val_main_cst val_main_v0
  pointwise
  rfl

theorem z_apply (p : Fin 8) (q : Fin 8192) (j : Fin 8716) : (val_main_v13 (F := Ideal) x0 x1 x2 (ix3 p q j) : EReal)
    = Inproj.z (Inproj.Weights.of x1 x2 x3 x4) (Inproj.row x0 p q) j := by
  have hh := h_apply x0 x1 x2 x3 x4 p q
  unfold val_main_v13
  generalize val_main_v12 (F := Ideal) x0 x1 = u at hh
  pointwise
  simp only [hh]
  rfl

theorem u_apply (p : Fin 8) (q : Fin 8192) (j : Fin 512) : (val_main_v14 (F := Ideal) x0 x1 x2 (ix3 p q j) : EReal)
    = Inproj.u (Inproj.Weights.of x1 x2 x3 x4) (Inproj.row x0 p q) j := by
  have hz := z_apply x0 x1 x2 x3 x4 p q
  unfold val_main_v14
  generalize val_main_v13 (F := Ideal) x0 x1 x2 = u at hz
  pointwise
  simp only [hz]
  rfl

theorem u_eq : val_main_v14 (F := Ideal) x0 x1 x2 = Inproj.result Inproj.u (Inproj.Weights.of x1 x2 x3 x4) x0 := by
  funext y
  rw [eq_ix3 y]
  exact u_apply x0 x1 x2 x3 x4 _ _ _

theorem v_apply (p : Fin 8) (q : Fin 8192) (j : Fin 768) : (val_main_v17 (F := Ideal) x0 x1 x2 (ix3 p q j) : EReal)
    = Inproj.v (Inproj.Weights.of x1 x2 x3 x4) (Inproj.row x0 p q) j := by
  have hz := z_apply x0 x1 x2 x3 x4 p q
  unfold val_main_v17
  generalize val_main_v13 (F := Ideal) x0 x1 x2 = u at hz
  pointwise
  simp only [hz]
  rfl

theorem v_eq : val_main_v17 (F := Ideal) x0 x1 x2 = Inproj.result Inproj.v (Inproj.Weights.of x1 x2 x3 x4) x0 := by
  funext y
  rw [eq_ix3 y]
  exact v_apply x0 x1 x2 x3 x4 _ _ _

theorem d_apply (p : Fin 8) (q : Fin 8192) (j : Fin 1292) : (val_main_v18 (F := Ideal) x0 x1 x2 (ix3 p q j) : EReal)
    = Inproj.d (Inproj.Weights.of x1 x2 x3 x4) (Inproj.row x0 p q) j := by
  have hz := z_apply x0 x1 x2 x3 x4 p q
  unfold val_main_v18
  generalize val_main_v13 (F := Ideal) x0 x1 x2 = u at hz
  pointwise
  simp only [hz]
  rfl

theorem d_eq : val_main_v18 (F := Ideal) x0 x1 x2 = Inproj.result Inproj.d (Inproj.Weights.of x1 x2 x3 x4) x0 := by
  funext y
  rw [eq_ix3 y]
  exact d_apply x0 x1 x2 x3 x4 _ _ _

/-- The queries' columns, head by head. -/
theorem qHead_apply (p : Fin 8) (q : Fin 8192) (a : Fin 12) (e : Fin 64) : (val_main_v19 (F := Ideal) x0 x1 x2 (ix4 p q a e) : EReal)
    = Inproj.z (Inproj.Weights.of x1 x2 x3 x4) (Inproj.row x0 p q) ⟨1024 + (a.val * 64 + e.val), by omega⟩ := by
  have hz := z_apply x0 x1 x2 x3 x4 p q
  unfold val_main_v19 val_main_v15
  generalize val_main_v13 (F := Ideal) x0 x1 x2 = u at hz
  pointwise
  exact hz _

/-- The queries' heads, normalised and scaled by the gain. -/
theorem q_apply (p : Fin 8) (q : Fin 8192) (a : Fin 12) (e : Fin 64) : (val_main_v34 (F := Ideal) x0 x1 x2 x3 (ix4 p q a e) : EReal)
    = Inproj.q (Inproj.Weights.of x1 x2 x3 x4) (Inproj.row x0 p q) ⟨a.val * 64 + e.val, by omega⟩ := by
  have hz := qHead_apply x0 x1 x2 x3 x4 p q
  unfold val_main_v34 val_main_v32 val_main_v29 val_main_v28 val_main_v27 val_main_v26 val_main_v24 val_main_v22 val_main_v21 val_main_v20 val_main_cst_2 val_main_v23 val_main_cst_3 val_main_v25 val_main_cst_4 val_main_v31 val_main_v30 val_main_v33 val_main_cst_5
  generalize val_main_v19 (F := Ideal) x0 x1 x2 = u at hz
  pointwise
  simp only [hz]
  unfold Inproj.q Inproj.normed Merge.scale
  have e1 : (a.val * 64 + e.val) / 64 = a.val := by omega
  have e2 : (a.val * 64 + e.val) % 64 = e.val := by omega
  simp only [e1, e2]
  rfl

theorem q_eq : val_main_v49 (F := Ideal) x0 x1 x2 x3 = Inproj.result Inproj.q (Inproj.Weights.of x1 x2 x3 x4) x0 := by
  funext y
  rw [eq_ix3 y]
  have hh := q_apply x0 x1 x2 x3 x4
  unfold val_main_v49
  generalize val_main_v34 (F := Ideal) x0 x1 x2 x3 = u at hh
  pointwise
  refine (hh _ _ _ _).trans ?_
  refine congrArg (Inproj.q _ _) (Fin.ext ?_)
  exact Nat.div_add_mod' _ _

/-- The keys' columns, head by head. -/
theorem kHead_apply (p : Fin 8) (q : Fin 8192) (a : Fin 12) (e : Fin 64) : (val_main_v35 (F := Ideal) x0 x1 x2 (ix4 p q a e) : EReal)
    = Inproj.z (Inproj.Weights.of x1 x2 x3 x4) (Inproj.row x0 p q) ⟨1792 + (a.val * 64 + e.val), by omega⟩ := by
  have hz := z_apply x0 x1 x2 x3 x4 p q
  unfold val_main_v35 val_main_v16
  generalize val_main_v13 (F := Ideal) x0 x1 x2 = u at hz
  pointwise
  exact hz _

/-- The keys' heads, normalised and scaled by the gain. -/
theorem k_apply (p : Fin 8) (q : Fin 8192) (a : Fin 12) (e : Fin 64) : (val_main_v48 (F := Ideal) x0 x1 x2 x4 (ix4 p q a e) : EReal)
    = Inproj.k (Inproj.Weights.of x1 x2 x3 x4) (Inproj.row x0 p q) ⟨a.val * 64 + e.val, by omega⟩ := by
  have hz := kHead_apply x0 x1 x2 x3 x4 p q
  unfold val_main_v48 val_main_v45 val_main_v44 val_main_v43 val_main_v42 val_main_v40 val_main_v38 val_main_v37 val_main_v36 val_main_cst_6 val_main_v39 val_main_cst_7 val_main_v41 val_main_cst_8 val_main_v47 val_main_v46
  generalize val_main_v35 (F := Ideal) x0 x1 x2 = u at hz
  pointwise
  simp only [hz]
  unfold Inproj.k Inproj.normed Merge.scale
  have e1 : (a.val * 64 + e.val) / 64 = a.val := by omega
  have e2 : (a.val * 64 + e.val) % 64 = e.val := by omega
  simp only [e1, e2]
  rfl

theorem k_eq : val_main_v50 (F := Ideal) x0 x1 x2 x4 = Inproj.result Inproj.k (Inproj.Weights.of x1 x2 x3 x4) x0 := by
  funext y
  rw [eq_ix3 y]
  have hh := k_apply x0 x1 x2 x3 x4
  unfold val_main_v50
  generalize val_main_v48 (F := Ideal) x0 x1 x2 x4 = u at hh
  pointwise
  refine (hh _ _ _ _).trans ?_
  refine congrArg (Inproj.k _ _) (Fin.ext ?_)
  exact Nat.div_add_mod' _ _

end Cert.Reference3Ideal.Read
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_decays
public import proofs.«01_k».proof.Proof.FrameBits
public import proofs.«01_k».proof.Proof.Result
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.MergeRows
public import proofs.«01_k».proof.Proof.MergeRef
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.InprojOut
public import proofs.«01_k».proof.Proof.InprojRef
public import Idealize.ShloMosaic.Adequacy
public import Idealize.ShloMosaic.Init

@[expose] public section

noncomputable section

namespace Cert.Proof

open Idealize.ShloMosaic Idealize.SL.Sem Cert.Kernel

theorem algebraic : Cert.algebraic_KernelIdeal_ReferenceIdeal_pre_finite_decays := by
  intro m g m' g' hpre hargs
  have hA : ∀ c, (Cert.KernelIdeal.Hand.args m c).Fin := fun c => Cert.Pre_finite_decays.Hand.fin_of_pre _ _ _ _ _ _ (hpre c)
  refine ⟨fun c => Cert.KernelIdeal.Hand.result (Cert.KernelIdeal.Hand.args m c), Ssd.kernel_run m g hA, ?_⟩
  refine (θ_run Cert.ReferenceIdeal.defs _ _).mono (fun r h c => ⟨?_, (h c).2⟩) (Cert.ReferenceIdeal.Value.run (F := Ideal) m' g')
  refine (h c).1.trans ((Cert.ReferenceIdeal.Read.val_main_v114_eq m' c).trans ?_)
  obtain ⟨e0, e1, e2, e3, e4, e5⟩ := hargs c
  rw [e0, e1, e2, e3, e4, e5]
  exact Ssd.reference_result _ _ _ _ _ _ (hA c)

theorem merge : Cert.algebraic_Kernel2Ideal_Reference2Ideal := by
  intro m g m' g' hpre hargs
  refine ⟨fun c => Merge.result (Cert.Kernel2Ideal.Hand.weights m c) (Cert.Kernel2Ideal.Hand.row m c), ?_, ?_⟩
  · exact (θ_run Cert.Kernel2Ideal.defs _ _).mono (fun r h c => ⟨(h c).1.trans (Cert.Kernel2Ideal.Hand.out_eq m c), (h c).2⟩)
      (Cert.Kernel2Ideal.Value.run_blocks (F := Ideal) m g)
  · refine (θ_run Cert.Reference2Ideal.defs _ _).mono (fun r h c => ⟨?_, (h c).2⟩) (Cert.Reference2Ideal.Value.run (F := Ideal) m' g')
    refine (h c).1.trans ((Cert.Reference2Ideal.Read.val_main_v84_eq m' c).trans ?_)
    obtain ⟨e0, e1, e2, e3, e4, e5, e6, e7, e8, e9, e10, e11, e12⟩ := hargs c
    rw [e0, e1, e2, e3, e4, e5, e6, e7, e8, e9, e10, e11, e12]
    exact Cert.Reference2Ideal.Read.merged _ _ _ _ _ _ _ _ _ _ _ _ _

/-- The merge's reference's run, its counters included. -/
theorem merge_reference_frame : Cert.quiescent_Reference2Ideal := fun m g _ =>
  (θ_run Cert.Reference2Ideal.defs _ _).mono (fun r h => ⟨fun c => (h c).2, Idealize.ShloMosaic.sem_eq_zero_of_no_sems (by decide) r.2⟩)
    (Cert.Reference2Ideal.Value.run (F := Ideal) m g)

/-- The projection's reference's run, its counters included. -/
theorem inproj_reference_frame : Cert.quiescent_Reference3Ideal := fun m g _ =>
  (θ_run Cert.Reference3Ideal.defs _ _).mono (fun r h => ⟨fun c => (h c).2.2.2.2.2, Idealize.ShloMosaic.sem_eq_zero_of_no_sems (by decide) r.2⟩)
    (Cert.Reference3Ideal.Value.run (F := Ideal) m g)

theorem inproj : Cert.algebraic_Kernel3Ideal_Reference3Ideal := by
  intro m g m' g' hpre hargs
  refine ⟨fun c => Inproj.result Inproj.u (Cert.Kernel3Ideal.Hand.weights m c) (Cert.Kernel3Ideal.Hand.input m c),
    fun c => Inproj.result Inproj.q (Cert.Kernel3Ideal.Hand.weights m c) (Cert.Kernel3Ideal.Hand.input m c),
    fun c => Inproj.result Inproj.k (Cert.Kernel3Ideal.Hand.weights m c) (Cert.Kernel3Ideal.Hand.input m c),
    fun c => Inproj.result Inproj.v (Cert.Kernel3Ideal.Hand.weights m c) (Cert.Kernel3Ideal.Hand.input m c),
    fun c => Inproj.result Inproj.d (Cert.Kernel3Ideal.Hand.weights m c) (Cert.Kernel3Ideal.Hand.input m c), ?_, ?_⟩
  · refine (θ_run Cert.Kernel3Ideal.defs _ _).mono (fun r h c => ?_)
      (θ_run_and (Cert.Kernel3Ideal.Hand.run m g) (Cert.Kernel3Ideal.Gen.unchanged (F := Ideal) m g))
    obtain ⟨hu, hq, hk, hv, hd⟩ := h.1 c
    exact ⟨hu, hq, hk, hv, hd, h.2 c⟩
  · refine (θ_run Cert.Reference3Ideal.defs _ _).mono (fun r h c => ?_) (Cert.Reference3Ideal.Value.run (F := Ideal) m' g')
    obtain ⟨hu, hq, hk, hv, hd, hr⟩ := h c
    obtain ⟨e0, e1, e2, e3, e4⟩ := hargs c
    refine ⟨?_, ?_, ?_, ?_, ?_, hr⟩
    · refine hu.trans ((Cert.Reference3Ideal.Read.val_main_v14_eq _ _ _).trans ?_)
      rw [e0, e1, e2]
      exact Cert.Reference3Ideal.Read.u_eq _ _ _ _ _
    · refine hq.trans ((Cert.Reference3Ideal.Read.val_main_v49_eq _ _ _ _).trans ?_)
      rw [e0, e1, e2, e3]
      exact Cert.Reference3Ideal.Read.q_eq _ _ _ _ _
    · refine hk.trans ((Cert.Reference3Ideal.Read.val_main_v50_eq _ _ _ _).trans ?_)
      rw [e0, e1, e2, e4]
      exact Cert.Reference3Ideal.Read.k_eq _ _ _ _ _
    · refine hv.trans ((Cert.Reference3Ideal.Read.val_main_v17_eq _ _ _).trans ?_)
      rw [e0, e1, e2]
      exact Cert.Reference3Ideal.Read.v_eq _ _ _ _ _
    · refine hd.trans ((Cert.Reference3Ideal.Read.val_main_v18_eq _ _ _).trans ?_)
      rw [e0, e1, e2]
      exact Cert.Reference3Ideal.Read.d_eq _ _ _ _ _

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite_decays.Gen.facts,
  fun m g _ => Cert.Kernel.Hand.frame m g, fun m g _ => Cert.KernelIdeal.Hand.frame m g, fun m g _ => Cert.KernelIdeal.Hand.frame m g,
  fun m g _ => Ssd.reference_frame m g, fun m g _ => Ssd.reference_frame m g,
  fun m g _ => Cert.Kernel2.Gen.frame m g, fun m g _ => Cert.Kernel2Ideal.Gen.frame m g, merge_reference_frame,
  fun m g _ => Cert.Kernel3.Gen.frame m g, fun m g _ => Cert.Kernel3Ideal.Gen.frame m g, inproj_reference_frame,
  IdealRules.named_const.statement Cert.KernelIdeal.κ "log2e" .f32 0x3FB8AA3B#32 (((Real.log 2)⁻¹ : ℝ) : EReal) rfl,
  algebraic, trivial, merge, trivial, inproj⟩

end Cert.Proof

end
